-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13)
      ∧ r.2.mem ((c.tc : Thread Cert.Reference.nD Cert.Reference.τ).loc Cert.Reference.main_arg14) = m ((c.tc : Thread Cert.Reference.nD Cert.Reference.τ).loc Cert.Reference.main_arg14)
      ∧ r.2.mem ((c.tc : Thread Cert.Reference.nD Cert.Reference.τ).loc Cert.Reference.main_arg15) = m ((c.tc : Thread Cert.Reference.nD Cert.Reference.τ).loc Cert.Reference.main_arg15)
      ∧ r.2.mem ((c.tc : Thread Cert.Reference.nD Cert.Reference.τ).loc Cert.Reference.main_arg16) = m ((c.tc : Thread Cert.Reference.nD Cert.Reference.τ).loc Cert.Reference.main_arg16)
      ∧ r.2.mem ((c.tc : Thread Cert.Reference.nD Cert.Reference.τ).loc Cert.Reference.main_arg17) = m ((c.tc : Thread Cert.Reference.nD Cert.Reference.τ).loc Cert.Reference.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S1024 : Shape := ⟨1, ![1024]⟩
abbrev S1024x4096 : Shape := ⟨2, ![1024, 4096]⟩
abbrev S128 : Shape := ⟨1, ![128]⟩
abbrev S128x2048 : Shape := ⟨2, ![128, 2048]⟩
abbrev S2048x128 : Shape := ⟨2, ![2048, 128]⟩
abbrev S2048 : Shape := ⟨1, ![2048]⟩
abbrev S2048x1024 : Shape := ⟨2, ![2048, 1024]⟩
abbrev S8192x1024 : Shape := ⟨2, ![8192, 1024]⟩
abbrev S1x1024 : Shape := ⟨2, ![1, 1024]⟩
abbrev S1x128 : Shape := ⟨2, ![1, 128]⟩
abbrev S8192x2048 : Shape := ⟨2, ![8192, 2048]⟩
abbrev S8192x128 : Shape := ⟨2, ![8192, 128]⟩
abbrev S512x1024 : Shape := ⟨2, ![512, 1024]⟩
abbrev S512x2048 : Shape := ⟨2, ![512, 2048]⟩
abbrev S512x128 : Shape := ⟨2, ![512, 128]⟩
abbrev S2x512x128 : Shape := ⟨3, ![2, 512, 128]⟩
abbrev S512 : Shape := ⟨1, ![512]⟩
abbrev S512x1 : Shape := ⟨2, ![512, 1]⟩
abbrev S512x4096 : Shape := ⟨2, ![512, 4096]⟩
abbrev S1x512x128 : Shape := ⟨3, ![1, 512, 128]⟩
abbrev S511x128 : Shape := ⟨2, ![511, 128]⟩
abbrev S2x128 : Shape := ⟨2, ![2, 128]⟩
abbrev S510x128 : Shape := ⟨2, ![510, 128]⟩
abbrev S4x128 : Shape := ⟨2, ![4, 128]⟩
abbrev S508x128 : Shape := ⟨2, ![508, 128]⟩
abbrev S8x128 : Shape := ⟨2, ![8, 128]⟩
abbrev S504x128 : Shape := ⟨2, ![504, 128]⟩
abbrev S16x128 : Shape := ⟨2, ![16, 128]⟩
abbrev S496x128 : Shape := ⟨2, ![496, 128]⟩
abbrev S32x128 : Shape := ⟨2, ![32, 128]⟩
abbrev S480x128 : Shape := ⟨2, ![480, 128]⟩
abbrev S64x128 : Shape := ⟨2, ![64, 128]⟩
abbrev S448x128 : Shape := ⟨2, ![448, 128]⟩
abbrev S128x128 : Shape := ⟨2, ![128, 128]⟩
abbrev S384x128 : Shape := ⟨2, ![384, 128]⟩
abbrev S256x128 : Shape := ⟨2, ![256, 128]⟩
abbrev S1x2048 : Shape := ⟨2, ![1, 2048]⟩

abbrev nBuf : Space → Nat
  | .hbm => 41
  | .vmem => 57
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x4096, .f32⟩
  | .hbm, ⟨3, _⟩ => ⟨S128, .f32⟩
  | .hbm, ⟨4, _⟩ => ⟨S128, .f32⟩
  | .hbm, ⟨5, _⟩ => ⟨S128x2048, .f32⟩
  | .hbm, ⟨6, _⟩ => ⟨S2048x128, .f32⟩
  | .hbm, ⟨7, _⟩ => ⟨S2048, .f32⟩
  | .hbm, ⟨8, _⟩ => ⟨S2048x1024, .f32⟩
  | .hbm, ⟨9, _⟩ => ⟨S1024, .f32⟩
  | .hbm, ⟨10, _⟩ => ⟨S1024x4096, .f32⟩
  | .hbm, ⟨11, _⟩ => ⟨S128, .f32⟩
  | .hbm, ⟨12, _⟩ => ⟨S128, .f32⟩
  | .hbm, ⟨13, _⟩ => ⟨S128x2048, .f32⟩
  | .hbm, ⟨14, _⟩ => ⟨S2048x128, .f32⟩
  | .hbm, ⟨15, _⟩ => ⟨S2048, .f32⟩
  | .hbm, ⟨16, _⟩ => ⟨S2048x1024, .f32⟩
  | .hbm, ⟨17, _⟩ => ⟨S1024, .f32⟩
  | .hbm, ⟨18, _⟩ => ⟨S8192x1024, .f32⟩
  | .hbm, ⟨19, _⟩ => ⟨S2048x128, .f32⟩
  | .hbm, ⟨20, _⟩ => ⟨S2048x128, .f32⟩
  | .hbm, ⟨21, _⟩ => ⟨S128x2048, .f32⟩
  | .hbm, ⟨22, _⟩ => ⟨S128x2048, .f32⟩
  | .hbm, ⟨23, _⟩ => ⟨S1x1024, .f32⟩
  | .hbm, ⟨24, _⟩ => ⟨S1x128, .f32⟩
  | .hbm, ⟨25, _⟩ => ⟨S1x128, .f32⟩
  | .hbm, ⟨26, _⟩ => ⟨S8192x2048, .bf16⟩
  | .hbm, ⟨27, _⟩ => ⟨S8192x2048, .bf16⟩
  | .hbm, ⟨28, _⟩ => ⟨S8192x128, .f32⟩
  | .hbm, ⟨29, _⟩ => ⟨S1x2048, .f32⟩
  | .hbm, ⟨30, _⟩ => ⟨S1x1024, .f32⟩
  | .hbm, ⟨31, _⟩ => ⟨S1x128, .f32⟩
  | .hbm, ⟨32, _⟩ => ⟨S1x128, .f32⟩
  | .hbm, ⟨33, _⟩ => ⟨S8192x1024, .f32⟩
  | .hbm, ⟨34, _⟩ => ⟨S8192x2048, .bf16⟩
  | .hbm, ⟨35, _⟩ => ⟨S8192x2048, .bf16⟩
  | .hbm, ⟨36, _⟩ => ⟨S8192x128, .f32⟩
  | .hbm, ⟨37, _⟩ => ⟨S1x2048, .f32⟩
  | .hbm, ⟨38, _⟩ => ⟨S1x1024, .f32⟩
  | .hbm, ⟨39, _⟩ => ⟨S8192x1024, .f32⟩
  | .hbm, ⟨40, _⟩ => ⟨S2x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .f32⟩
  | .local _ .vmem, ⟨4, _⟩ => ⟨S2048x128, .f32⟩
  | .local _ .vmem, ⟨5, _⟩ => ⟨S1x128, .f32⟩
  | .local _ .vmem, ⟨6, _⟩ => ⟨S1x128, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x128, .f32⟩
  | .local _ .vmem, ⟨13, _⟩ => ⟨S2x512x128, .f32⟩
  | .local _ .vmem, ⟨14, _⟩ => ⟨S1x128, .f32⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x128, .f32⟩
  | .local _ .vmem, ⟨23, _⟩ => ⟨S512x128, .f32⟩
  | .local _ .vmem, ⟨24, _⟩ => ⟨S128x2048, .f32⟩
  | .local _ .vmem, ⟨25, _⟩ => ⟨S1x2048, .f32⟩
  | .local _ .vmem, ⟨26, _⟩ => ⟨S2048x1024, .f32⟩
  | .local _ .vmem, ⟨27, _⟩ => ⟨S1x1024, .f32⟩
  | .local _ .vmem, ⟨28, _⟩ => ⟨S1024x4096, .f32⟩
  | .local _ .vmem, ⟨29, _⟩ => ⟨S2048x128, .f32⟩
  | .local _ .vmem, ⟨30, _⟩ => ⟨S1x128, .f32⟩
  | .local _ .vmem, ⟨31, _⟩ => ⟨S1x128, .f32⟩
  | .local _ .vmem, ⟨32, _⟩ => ⟨S512x1024, .f32⟩
  | .local _ .vmem, ⟨33, _⟩ => ⟨S512x1024, .f32⟩
  | .local _ .vmem, ⟨34, _⟩ => ⟨S512x2048, .bf16⟩
  | .local _ .vmem, ⟨35, _⟩ => ⟨S512x2048, .bf16⟩
  | .local _ .vmem, ⟨36, _⟩ => ⟨S512x2048, .bf16⟩
  | .local _ .vmem, ⟨37, _⟩ => ⟨S512x2048, .bf16⟩
  | .local _ .vmem, ⟨38, _⟩ => ⟨S512x128, .f32⟩
  | .local _ .vmem, ⟨39, _⟩ => ⟨S512x128, .f32⟩
  | .local _ .vmem, ⟨40, _⟩ => ⟨S2x512x128, .f32⟩
  | .local _ .vmem, ⟨41, _⟩ => ⟨S1x128, .f32⟩
  | .local _ .vmem, ⟨42, _⟩ => ⟨S1x128, .f32⟩
  | .local _ .vmem, ⟨43, _⟩ => ⟨S512x1024, .f32⟩
  | .local _ .vmem, ⟨44, _⟩ => ⟨S512x1024, .f32⟩
  | .local _ .vmem, ⟨45, _⟩ => ⟨S512x2048, .bf16⟩
  | .local _ .vmem, ⟨46, _⟩ => ⟨S512x2048, .bf16⟩
  | .local _ .vmem, ⟨47, _⟩ => ⟨S512x2048, .bf16⟩
  | .local _ .vmem, ⟨48, _⟩ => ⟨S512x2048, .bf16⟩
  | .local _ .vmem, ⟨49, _⟩ => ⟨S512x128, .f32⟩
  | .local _ .vmem, ⟨50, _⟩ => ⟨S512x128, .f32⟩
  | .local _ .vmem, ⟨51, _⟩ => ⟨S128x2048, .f32⟩
  | .local _ .vmem, ⟨52, _⟩ => ⟨S1x2048, .f32⟩
  | .local _ .vmem, ⟨53, _⟩ => ⟨S2048x1024, .f32⟩
  | .local _ .vmem, ⟨54, _⟩ => ⟨S1x1024, .f32⟩
  | .local _ .vmem, ⟨55, _⟩ => ⟨S512x1024, .f32⟩
  | .local _ .vmem, ⟨56, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v13_2 : Ref sig .tc := ⟨.hbm, 35, rfl⟩
abbrev main_v13_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc1_scratch0 : Ref sig .tc := ⟨.vmem, 40, rfl⟩
abbrev cc1_scratch1 : Ref sig .tc := ⟨.vmem, 41, rfl⟩
abbrev cc1_scratch2 : Ref sig .tc := ⟨.vmem, 42, rfl⟩
abbrev cc2_stg0_0 : Ref sig .tc := ⟨.vmem, 43, rfl⟩
abbrev cc2_stg0_1 : Ref sig .tc := ⟨.vmem, 44, rfl⟩
abbrev cc2_stg1_0 : Ref sig .tc := ⟨.vmem, 45, rfl⟩
abbrev cc2_stg1_1 : Ref sig .tc := ⟨.vmem, 46, rfl⟩
abbrev cc2_stg2_0 : Ref sig .tc := ⟨.vmem, 47, rfl⟩
abbrev cc2_stg2_1 : Ref sig .tc := ⟨.vmem, 48, rfl⟩
abbrev cc2_stg3_0 : Ref sig .tc := ⟨.vmem, 49, rfl⟩
abbrev cc2_stg3_1 : Ref sig .tc := ⟨.vmem, 50, rfl⟩
abbrev cc2_stg4_0 : Ref sig .tc := ⟨.vmem, 51, rfl⟩
abbrev cc2_stg5_0 : Ref sig .tc := ⟨.vmem, 52, rfl⟩
abbrev cc2_stg6_0 : Ref sig .tc := ⟨.vmem, 53, rfl⟩
abbrev cc2_stg7_0 : Ref sig .tc := ⟨.vmem, 54, rfl⟩
abbrev cc2_stg8_0 : Ref sig .tc := ⟨.vmem, 55, rfl⟩
abbrev cc2_stg8_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem15_1 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem3_1 : DmaSem sig := 44
abbrev cc2_sem4_0 : DmaSem sig := 45
abbrev cc2_sem5_0 : DmaSem sig := 46
abbrev cc2_sem6_0 : DmaSem sig := 47
abbrev cc2_sem7_0 : DmaSem sig := 48
abbrev cc2_sem8_0 : DmaSem sig := 49
abbrev cc2_sem8_1 : DmaSem sig := 50

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c2_i32 : BitVec 32 := 2#32
  let c0_i32_9 : BitVec 32 := 0#32
  let v13 : BitVec 1 := Scalar.cmpi .eq c2_i32 c0_i32_9
  let c1_i32 : BitVec 32 := 1#32
  let v14 : BitVec 32 := Scalar.select v13 c1_i32 c2_i32
  let v15 : BitVec 32 := Scalar.remsi arg0 v14
  let c0_i32_11 : BitVec 32 := 0#32
  let v17 : BitVec 1 := Scalar.cmpi .slt v15 c0_i32_11
  let c0_i32_12 : BitVec 32 := 0#32
  let v18 : BitVec 1 := Scalar.cmpi .slt v14 c0_i32_12
  let v19 : BitVec 1 := Scalar.xori v17 v18
  let c0_i32_10 : BitVec 32 := 0#32
  let v16 : BitVec 1 := Scalar.cmpi .ne v15 c0_i32_10
  let v20 : BitVec 1 := Scalar.andi v19 v16
  let v21 : BitVec 32 := Scalar.addi v15 v14
  let v22 : BitVec 32 := Scalar.select v20 v21 v15
  let v45 : Index := Scalar.indexCast v22
  let c0_21 : Index := 0#32
  let c0_22 : Index := 0#32
  ![v45.toNat, 0, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32_2 : BitVec 32 := 1#32
  let v7 : BitVec 32 := Scalar.subi arg0 c1_i32_2
  let c2_i32 : BitVec 32 := 2#32
  let c0_i32_3 : BitVec 32 := 0#32
  let v8 : BitVec 1 := Scalar.cmpi .eq c2_i32 c0_i32_3
  let c1_i32_4 : BitVec 32 := 1#32
  let v9 : BitVec 32 := Scalar.select v8 c1_i32_4 c2_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v18 : Index := Scalar.indexCast v17
  let c0 : Index := 0#32
  let c0_8 : Index := 0#32
  ![v18.toNat, 0, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![17], ![false]⟩

def k1_cond1 (i : grid1.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k1_off1 (i : grid1.Coords) : Fin 3 → Nat :=
  let arg0 : BitVec 32 := BitVec.ofNat 32 (i 0).val
  let c2_i32 : BitVec 32 := 2#32
  let c0_i32_24 : BitVec 32 := 0#32
  let v36 : BitVec 1 := Scalar.cmpi .eq c2_i32 c0_i32_24
  let c1_i32 : BitVec 32 := 1#32
  let v37 : BitVec 32 := Scalar.select v36 c1_i32 c2_i32
  let v38 : BitVec 32 := Scalar.remsi arg0 v37
  let c0_i32_26 : BitVec 32 := 0#32
  let v40 : BitVec 1 := Scalar.cmpi .slt v38 c0_i32_26
  let c0_i32_27 : BitVec 32 := 0#32
  let v41 : BitVec 1 := Scalar.cmpi .slt v37 c0_i32_27
  let v42 : BitVec 1 := Scalar.xori v40 v41
  let c0_i32_25 : BitVec 32 := 0#32
  let v39 : BitVec 1 := Scalar.cmpi .ne v38 c0_i32_25
  let v43 : BitVec 1 := Scalar.andi v42 v39
  let v44 : BitVec 32 := Scalar.addi v38 v37
  let v45 : BitVec 32 := Scalar.select v43 v44 v38
  let v68 : Index := Scalar.indexCast v45
  let c0_37 : Index := 0#32
  let c0_38 : Index := 0#32
  ![v68.toNat, 0, 0]
def k1_cond2 (i : grid1.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k1_off2 (i : grid1.Coords) : Fin 3 → Nat :=
  let arg0 : BitVec 32 := BitVec.ofNat 32 (i 0).val
  let c1_i32_2 : BitVec 32 := 1#32
  let v7 : BitVec 32 := Scalar.subi arg0 c1_i32_2
  let c2_i32 : BitVec 32 := 2#32
  let c0_i32_3 : BitVec 32 := 0#32
  let v8 : BitVec 1 := Scalar.cmpi .eq c2_i32 c0_i32_3
  let c1_i32_4 : BitVec 32 := 1#32
  let v9 : BitVec 32 := Scalar.select v8 c1_i32_4 c2_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v18 : Index := Scalar.indexCast v17
  let c0 : Index := 0#32
  let c0_8 : Index := 0#32
  ![v18.toNat, 0, 0]
def cc1_transform_0 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_14 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_15 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2048x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x2048 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== Reference.lean ====
abbrev S2x4096x1024 : Shape := ⟨3, ![2, 4096, 1024]⟩
abbrev S1024 : Shape := ⟨1, ![1024]⟩
abbrev S1024x4096 : Shape := ⟨2, ![1024, 4096]⟩
abbrev S128 : Shape := ⟨1, ![128]⟩
abbrev S128x2048 : Shape := ⟨2, ![128, 2048]⟩
abbrev S2048x128 : Shape := ⟨2, ![2048, 128]⟩
abbrev S2048 : Shape := ⟨1, ![2048]⟩
abbrev S2048x1024 : Shape := ⟨2, ![2048, 1024]⟩
abbrev S_ : Shape := ⟨0, ![]⟩
abbrev S2x128 : Shape := ⟨2, ![2, 128]⟩
abbrev S4096x2x1024 : Shape := ⟨3, ![4096, 2, 1024]⟩
abbrev S1x2x1024 : Shape := ⟨3, ![1, 2, 1024]⟩
abbrev S2x1024 : Shape := ⟨2, ![2, 1024]⟩
abbrev S2 : Shape := ⟨1, ![2]⟩
abbrev S2x1 : Shape := ⟨2, ![2, 1]⟩
abbrev S1x1024 : Shape := ⟨2, ![1, 1024]⟩
abbrev S2x4096 : Shape := ⟨2, ![2, 4096]⟩
abbrev S2x2048 : Shape := ⟨2, ![2, 2048]⟩
abbrev S1x128 : Shape := ⟨2, ![1, 128]⟩
abbrev S1x2048 : Shape := ⟨2, ![1, 2048]⟩

abbrev nBuf : Space → Nat
  | .hbm => 281
  | .vmem => 0
  | .smem => 0
  | _ => 0

abbrev hbmTy0_0 (i : Nat) : BufTy := match i % 128 with
  | 0 => ⟨S2x4096x1024, .f32⟩
  | 1 => ⟨S1024, .f32⟩
  | 2 => ⟨S1024x4096, .f32⟩
  | 3 => ⟨S128, .f32⟩
  | 4 => ⟨S128, .f32⟩
  | 5 => ⟨S128x2048, .f32⟩
  | 6 => ⟨S2048x128, .f32⟩
  | 7 => ⟨S2048, .f32⟩
  | 8 => ⟨S2048x1024, .f32⟩
  | 9 => ⟨S1024, .f32⟩
  | 10 => ⟨S1024x4096, .f32⟩
  | 11 => ⟨S128, .f32⟩
  | 12 => ⟨S128, .f32⟩
  | 13 => ⟨S128x2048, .f32⟩
  | 14 => ⟨S2048x128, .f32⟩
  | 15 => ⟨S2048, .f32⟩
  | 16 => ⟨S2048x1024, .f32⟩
  | 17 => ⟨S1024, .f32⟩
  | 18 => ⟨S_, .f32⟩
  | 19 => ⟨S2x128, .f32⟩
  | 20 => ⟨S4096x2x1024, .f32⟩
  | 21 => ⟨S_, .f32⟩
  | 22 => ⟨S4096x2x1024, .f32⟩
  | 23 => ⟨S_, .i32⟩
  | 24 => ⟨S4096x2x1024, .f32⟩
  | 25 => ⟨S1024, .f32⟩
  | 26 => ⟨S1024x4096, .f32⟩
  | 27 => ⟨S128, .f32⟩
  | 28 => ⟨S128, .f32⟩
  | 29 => ⟨S128x2048, .f32⟩
  | 30 => ⟨S2048x128, .f32⟩
  | 31 => ⟨S2048, .f32⟩
  | 32 => ⟨S2048x1024, .f32⟩
  | 33 => ⟨S1024, .f32⟩
  | 34 => ⟨S1024x4096, .f32⟩
  | 35 => ⟨S128, .f32⟩
  | 36 => ⟨S128, .f32⟩
  | 37 => ⟨S128x2048, .f32⟩
  | 38 => ⟨S2048x128, .f32⟩
  | 39 => ⟨S2048, .f32⟩
  | 40 => ⟨S2048x1024, .f32⟩
  | 41 => ⟨S1024, .f32⟩
  | 42 => ⟨S_, .i32⟩
  | 43 => ⟨S2x128, .f32⟩
  | 44 => ⟨S2x128, .f32⟩
  | 45 => ⟨S2x128, .f32⟩
  | 46 => ⟨S2x128, .f32⟩
  | 47 => ⟨S4096x2x1024, .f32⟩
  | 48 => ⟨S_, .i32⟩
  | 49 => ⟨S_, .i1⟩
  | 50 => ⟨S_, .i32⟩
  | 51 => ⟨S_, .i32⟩
  | 52 => ⟨S1x2x1024, .f32⟩
  | 53 => ⟨S2x1024, .f32⟩
  | 54 => ⟨S2x1024, .f32⟩
  | 55 => ⟨S_, .f32⟩
  | 56 => ⟨S2, .f32⟩
  | 57 => ⟨S2x1, .f32⟩
  | 58 => ⟨S_, .f32⟩
  | 59 => ⟨S2x1, .f32⟩
  | 60 => ⟨S2x1, .f32⟩
  | 61 => ⟨S_, .f32⟩
  | 62 => ⟨S2x1, .f32⟩
  | 63 => ⟨S2x1, .f32⟩
  | 64 => ⟨S2x1, .f32⟩
  | 65 => ⟨S2x1024, .f32⟩
  | 66 => ⟨S2x1024, .f32⟩
  | 67 => ⟨S1x1024, .f32⟩
  | 68 => ⟨S2x1024, .f32⟩
  | 69 => ⟨S2x1024, .f32⟩
  | 70 => ⟨S2x4096, .f32⟩
  | 71 => ⟨S2x2048, .f32⟩
  | 72 => ⟨S2x2048, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S2x2048, .f32⟩
  | 82 => ⟨S_, .f32⟩
  | 83 => ⟨S128, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S_, .f32⟩
  | 91 => ⟨S128, .f32⟩
  | 92 => ⟨S128, .f32⟩
  | 93 => ⟨S128, .f32⟩
  | 94 => ⟨S128, .f32⟩
  | 95 => ⟨S_, .f32⟩
  | 96 => ⟨S128, .f32⟩
  | 97 => ⟨S128, .f32⟩
  | 98 => ⟨S_, .f32⟩
  | 99 => ⟨S128, .f32⟩
  | 100 => ⟨S128, .f32⟩
  | 101 => ⟨S2048x128, .f32⟩
  | 102 => ⟨S2x128, .f32⟩
  | 103 => ⟨S1x128, .f32⟩
  | 104 => ⟨S2x128, .f32⟩
  | 105 => ⟨S2x128, .f32⟩
  | 106 => ⟨S128, .f32⟩
  | 107 => ⟨S128, .f32⟩
  | 108 => ⟨S128, .f32⟩
  | 109 => ⟨S1x128, .f32⟩
  | 110 => ⟨S2x128, .f32⟩
  | 111 => ⟨S2x128, .f32⟩
  | 112 => ⟨S2x128, .f32⟩
  | 113 => ⟨S128, .f32⟩
  | 114 => ⟨S1x128, .f32⟩
  | 115 => ⟨S2x128, .f32⟩
  | 116 => ⟨S2x128, .f32⟩
  | 117 => ⟨S2x128, .f32⟩
  | 118 => ⟨S128, .f32⟩
  | 119 => ⟨S1x128, .f32⟩
  | 120 => ⟨S2x128, .f32⟩
  | 121 => ⟨S2x128, .f32⟩
  | 122 => ⟨S128, .f32⟩
  | 123 => ⟨S128, .f32⟩
  | 124 => ⟨S128, .f32⟩
  | 125 => ⟨S_, .f32⟩
  | 126 => ⟨S128, .f32⟩
  | 127 => ⟨S128, .f32⟩
  | _ => ⟨S2x4096x1024, .f32⟩

abbrev hbmTy0_1 (i : Nat) : BufTy := match i % 128 with
  | 0 => ⟨S1x128, .f32⟩
  | 1 => ⟨S2x128, .f32⟩
  | 2 => ⟨S2x128, .f32⟩
  | 3 => ⟨S2x128, .f32⟩
  | 4 => ⟨S128, .f32⟩
  | 5 => ⟨S128, .f32⟩
  | 6 => ⟨S1x128, .f32⟩
  | 7 => ⟨S2x128, .f32⟩
  | 8 => ⟨S2x128, .f32⟩
  | 9 => ⟨S2x128, .f32⟩
  | 10 => ⟨S128x2048, .f32⟩
  | 11 => ⟨S2x2048, .f32⟩
  | 12 => ⟨S1x2048, .f32⟩
  | 13 => ⟨S2x2048, .f32⟩
  | 14 => ⟨S2x2048, .f32⟩
  | 15 => ⟨S2x2048, .f32⟩
  | 16 => ⟨S2x2048, .f32⟩
  | 17 => ⟨S2x2048, .f32⟩
  | 18 => ⟨S_, .f32⟩
  | 19 => ⟨S2x2048, .f32⟩
  | 20 => ⟨S2x2048, .f32⟩
  | 21 => ⟨S_, .f32⟩
  | 22 => ⟨S2x2048, .f32⟩
  | 23 => ⟨S2x2048, .f32⟩
  | 24 => ⟨S2x2048, .f32⟩
  | 25 => ⟨S2x2048, .f32⟩
  | 26 => ⟨S2x1024, .f32⟩
  | 27 => ⟨S2x1024, .f32⟩
  | 28 => ⟨S2x1024, .f32⟩
  | 29 => ⟨S_, .f32⟩
  | 30 => ⟨S2, .f32⟩
  | 31 => ⟨S2x1, .f32⟩
  | 32 => ⟨S_, .f32⟩
  | 33 => ⟨S2x1, .f32⟩
  | 34 => ⟨S2x1, .f32⟩
  | 35 => ⟨S_, .f32⟩
  | 36 => ⟨S2x1, .f32⟩
  | 37 => ⟨S2x1, .f32⟩
  | 38 => ⟨S2x1, .f32⟩
  | 39 => ⟨S2x1024, .f32⟩
  | 40 => ⟨S2x1024, .f32⟩
  | 41 => ⟨S1x1024, .f32⟩
  | 42 => ⟨S2x1024, .f32⟩
  | 43 => ⟨S2x1024, .f32⟩
  | 44 => ⟨S2x4096, .f32⟩
  | 45 => ⟨S2x2048, .f32⟩
  | 46 => ⟨S2x2048, .f32⟩
  | 47 => ⟨S2x2048, .f32⟩
  | 48 => ⟨S2x2048, .f32⟩
  | 49 => ⟨S_, .f32⟩
  | 50 => ⟨S2x2048, .f32⟩
  | 51 => ⟨S2x2048, .f32⟩
  | 52 => ⟨S_, .f32⟩
  | 53 => ⟨S2x2048, .f32⟩
  | 54 => ⟨S2x2048, .f32⟩
  | 55 => ⟨S2x2048, .f32⟩
  | 56 => ⟨S_, .f32⟩
  | 57 => ⟨S128, .f32⟩
  | 58 => ⟨S128, .f32⟩
  | 59 => ⟨S128, .f32⟩
  | 60 => ⟨S128, .f32⟩
  | 61 => ⟨S_, .f32⟩
  | 62 => ⟨S128, .f32⟩
  | 63 => ⟨S128, .f32⟩
  | 64 => ⟨S_, .f32⟩
  | 65 => ⟨S128, .f32⟩
  | 66 => ⟨S128, .f32⟩
  | 67 => ⟨S128, .f32⟩
  | 68 => ⟨S128, .f32⟩
  | 69 => ⟨S_, .f32⟩
  | 70 => ⟨S128, .f32⟩
  | 71 => ⟨S128, .f32⟩
  | 72 => ⟨S_, .f32⟩
  | 73 => ⟨S128, .f32⟩
  | 74 => ⟨S128, .f32⟩
  | 75 => ⟨S2048x128, .f32⟩
  | 76 => ⟨S2x128, .f32⟩
  | 77 => ⟨S1x128, .f32⟩
  | 78 => ⟨S2x128, .f32⟩
  | 79 => ⟨S2x128, .f32⟩
  | 80 => ⟨S128, .f32⟩
  | 81 => ⟨S128, .f32⟩
  | 82 => ⟨S128, .f32⟩
  | 83 => ⟨S1x128, .f32⟩
  | 84 => ⟨S2x128, .f32⟩
  | 85 => ⟨S2x128, .f32⟩
  | 86 => ⟨S2x128, .f32⟩
  | 87 => ⟨S128, .f32⟩
  | 88 => ⟨S1x128, .f32⟩
  | 89 => ⟨S2x128, .f32⟩
  | 90 => ⟨S2x128, .f32⟩
  | 91 => ⟨S2x128, .f32⟩
  | 92 => ⟨S128, .f32⟩
  | 93 => ⟨S1x128, .f32⟩
  | 94 => ⟨S2x128, .f32⟩
  | 95 => ⟨S2x128, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S1x128, .f32⟩
  | 103 => ⟨S2x128, .f32⟩
  | 104 => ⟨S2x128, .f32⟩
  | 105 => ⟨S2x128, .f32⟩
  | 106 => ⟨S128, .f32⟩
  | 107 => ⟨S128, .f32⟩
  | 108 => ⟨S1x128, .f32⟩
  | 109 => ⟨S2x128, .f32⟩
  | 110 => ⟨S2x128, .f32⟩
  | 111 => ⟨S2x128, .f32⟩
  | 112 => ⟨S128x2048, .f32⟩
  | 113 => ⟨S2x2048, .f32⟩
  | 114 => ⟨S1x2048, .f32⟩
  | 115 => ⟨S2x2048, .f32⟩
  | 116 => ⟨S2x2048, .f32⟩
  | 117 => ⟨S2x2048, .f32⟩
  | 118 => ⟨S2x2048, .f32⟩
  | 119 => ⟨S2x2048, .f32⟩
  | 120 => ⟨S_, .f32⟩
  | 121 => ⟨S2x2048, .f32⟩
  | 122 => ⟨S2x2048, .f32⟩
  | 123 => ⟨S_, .f32⟩
  | 124 => ⟨S2x2048, .f32⟩
  | 125 => ⟨S2x2048, .f32⟩
  | 126 => ⟨S2x2048, .f32⟩
  | 127 => ⟨S2x2048, .f32⟩
  | _ => ⟨S2x4096x1024, .f32⟩

abbrev hbmTy0_2 (i : Nat) : BufTy := match i % 128 with
  | 0 => ⟨S2x1024, .f32⟩
  | 1 => ⟨S2x1024, .f32⟩
  | 2 => ⟨S2x1024, .f32⟩
  | 3 => ⟨S_, .f32⟩
  | 4 => ⟨S2, .f32⟩
  | 5 => ⟨S2x1, .f32⟩
  | 6 => ⟨S_, .f32⟩
  | 7 => ⟨S2x1, .f32⟩
  | 8 => ⟨S2x1, .f32⟩
  | 9 => ⟨S_, .f32⟩
  | 10 => ⟨S2x1, .f32⟩
  | 11 => ⟨S2x1, .f32⟩
  | 12 => ⟨S2x1, .f32⟩
  | 13 => ⟨S2x1024, .f32⟩
  | 14 => ⟨S2x1024, .f32⟩
  | 15 => ⟨S1x1024, .f32⟩
  | 16 => ⟨S2x1024, .f32⟩
  | 17 => ⟨S2x1024, .f32⟩
  | 18 => ⟨S1x2x1024, .f32⟩
  | 19 => ⟨S_, .i32⟩
  | 20 => ⟨S_, .i32⟩
  | 21 => ⟨S4096x2x1024, .f32⟩
  | 22 => ⟨S_, .i32⟩
  | 23 => ⟨S_, .i32⟩
  | 24 => ⟨S2x4096x1024, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_c : Ref sig .tc := ⟨.hbm, 23, rfl⟩
abbrev main_v3_0 : Ref sig .tc := ⟨.hbm, 24, rfl⟩
abbrev main_v3_1 : Ref sig .tc := ⟨.hbm, 25, rfl⟩
abbrev main_v3_2 : Ref sig .tc := ⟨.hbm, 26, rfl⟩
abbrev main_v3_3 : Ref sig .tc := ⟨.hbm, 27, rfl⟩
abbrev main_v3_4 : Ref sig .tc := ⟨.hbm, 28, rfl⟩
abbrev main_v3_5 : Ref sig .tc := ⟨.hbm, 29, rfl⟩
abbrev main_v3_6 : Ref sig .tc := ⟨.hbm, 30, rfl⟩
abbrev main_v3_7 : Ref sig .tc := ⟨.hbm, 31, rfl⟩
abbrev main_v3_8 : Ref sig .tc := ⟨.hbm, 32, rfl⟩
abbrev main_v3_9 : Ref sig .tc := ⟨.hbm, 33, rfl⟩
abbrev main_v3_10 : Ref sig .tc := ⟨.hbm, 34, rfl⟩
abbrev main_v3_11 : Ref sig .tc := ⟨.hbm, 35, rfl⟩
abbrev main_v3_12 : Ref sig .tc := ⟨.hbm, 36, rfl⟩
abbrev main_v3_13 : Ref sig .tc := ⟨.hbm, 37, rfl⟩
abbrev main_v3_14 : Ref sig .tc := ⟨.hbm, 38, rfl⟩
abbrev main_v3_15 : Ref sig .tc := ⟨.hbm, 39, rfl⟩
abbrev main_v3_16 : Ref sig .tc := ⟨.hbm, 40, rfl⟩
abbrev main_v3_17 : Ref sig .tc := ⟨.hbm, 41, rfl⟩
abbrev main_v3_18 : Ref sig .tc := ⟨.hbm, 42, rfl⟩
abbrev main_v3_19 : Ref sig .tc := ⟨.hbm, 43, rfl⟩
abbrev main_v3_20 : Ref sig .tc := ⟨.hbm, 44, rfl⟩
abbrev main_v3_21 : Ref sig .tc := ⟨.hbm, 45, rfl⟩
abbrev main_v3_22 : Ref sig .tc := ⟨.hbm, 46, rfl⟩
abbrev main_v3_23 : Ref sig .tc := ⟨.hbm, 47, rfl⟩
abbrev main_while0c_c_24 : Ref sig .tc := ⟨.hbm, 48, rfl⟩
abbrev main_while0c_v5 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_v0 : Ref sig .tc := ⟨.hbm, 52, rfl⟩
abbrev main_while0b_v5 : Ref sig .tc := ⟨.hbm, 53, rfl⟩
abbrev main_while0b_v6 : Ref sig .tc := ⟨.hbm, 54, rfl⟩
abbrev main_while0b_cst_24 : Ref sig .tc := ⟨.hbm, 55, rfl⟩
abbrev main_while0b_v7 : Ref sig .tc := ⟨.hbm, 56, rfl⟩
abbrev main_while0b_v8 : Ref sig .tc := ⟨.hbm, 57, rfl⟩
abbrev main_while0b_cst_25 : Ref sig .tc := ⟨.hbm, 58, rfl⟩
abbrev main_while0b_v9 : Ref sig .tc := ⟨.hbm, 59, rfl⟩
abbrev main_while0b_v10 : Ref sig .tc := ⟨.hbm, 60, rfl⟩
abbrev main_while0b_cst_26 : Ref sig .tc := ⟨.hbm, 61, rfl⟩
abbrev main_while0b_v11 : Ref sig .tc := ⟨.hbm, 62, rfl⟩
abbrev main_while0b_v12 : Ref sig .tc := ⟨.hbm, 63, rfl⟩
abbrev main_while0b_v13 : Ref sig .tc := ⟨.hbm, 64, rfl⟩
abbrev main_while0b_v14 : Ref sig .tc := ⟨.hbm, 65, rfl⟩
abbrev main_while0b_v15 : Ref sig .tc := ⟨.hbm, 66, rfl⟩
abbrev main_while0b_v16 : Ref sig .tc := ⟨.hbm, 67, rfl⟩
abbrev main_while0b_v17 : Ref sig .tc := ⟨.hbm, 68, rfl⟩
abbrev main_while0b_v18 : Ref sig .tc := ⟨.hbm, 69, rfl⟩
abbrev main_while0b_v19 : Ref sig .tc := ⟨.hbm, 70, rfl⟩
abbrev main_while0b_v20 : Ref sig .tc := ⟨.hbm, 71, rfl⟩
abbrev main_while0b_v21 : Ref sig .tc := ⟨.hbm, 72, rfl⟩
abbrev main_while0b_call1_v0 : Ref sig .tc := ⟨.hbm, 73, rfl⟩
abbrev main_while0b_call1_v1 : Ref sig .tc := ⟨.hbm, 74, rfl⟩
abbrev main_while0b_call1_cst : Ref sig .tc := ⟨.hbm, 75, rfl⟩
abbrev main_while0b_call1_v2 : Ref sig .tc := ⟨.hbm, 76, rfl⟩
abbrev main_while0b_call1_v3 : Ref sig .tc := ⟨.hbm, 77, rfl⟩
abbrev main_while0b_call1_cst_0 : Ref sig .tc := ⟨.hbm, 78, rfl⟩
abbrev main_while0b_call1_v4 : Ref sig .tc := ⟨.hbm, 79, rfl⟩
abbrev main_while0b_call1_v5 : Ref sig .tc := ⟨.hbm, 80, rfl⟩
abbrev main_while0b_v22 : Ref sig .tc := ⟨.hbm, 81, rfl⟩
abbrev main_while0b_call2_cst : Ref sig .tc := ⟨.hbm, 82, rfl⟩
abbrev main_while0b_call2_v0 : Ref sig .tc := ⟨.hbm, 83, rfl⟩
abbrev main_while0b_v23 : Ref sig .tc := ⟨.hbm, 84, rfl⟩
abbrev main_while0b_v24 : Ref sig .tc := ⟨.hbm, 85, rfl⟩
abbrev main_while0b_v25 : Ref sig .tc := ⟨.hbm, 86, rfl⟩
abbrev main_while0b_cst_27 : Ref sig .tc := ⟨.hbm, 87, rfl⟩
abbrev main_while0b_v26 : Ref sig .tc := ⟨.hbm, 88, rfl⟩
abbrev main_while0b_v27 : Ref sig .tc := ⟨.hbm, 89, rfl⟩
abbrev main_while0b_cst_28 : Ref sig .tc := ⟨.hbm, 90, rfl⟩
abbrev main_while0b_v28 : Ref sig .tc := ⟨.hbm, 91, rfl⟩
abbrev main_while0b_v29 : Ref sig .tc := ⟨.hbm, 92, rfl⟩
abbrev main_while0b_v30 : Ref sig .tc := ⟨.hbm, 93, rfl⟩
abbrev main_while0b_v31 : Ref sig .tc := ⟨.hbm, 94, rfl⟩
abbrev main_while0b_cst_29 : Ref sig .tc := ⟨.hbm, 95, rfl⟩
abbrev main_while0b_v32 : Ref sig .tc := ⟨.hbm, 96, rfl⟩
abbrev main_while0b_v33 : Ref sig .tc := ⟨.hbm, 97, rfl⟩
abbrev main_while0b_cst_30 : Ref sig .tc := ⟨.hbm, 98, rfl⟩
abbrev main_while0b_v34 : Ref sig .tc := ⟨.hbm, 99, rfl⟩
abbrev main_while0b_v35 : Ref sig .tc := ⟨.hbm, 100, rfl⟩
abbrev main_while0b_v36 : Ref sig .tc := ⟨.hbm, 101, rfl⟩
abbrev main_while0b_v37 : Ref sig .tc := ⟨.hbm, 102, rfl⟩
abbrev main_while0b_v38 : Ref sig .tc := ⟨.hbm, 103, rfl⟩
abbrev main_while0b_v39 : Ref sig .tc := ⟨.hbm, 104, rfl⟩
abbrev main_while0b_v40 : Ref sig .tc := ⟨.hbm, 105, rfl⟩
abbrev main_while0b_v41 : Ref sig .tc := ⟨.hbm, 106, rfl⟩
abbrev main_while0b_v42 : Ref sig .tc := ⟨.hbm, 107, rfl⟩
abbrev main_while0b_v43 : Ref sig .tc := ⟨.hbm, 108, rfl⟩
abbrev main_while0b_v44 : Ref sig .tc := ⟨.hbm, 109, rfl⟩
abbrev main_while0b_v45 : Ref sig .tc := ⟨.hbm, 110, rfl⟩
abbrev main_while0b_v46 : Ref sig .tc := ⟨.hbm, 111, rfl⟩
abbrev main_while0b_v47 : Ref sig .tc := ⟨.hbm, 112, rfl⟩
abbrev main_while0b_v48 : Ref sig .tc := ⟨.hbm, 113, rfl⟩
abbrev main_while0b_v49 : Ref sig .tc := ⟨.hbm, 114, rfl⟩
abbrev main_while0b_v50 : Ref sig .tc := ⟨.hbm, 115, rfl⟩
abbrev main_while0b_v51 : Ref sig .tc := ⟨.hbm, 116, rfl⟩
abbrev main_while0b_v52 : Ref sig .tc := ⟨.hbm, 117, rfl⟩
abbrev main_while0b_v53 : Ref sig .tc := ⟨.hbm, 118, rfl⟩
abbrev main_while0b_v54 : Ref sig .tc := ⟨.hbm, 119, rfl⟩
abbrev main_while0b_v55 : Ref sig .tc := ⟨.hbm, 120, rfl⟩
abbrev main_while0b_v56 : Ref sig .tc := ⟨.hbm, 121, rfl⟩
abbrev main_while0b_v57 : Ref sig .tc := ⟨.hbm, 122, rfl⟩
abbrev main_while0b_v58 : Ref sig .tc := ⟨.hbm, 123, rfl⟩
abbrev main_while0b_v59 : Ref sig .tc := ⟨.hbm, 124, rfl⟩
abbrev main_while0b_cst_31 : Ref sig .tc := ⟨.hbm, 125, rfl⟩
abbrev main_while0b_v60 : Ref sig .tc := ⟨.hbm, 126, rfl⟩
abbrev main_while0b_v61 : Ref sig .tc := ⟨.hbm, 127, rfl⟩
abbrev main_while0b_v62 : Ref sig .tc := ⟨.hbm, 128, rfl⟩
abbrev main_while0b_v63 : Ref sig .tc := ⟨.hbm, 129, rfl⟩
abbrev main_while0b_v64 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_call3_v0 : Ref sig .tc := ⟨.hbm, 144, rfl⟩
abbrev main_while0b_call3_v1 : Ref sig .tc := ⟨.hbm, 145, rfl⟩
abbrev main_while0b_call3_cst : Ref sig .tc := ⟨.hbm, 146, rfl⟩
abbrev main_while0b_call3_v2 : Ref sig .tc := ⟨.hbm, 147, rfl⟩
abbrev main_while0b_call3_v3 : Ref sig .tc := ⟨.hbm, 148, rfl⟩
abbrev main_while0b_call3_cst_0 : Ref sig .tc := ⟨.hbm, 149, rfl⟩
abbrev main_while0b_call3_v4 : Ref sig .tc := ⟨.hbm, 150, rfl⟩
abbrev main_while0b_call3_v5 : Ref sig .tc := ⟨.hbm, 151, rfl⟩
abbrev main_while0b_v78 : Ref sig .tc := ⟨.hbm, 152, rfl⟩
abbrev main_while0b_v79 : Ref sig .tc := ⟨.hbm, 153, rfl⟩
abbrev main_while0b_v80 : Ref sig .tc := ⟨.hbm, 154, rfl⟩
abbrev main_while0b_v81 : Ref sig .tc := ⟨.hbm, 155, rfl⟩
abbrev main_while0b_v82 : Ref sig .tc := ⟨.hbm, 156, rfl⟩
abbrev main_while0b_cst_32 : Ref sig .tc := ⟨.hbm, 157, rfl⟩
abbrev main_while0b_v83 : Ref sig .tc := ⟨.hbm, 158, rfl⟩
abbrev main_while0b_v84 : Ref sig .tc := ⟨.hbm, 159, rfl⟩
abbrev main_while0b_cst_33 : Ref sig .tc := ⟨.hbm, 160, rfl⟩
abbrev main_while0b_v85 : Ref sig .tc := ⟨.hbm, 161, rfl⟩
abbrev main_while0b_v86 : Ref sig .tc := ⟨.hbm, 162, rfl⟩
abbrev main_while0b_cst_34 : Ref sig .tc := ⟨.hbm, 163, rfl⟩
abbrev main_while0b_v87 : Ref sig .tc := ⟨.hbm, 164, rfl⟩
abbrev main_while0b_v88 : Ref sig .tc := ⟨.hbm, 165, rfl⟩
abbrev main_while0b_v89 : Ref sig .tc := ⟨.hbm, 166, rfl⟩
abbrev main_while0b_v90 : Ref sig .tc := ⟨.hbm, 167, rfl⟩
abbrev main_while0b_v91 : Ref sig .tc := ⟨.hbm, 168, rfl⟩
abbrev main_while0b_v92 : Ref sig .tc := ⟨.hbm, 169, rfl⟩
abbrev main_while0b_v93 : Ref sig .tc := ⟨.hbm, 170, rfl⟩
abbrev main_while0b_v94 : Ref sig .tc := ⟨.hbm, 171, rfl⟩
abbrev main_while0b_v95 : Ref sig .tc := ⟨.hbm, 172, rfl⟩
abbrev main_while0b_v96 : Ref sig .tc := ⟨.hbm, 173, rfl⟩
abbrev main_while0b_v97 : Ref sig .tc := ⟨.hbm, 174, rfl⟩
abbrev main_while0b_call4_v0 : Ref sig .tc := ⟨.hbm, 175, rfl⟩
abbrev main_while0b_call4_v1 : Ref sig .tc := ⟨.hbm, 176, rfl⟩
abbrev main_while0b_call4_cst : Ref sig .tc := ⟨.hbm, 177, rfl⟩
abbrev main_while0b_call4_v2 : Ref sig .tc := ⟨.hbm, 178, rfl⟩
abbrev main_while0b_call4_v3 : Ref sig .tc := ⟨.hbm, 179, rfl⟩
abbrev main_while0b_call4_cst_0 : Ref sig .tc := ⟨.hbm, 180, rfl⟩
abbrev main_while0b_call4_v4 : Ref sig .tc := ⟨.hbm, 181, rfl⟩
abbrev main_while0b_call4_v5 : Ref sig .tc := ⟨.hbm, 182, rfl⟩
abbrev main_while0b_v98 : Ref sig .tc := ⟨.hbm, 183, rfl⟩
abbrev main_while0b_call5_cst : Ref sig .tc := ⟨.hbm, 184, rfl⟩
abbrev main_while0b_call5_v0 : Ref sig .tc := ⟨.hbm, 185, rfl⟩
abbrev main_while0b_v99 : Ref sig .tc := ⟨.hbm, 186, rfl⟩
abbrev main_while0b_v100 : Ref sig .tc := ⟨.hbm, 187, rfl⟩
abbrev main_while0b_v101 : Ref sig .tc := ⟨.hbm, 188, rfl⟩
abbrev main_while0b_cst_35 : Ref sig .tc := ⟨.hbm, 189, rfl⟩
abbrev main_while0b_v102 : Ref sig .tc := ⟨.hbm, 190, rfl⟩
abbrev main_while0b_v103 : Ref sig .tc := ⟨.hbm, 191, rfl⟩
abbrev main_while0b_cst_36 : Ref sig .tc := ⟨.hbm, 192, rfl⟩
abbrev main_while0b_v104 : Ref sig .tc := ⟨.hbm, 193, rfl⟩
abbrev main_while0b_v105 : Ref sig .tc := ⟨.hbm, 194, rfl⟩
abbrev main_while0b_v106 : Ref sig .tc := ⟨.hbm, 195, rfl⟩
abbrev main_while0b_v107 : Ref sig .tc := ⟨.hbm, 196, rfl⟩
abbrev main_while0b_cst_37 : Ref sig .tc := ⟨.hbm, 197, rfl⟩
abbrev main_while0b_v108 : Ref sig .tc := ⟨.hbm, 198, rfl⟩
abbrev main_while0b_v109 : Ref sig .tc := ⟨.hbm, 199, rfl⟩
abbrev main_while0b_cst_38 : Ref sig .tc := ⟨.hbm, 200, rfl⟩
abbrev main_while0b_v110 : Ref sig .tc := ⟨.hbm, 201, rfl⟩
abbrev main_while0b_v111 : Ref sig .tc := ⟨.hbm, 202, rfl⟩
abbrev main_while0b_v112 : Ref sig .tc := ⟨.hbm, 203, rfl⟩
abbrev main_while0b_v113 : Ref sig .tc := ⟨.hbm, 204, rfl⟩
abbrev main_while0b_v114 : Ref sig .tc := ⟨.hbm, 205, rfl⟩
abbrev main_while0b_v115 : Ref sig .tc := ⟨.hbm, 206, rfl⟩
abbrev main_while0b_v116 : Ref sig .tc := ⟨.hbm, 207, rfl⟩
abbrev main_while0b_v117 : Ref sig .tc := ⟨.hbm, 208, rfl⟩
abbrev main_while0b_v118 : Ref sig .tc := ⟨.hbm, 209, rfl⟩
abbrev main_while0b_v119 : Ref sig .tc := ⟨.hbm, 210, rfl⟩
abbrev main_while0b_v120 : Ref sig .tc := ⟨.hbm, 211, rfl⟩
abbrev main_while0b_v121 : Ref sig .tc := ⟨.hbm, 212, rfl⟩
abbrev main_while0b_v122 : Ref sig .tc := ⟨.hbm, 213, rfl⟩
abbrev main_while0b_v123 : Ref sig .tc := ⟨.hbm, 214, rfl⟩
abbrev main_while0b_v124 : Ref sig .tc := ⟨.hbm, 215, rfl⟩
abbrev main_while0b_v125 : Ref sig .tc := ⟨.hbm, 216, rfl⟩
abbrev main_while0b_v126 : Ref sig .tc := ⟨.hbm, 217, rfl⟩
abbrev main_while0b_v127 : Ref sig .tc := ⟨.hbm, 218, rfl⟩
abbrev main_while0b_v128 : Ref sig .tc := ⟨.hbm, 219, rfl⟩
abbrev main_while0b_v129 : Ref sig .tc := ⟨.hbm, 220, rfl⟩
abbrev main_while0b_v130 : Ref sig .tc := ⟨.hbm, 221, rfl⟩
abbrev main_while0b_v131 : Ref sig .tc := ⟨.hbm, 222, rfl⟩
abbrev main_while0b_v132 : Ref sig .tc := ⟨.hbm, 223, rfl⟩
abbrev main_while0b_v133 : Ref sig .tc := ⟨.hbm, 224, rfl⟩
abbrev main_while0b_v134 : Ref sig .tc := ⟨.hbm, 225, rfl⟩
abbrev main_while0b_v135 : Ref sig .tc := ⟨.hbm, 226, rfl⟩
abbrev main_while0b_cst_39 : Ref sig .tc := ⟨.hbm, 227, rfl⟩
abbrev main_while0b_v136 : Ref sig .tc := ⟨.hbm, 228, rfl⟩
abbrev main_while0b_v137 : Ref sig .tc := ⟨.hbm, 229, rfl⟩
abbrev main_while0b_v138 : Ref sig .tc := ⟨.hbm, 230, rfl⟩
abbrev main_while0b_v139 : Ref sig .tc := ⟨.hbm, 231, rfl⟩
abbrev main_while0b_v140 : Ref sig .tc := ⟨.hbm, 232, rfl⟩
abbrev main_while0b_v141 : Ref sig .tc := ⟨.hbm, 233, rfl⟩
abbrev main_while0b_v142 : Ref sig .tc := ⟨.hbm, 234, rfl⟩
abbrev main_while0b_v143 : Ref sig .tc := ⟨.hbm, 235, rfl⟩
abbrev main_while0b_v144 : Ref sig .tc := ⟨.hbm, 236, rfl⟩
abbrev main_while0b_v145 : Ref sig .tc := ⟨.hbm, 237, rfl⟩
abbrev main_while0b_v146 : Ref sig .tc := ⟨.hbm, 238, rfl⟩
abbrev main_while0b_v147 : Ref sig .tc := ⟨.hbm, 239, rfl⟩
abbrev main_while0b_v148 : Ref sig .tc := ⟨.hbm, 240, rfl⟩
abbrev main_while0b_v149 : Ref sig .tc := ⟨.hbm, 241, rfl⟩
abbrev main_while0b_v150 : Ref sig .tc := ⟨.hbm, 242, rfl⟩
abbrev main_while0b_v151 : Ref sig .tc := ⟨.hbm, 243, rfl⟩
abbrev main_while0b_v152 : Ref sig .tc := ⟨.hbm, 244, rfl⟩
abbrev main_while0b_v153 : Ref sig .tc := ⟨.hbm, 245, rfl⟩
abbrev main_while0b_call6_v0 : Ref sig .tc := ⟨.hbm, 246, rfl⟩
abbrev main_while0b_call6_v1 : Ref sig .tc := ⟨.hbm, 247, rfl⟩
abbrev main_while0b_call6_cst : Ref sig .tc := ⟨.hbm, 248, rfl⟩
abbrev main_while0b_call6_v2 : Ref sig .tc := ⟨.hbm, 249, rfl⟩
abbrev main_while0b_call6_v3 : Ref sig .tc := ⟨.hbm, 250, rfl⟩
abbrev main_while0b_call6_cst_0 : Ref sig .tc := ⟨.hbm, 251, rfl⟩
abbrev main_while0b_call6_v4 : Ref sig .tc := ⟨.hbm, 252, rfl⟩
abbrev main_while0b_call6_v5 : Ref sig .tc := ⟨.hbm, 253, rfl⟩
abbrev main_while0b_v154 : Ref sig .tc := ⟨.hbm, 254, rfl⟩
abbrev main_while0b_v155 : Ref sig .tc := ⟨.hbm, 255, rfl⟩
abbrev main_while0b_v156 : Ref sig .tc := ⟨.hbm, 256, rfl⟩
abbrev main_while0b_v157 : Ref sig .tc := ⟨.hbm, 257, rfl⟩
abbrev main_while0b_v158 : Ref sig .tc := ⟨.hbm, 258, rfl⟩
abbrev main_while0b_cst_40 : Ref sig .tc := ⟨.hbm, 259, rfl⟩
abbrev main_while0b_v159 : Ref sig .tc := ⟨.hbm, 260, rfl⟩
abbrev main_while0b_v160 : Ref sig .tc := ⟨.hbm, 261, rfl⟩
abbrev main_while0b_cst_41 : Ref sig .tc := ⟨.hbm, 262, rfl⟩
abbrev main_while0b_v161 : Ref sig .tc := ⟨.hbm, 263, rfl⟩
abbrev main_while0b_v162 : Ref sig .tc := ⟨.hbm, 264, rfl⟩
abbrev main_while0b_cst_42 : Ref sig .tc := ⟨.hbm, 265, rfl⟩
abbrev main_while0b_v163 : Ref sig .tc := ⟨.hbm, 266, rfl⟩
abbrev main_while0b_v164 : Ref sig .tc := ⟨.hbm, 267, rfl⟩
abbrev main_while0b_v165 : Ref sig .tc := ⟨.hbm, 268, rfl⟩
abbrev main_while0b_v166 : Ref sig .tc := ⟨.hbm, 269, rfl⟩
abbrev main_while0b_v167 : Ref sig .tc := ⟨.hbm, 270, rfl⟩
abbrev main_while0b_v168 : Ref sig .tc := ⟨.hbm, 271, rfl⟩
abbrev main_while0b_v169 : Ref sig .tc := ⟨.hbm, 272, rfl⟩
abbrev main_while0b_v170 : Ref sig .tc := ⟨.hbm, 273, rfl⟩
abbrev main_while0b_call7_v0 : Ref sig .tc := ⟨.hbm, 274, rfl⟩
abbrev main_while0b_call7_c : Ref sig .tc := ⟨.hbm, 275, rfl⟩
abbrev main_while0b_call7_c_0 : Ref sig .tc := ⟨.hbm, 276, rfl⟩
abbrev main_while0b_v171 : Ref sig .tc := ⟨.hbm, 277, rfl⟩
abbrev main_while0b_c_43 : Ref sig .tc := ⟨.hbm, 278, rfl⟩
abbrev main_while0b_v172 : Ref sig .tc := ⟨.hbm, 279, rfl⟩
abbrev main_v4 : Ref sig .tc := ⟨.hbm, 280, rfl⟩

abbrev nD : Nat := 1
abbrev τ : Topo := Topo.v7x

variable {F : FTy → Type} [FloatOps F]

abbrev main_while0_count : Scf.Loop 32 := ⟨0#32, 4096#32, 1#32⟩
-- ==== Proof.K.Scan.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the two scanning bodies compute, as functions of what they load -/

/-- One scanned chunk of call 0: from the chunk's input, the two channel rows and the two carries, the scanned states and the new carries. -/
def scan0 (v19 : Vec F S1x512x128 .f32) (v21 v23 v617 v618 : Vec F S1x128 .f32) :
    FVec F S512x128 .f32 × FVec F S1x128 .f32 × FVec F S1x128 .f32 :=
  let v20 := k0_pay10 v19
  let v33 := k0_pay13 v21 v23
  let v37 := k0_pay14 v21 v23
  let v38 := k0_pay15 v21 v23
  let v43 := k0_pay16 v21 v23
  let v44 := k0_pay17 v21 v23
  let v46 := k0_pay18 v21 v23
  let v74 := k0_pay26 v20 v33 v37 v44 v46
  let v80 := k0_pay27 v20 v38 v43 v44 v46
  let v83 := k0_pay28 v33 v37 v38
  let v86 := k0_pay29 v33 v37 v43
  let v89 := k0_pay30 v33 v38 v43
  let v92 := k0_pay31 v37 v38 v43
  let v93 := k0_pay32 (F := F)
  let v95 := k0_pay33 v20 v33 v37 v44 v46
  let v132 := k0_pay44 v74 v80 v83 v86 v89 v92 v93 v95
  let v138 := k0_pay45 v74 v80 v83 v86 v89 v92 v93 v95
  let v141 := k0_pay46 v83 v86 v89 v92
  let v144 := k0_pay47 v83 v86 v89 v92
  let v147 := k0_pay48 v83 v86 v89 v92
  let v150 := k0_pay49 v83 v86 v89 v92
  let v151 := k0_pay50 (F := F)
  let v153 := k0_pay51 v74 v80 v83 v86 v89 v92 v93 v95
  let v190 := k0_pay62 v132 v138 v141 v144 v147 v150 v151 v153
  let v196 := k0_pay63 v132 v138 v141 v144 v147 v150 v151 v153
  let v199 := k0_pay64 v141 v144 v147 v150
  let v202 := k0_pay65 v141 v144 v147 v150
  let v205 := k0_pay66 v141 v144 v147 v150
  let v208 := k0_pay67 v141 v144 v147 v150
  let v209 := k0_pay68 (F := F)
  let v211 := k0_pay69 v132 v138 v141 v144 v147 v150 v151 v153
  let v248 := k0_pay80 v190 v196 v199 v202 v205 v208 v209 v211
  let v254 := k0_pay81 v190 v196 v199 v202 v205 v208 v209 v211
  let v257 := k0_pay82 v199 v202 v205 v208
  let v260 := k0_pay83 v199 v202 v205 v208
  let v263 := k0_pay84 v199 v202 v205 v208
  let v266 := k0_pay85 v199 v202 v205 v208
  let v267 := k0_pay86 (F := F)
  let v269 := k0_pay87 v190 v196 v199 v202 v205 v208 v209 v211
  let v306 := k0_pay94 v248 v254 v257 v260 v263 v266 v267 v269
  let v312 := k0_pay95 v248 v254 v257 v260 v263 v266 v267 v269
  let v325 := k0_pay96 v33 v37 v38
  let v326 := k0_pay97 v33 v37 v43
  let v327 := k0_pay98 v33 v38 v43
  let v328 := k0_pay99 v37 v38 v43
  let v361 := k0_pay104 v33 v37 v38 v43 v325 v326
  let v362 := k0_pay105 v33 v37 v38 v43 v325 v326
  let v363 := k0_pay106 v33 v37 v38 v43 v327 v328
  let v364 := k0_pay107 v33 v37 v38 v43 v327 v328
  let v367 := k0_pay108 v33 v37 v38 v43
  let v370 := k0_pay109 v33 v37 v38 v43
  let v373 := k0_pay110 v33 v37 v38 v43
  let v376 := k0_pay111 v33 v37 v38 v43
  let v381 := k0_pay112 v33 v37 v38 v43 v325 v326
  let v386 := k0_pay113 v33 v37 v38 v43 v325 v326
  let v388 := k0_pay114 v33 v37 v38 v43 v327 v328
  let v433 := k0_pay123 v361 v362 v367 v370 v373 v376 v381 v386
  let v434 := k0_pay124 v361 v362 v367 v370 v373 v376 v381 v386
  let v435 := k0_pay125 v363 v364 v367 v370 v373 v376 v388
  let v436 := k0_pay126 v363 v364 v367 v370 v373 v376 v388
  let v439 := k0_pay127 v367 v370 v373 v376
  let v442 := k0_pay128 v367 v370 v373 v376
  let v445 := k0_pay129 v367 v370 v373 v376
  let v448 := k0_pay130 v367 v370 v373 v376
  let v475 := k0_pay135 v439 v442 v445
  let v478 := k0_pay136 v439 v442 v448
  let v481 := k0_pay137 v439 v445 v448
  let v484 := k0_pay138 v442 v445 v448
  let v505 := k0_pay139 v433 v434 v439 v442 v445 v448
  let v506 := k0_pay140 v433 v434 v439 v442 v445 v448
  let v507 := k0_pay141 v435 v436 v439 v442 v445 v448
  let v508 := k0_pay142 v435 v436 v439 v442 v445 v448
  let v541 := k0_pay147 v475 v478 v481 v484 v505 v506
  let v542 := k0_pay148 v475 v478 v481 v484 v505 v506
  let v543 := k0_pay149 v475 v478 v481 v484 v507 v508
  let v544 := k0_pay150 v475 v478 v481 v484 v507 v508
  let v547 := k0_pay151 v475 v478 v481 v484
  let v550 := k0_pay152 v475 v478 v481 v484
  let v553 := k0_pay153 v475 v478 v481 v484
  let v556 := k0_pay154 v475 v478 v481 v484
  let v561 := k0_pay155 v475 v478 v481 v484 v505 v506
  let v566 := k0_pay156 v475 v478 v481 v484 v505 v506
  let v568 := k0_pay157 v475 v478 v481 v484 v507 v508
  let v615 := k0_pay164 v543 v544 v547 v550 v553 v556 v568
  let v616 := k0_pay165 v543 v544 v547 v550 v553 v556 v568
  let v624 := k0_pay166 v306 v541 v542 v547 v550 v553 v556 v561 v566 v617 v618
  (k0_pay2 v312 v615 v616 v617 v618, k0_pay3 v624, k0_pay4 v312 v615 v616 v617 v618)

/-- One scanned chunk of call 1: from the chunk's input, the two channel rows and the two carries, the scanned states and the new carries. -/
def scan1 (v19 : Vec F S1x512x128 .f32) (v21 v23 v617 v618 : Vec F S1x128 .f32) :
    FVec F S512x128 .f32 × FVec F S1x128 .f32 × FVec F S1x128 .f32 :=
  let v20 := k1_pay12 v19
  let v33 := k1_pay15 v21 v23
  let v37 := k1_pay16 v21 v23
  let v38 := k1_pay17 v21 v23
  let v43 := k1_pay18 v21 v23
  let v44 := k1_pay19 v21 v23
  let v46 := k1_pay20 v21 v23
  let v74 := k1_pay28 v20 v33 v37 v44 v46
  let v80 := k1_pay29 v20 v38 v43 v44 v46
  let v83 := k1_pay30 v33 v37 v38
  let v86 := k1_pay31 v33 v37 v43
  let v89 := k1_pay32 v33 v38 v43
  let v92 := k1_pay33 v37 v38 v43
  let v93 := k1_pay34 (F := F)
  let v95 := k1_pay35 v20 v33 v37 v44 v46
  let v132 := k1_pay46 v74 v80 v83 v86 v89 v92 v93 v95
  let v138 := k1_pay47 v74 v80 v83 v86 v89 v92 v93 v95
  let v141 := k1_pay48 v83 v86 v89 v92
  let v144 := k1_pay49 v83 v86 v89 v92
  let v147 := k1_pay50 v83 v86 v89 v92
  let v150 := k1_pay51 v83 v86 v89 v92
  let v151 := k1_pay52 (F := F)
  let v153 := k1_pay53 v74 v80 v83 v86 v89 v92 v93 v95
  let v190 := k1_pay64 v132 v138 v141 v144 v147 v150 v151 v153
  let v196 := k1_pay65 v132 v138 v141 v144 v147 v150 v151 v153
  let v199 := k1_pay66 v141 v144 v147 v150
  let v202 := k1_pay67 v141 v144 v147 v150
  let v205 := k1_pay68 v141 v144 v147 v150
  let v208 := k1_pay69 v141 v144 v147 v150
  let v209 := k1_pay70 (F := F)
  let v211 := k1_pay71 v132 v138 v141 v144 v147 v150 v151 v153
  let v248 := k1_pay82 v190 v196 v199 v202 v205 v208 v209 v211
  let v254 := k1_pay83 v190 v196 v199 v202 v205 v208 v209 v211
  let v257 := k1_pay84 v199 v202 v205 v208
  let v260 := k1_pay85 v199 v202 v205 v208
  let v263 := k1_pay86 v199 v202 v205 v208
  let v266 := k1_pay87 v199 v202 v205 v208
  let v267 := k1_pay88 (F := F)
  let v269 := k1_pay89 v190 v196 v199 v202 v205 v208 v209 v211
  let v306 := k1_pay96 v248 v254 v257 v260 v263 v266 v267 v269
  let v312 := k1_pay97 v248 v254 v257 v260 v263 v266 v267 v269
  let v325 := k1_pay98 v33 v37 v38
  let v326 := k1_pay99 v33 v37 v43
  let v327 := k1_pay100 v33 v38 v43
  let v328 := k1_pay101 v37 v38 v43
  let v361 := k1_pay106 v33 v37 v38 v43 v325 v326
  let v362 := k1_pay107 v33 v37 v38 v43 v325 v326
  let v363 := k1_pay108 v33 v37 v38 v43 v327 v328
  let v364 := k1_pay109 v33 v37 v38 v43 v327 v328
  let v367 := k1_pay110 v33 v37 v38 v43
  let v370 := k1_pay111 v33 v37 v38 v43
  let v373 := k1_pay112 v33 v37 v38 v43
  let v376 := k1_pay113 v33 v37 v38 v43
  let v381 := k1_pay114 v33 v37 v38 v43 v325 v326
  let v386 := k1_pay115 v33 v37 v38 v43 v325 v326
  let v388 := k1_pay116 v33 v37 v38 v43 v327 v328
  let v433 := k1_pay125 v361 v362 v367 v370 v373 v376 v381 v386
  let v434 := k1_pay126 v361 v362 v367 v370 v373 v376 v381 v386
  let v435 := k1_pay127 v363 v364 v367 v370 v373 v376 v388
  let v436 := k1_pay128 v363 v364 v367 v370 v373 v376 v388
  let v439 := k1_pay129 v367 v370 v373 v376
  let v442 := k1_pay130 v367 v370 v373 v376
  let v445 := k1_pay131 v367 v370 v373 v376
  let v448 := k1_pay132 v367 v370 v373 v376
  let v475 := k1_pay137 v439 v442 v445
  let v478 := k1_pay138 v439 v442 v448
  let v481 := k1_pay139 v439 v445 v448
  let v484 := k1_pay140 v442 v445 v448
  let v505 := k1_pay141 v433 v434 v439 v442 v445 v448
  let v506 := k1_pay142 v433 v434 v439 v442 v445 v448
  let v507 := k1_pay143 v435 v436 v439 v442 v445 v448
  let v508 := k1_pay144 v435 v436 v439 v442 v445 v448
  let v541 := k1_pay149 v475 v478 v481 v484 v505 v506
  let v542 := k1_pay150 v475 v478 v481 v484 v505 v506
  let v543 := k1_pay151 v475 v478 v481 v484 v507 v508
  let v544 := k1_pay152 v475 v478 v481 v484 v507 v508
  let v547 := k1_pay153 v475 v478 v481 v484
  let v550 := k1_pay154 v475 v478 v481 v484
  let v553 := k1_pay155 v475 v478 v481 v484
  let v556 := k1_pay156 v475 v478 v481 v484
  let v561 := k1_pay157 v475 v478 v481 v484 v505 v506
  let v566 := k1_pay158 v475 v478 v481 v484 v505 v506
  let v568 := k1_pay159 v475 v478 v481 v484 v507 v508
  let v615 := k1_pay166 v543 v544 v547 v550 v553 v556 v568
  let v616 := k1_pay167 v543 v544 v547 v550 v553 v556 v568
  let v624 := k1_pay168 v306 v541 v542 v547 v550 v553 v556 v561 v566 v617 v618
  (k1_pay6 v312 v615 v616 v617 v618, k1_pay7 v624, k1_pay8 v312 v615 v616 v617 v618)

/-- The slot of the two-slot buffer that a point of call 0 writes: its own parity. -/
theorem k0_off1_eq (i : grid0.Coords) : k0_off1 i = ![(i 0).val % 2, 0, 0] := by
  unfold k0_off1
  generalize i 0 = v
  change Fin 17 at v; revert v
  decide +kernel

/-- The slot of the two-slot buffer that a point of call 0 reads: the other parity. -/
theorem k0_off2_eq (i : grid0.Coords) : k0_off2 i = ![((i 0).val + 1) % 2, 0, 0] := by
  unfold k0_off2
  generalize i 0 = v
  change Fin 17 at v; revert v
  decide +kernel

instance (i : grid0.Coords) : ClosedOff (k0_off1 i) := ⟨![(i 0).val % 2, 0, 0], k0_off1_eq i⟩
instance (i : grid0.Coords) : ClosedOff (k0_off2 i) := ⟨![((i 0).val + 1) % 2, 0, 0], k0_off2_eq i⟩

/-- The slot of the two-slot buffer that a point of call 1 writes: its own parity. -/
theorem k1_off1_eq (i : grid1.Coords) : k1_off1 i = ![(i 0).val % 2, 0, 0] := by
  unfold k1_off1
  generalize i 0 = v
  change Fin 17 at v; revert v
  decide +kernel

/-- The slot of the two-slot buffer that a point of call 1 reads: the other parity. -/
theorem k1_off2_eq (i : grid1.Coords) : k1_off2 i = ![((i 0).val + 1) % 2, 0, 0] := by
  unfold k1_off2
  generalize i 0 = v
  change Fin 17 at v; revert v
  decide +kernel

instance (i : grid1.Coords) : ClosedOff (k1_off1 i) := ⟨![(i 0).val % 2, 0, 0], k1_off1_eq i⟩
instance (i : grid1.Coords) : ClosedOff (k1_off2 i) := ⟨![((i 0).val + 1) % 2, 0, 0], k1_off2_eq i⟩

end Cert.KernelIdeal.Own

end
-- ==== Proof.K.Run0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.K.Scan

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one body of call 0 does, in each case of its grid point -/

/-- The body resets its carries. -/
abbrev reset0 (i : grid0.Coords) : Prop := (Scalar.cmpi .ne (Scalar.extui (Scalar.cmpi .eq (Scalar.select (Scalar.andi (Scalar.xori (Scalar.cmpi .slt (Scalar.remsi (Scalar.subi (BitVec.ofNat 32 (i 0).val) 1#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.subi (BitVec.ofNat 32 (i 0).val) 1#32) (Scalar.select (Scalar.cmpi .eq 8#32 0#32) 1#32 8#32)) 0#32)) (Scalar.addi (Scalar.remsi (Scalar.subi (BitVec.ofNat 32 (i 0).val) 1#32) (Scalar.select (Scalar.cmpi .eq 8#32 0#32) 1#32 8#32)) (Scalar.select (Scalar.cmpi .eq 8#32 0#32) 1#32 8#32)) (Scalar.remsi (Scalar.subi (BitVec.ofNat 32 (i 0).val) 1#32) (Scalar.select (Scalar.cmpi .eq 8#32 0#32) 1#32 8#32))) 0#32)) 0#32) = 1#1

set_option maxHeartbeats 4000000 in
/-- The body of call 0 at the first point: it projects its tile and scans nothing. -/
theorem run0_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .f32) (harg3 : arg3.IsWhole) (arg4 : Memref sig .tc .vmem S2048x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S2x512x128 .f32) (harg10 : arg10.IsWhole) (arg11 : Memref sig .tc .vmem S1x128 .f32) (harg11 : arg11.IsWhole) (arg12 : Memref sig .tc .vmem S1x128 .f32) (harg12 : arg12.IsWhole)
    (hc1 : k0_cond1 i = 1#1) (hc2 : ¬ k0_cond2 i = 1#1)
    (x0 : Vec F S512x1024 .f32) (x1 : Vec F S1x1024 .f32) (x2 : Vec F S1024x4096 .f32) (x3 : Vec F S2048x128 .f32) (x4 : Vec F S1x128 .f32) (x5 : Vec F S1x128 .f32) (x6 : Vec F S512x2048 .bf16) (x7 : Vec F S512x2048 .bf16) (x8 : Vec F S512x128 .f32) (x9 : Vec F S2x512x128 .f32) (x10 : Vec F S1x128 .f32) (x11 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay8 x0 x1 x2) ∗ owns (c : Thread nD τ) arg8 fullShare (k0_pay9 x0 x1 x2) ∗ owns (c : Thread nD τ) arg9 fullShare x8 ∗ owns (c : Thread nD τ) arg10 fullShare (VecWindow.put x9 (k0_off1 i) S1x512x128.size (k0_pay1 (k0_pay5 x3) (k0_pay7 x0 x1 x2))) ∗ owns (c : Thread nD τ) arg11 fullShare x10 ∗ owns (c : Thread nD τ) arg12 fullShare x11) -∗ K ⟨⟩))
    ⊢ wp frame (wpE (defs₀ (F := F)) Variants.none c none) E (cc0__c1_body i arg1 harg1 arg2 harg2 arg3 harg3 arg4 harg4 arg5 harg5 arg6 harg6 arg7 harg7 arg8 harg8 arg9 harg9 arg10 harg10 arg11 harg11 arg12 harg12) K := by
  simp only [cc0__c1_body_eq_skeleton]; unfold cc0__c1_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  simp only [owns_eq_rep]
  iintro ⟨H0, H1, H2, H3, H4, H5, H6, H7, H8, H9, H10, H11, Hk⟩
  sl_exec (disch := first | sl_exact hc1 | sl_exact hc2)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · rw [← owns_eq_rep]; unfold owns; iexists _; isplitr; swap; · iexact H6
    ipureintro; rw [View.read_writes_full]
    refine Eq.trans (b := (k0_pay8 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H7]
  · rw [← owns_eq_rep]; unfold owns; iexists _; isplitr; swap; · iexact H7
    ipureintro; rw [View.read_writes_full]
    refine Eq.trans (b := (k0_pay9 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H8]
  · iexact H8
  isplitl [H9]
  · rw [← owns_eq_rep]; unfold owns; iexists _; isplitr; swap; · iexact H9
    ipureintro; refine Eq.trans (b := VecWindow.put x9 (k0_off1 i) S1x512x128.size (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))) ?_ ?_
    · exact View.read_writes_rep_unit _ _ _ _ rfl
    · rw [show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H10]
  · iexact H10
  iexact H11

set_option maxHeartbeats 4000000 in
/-- The body of call 0 at a point that projects its tile, resets the carries and scans the tile before. -/
theorem run0_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .f32) (harg3 : arg3.IsWhole) (arg4 : Memref sig .tc .vmem S2048x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S2x512x128 .f32) (harg10 : arg10.IsWhole) (arg11 : Memref sig .tc .vmem S1x128 .f32) (harg11 : arg11.IsWhole) (arg12 : Memref sig .tc .vmem S1x128 .f32) (harg12 : arg12.IsWhole)
    (hc1 : k0_cond1 i = 1#1) (hc2 : k0_cond2 i = 1#1) (hc3 : reset0 i)
    (x0 : Vec F S512x1024 .f32) (x1 : Vec F S1x1024 .f32) (x2 : Vec F S1024x4096 .f32) (x3 : Vec F S2048x128 .f32) (x4 : Vec F S1x128 .f32) (x5 : Vec F S1x128 .f32) (x6 : Vec F S512x2048 .bf16) (x7 : Vec F S512x2048 .bf16) (x8 : Vec F S512x128 .f32) (x9 : Vec F S2x512x128 .f32) (x10 : Vec F S1x128 .f32) (x11 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay8 x0 x1 x2) ∗ owns (c : Thread nD τ) arg8 fullShare (k0_pay9 x0 x1 x2) ∗ owns (c : Thread nD τ) arg9 fullShare (scan0 (VecWindow.window (VecWindow.put x9 (k0_off1 i) S1x512x128.size (k0_pay1 (k0_pay5 x3) (k0_pay7 x0 x1 x2))) (k0_off2 i) S1x512x128.size (k0_off2_inb i hc2)) x4 x5 k0_pay19 k0_pay20).1 ∗ owns (c : Thread nD τ) arg10 fullShare (VecWindow.put x9 (k0_off1 i) S1x512x128.size (k0_pay1 (k0_pay5 x3) (k0_pay7 x0 x1 x2))) ∗ owns (c : Thread nD τ) arg11 fullShare (scan0 (VecWindow.window (VecWindow.put x9 (k0_off1 i) S1x512x128.size (k0_pay1 (k0_pay5 x3) (k0_pay7 x0 x1 x2))) (k0_off2 i) S1x512x128.size (k0_off2_inb i hc2)) x4 x5 k0_pay19 k0_pay20).2.1 ∗ owns (c : Thread nD τ) arg12 fullShare (scan0 (VecWindow.window (VecWindow.put x9 (k0_off1 i) S1x512x128.size (k0_pay1 (k0_pay5 x3) (k0_pay7 x0 x1 x2))) (k0_off2 i) S1x512x128.size (k0_off2_inb i hc2)) x4 x5 k0_pay19 k0_pay20).2.2) -∗ K ⟨⟩))
    ⊢ wp frame (wpE (defs₀ (F := F)) Variants.none c none) E (cc0__c1_body i arg1 harg1 arg2 harg2 arg3 harg3 arg4 harg4 arg5 harg5 arg6 harg6 arg7 harg7 arg8 harg8 arg9 harg9 arg10 harg10 arg11 harg11 arg12 harg12) K := by
  simp only [cc0__c1_body_eq_skeleton]; unfold cc0__c1_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  simp only [owns_eq_rep]
  iintro ⟨H0, H1, H2, H3, H4, H5, H6, H7, H8, H9, H10, H11, Hk⟩
  sl_exec (disch := first | sl_exact hc1 | sl_exact hc2 | sl_exact hc3)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · rw [← owns_eq_rep]; unfold owns; iexists _; isplitr; swap; · iexact H6
    ipureintro; rw [View.read_writes_full]
    refine Eq.trans (b := (k0_pay8 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H7]
  · rw [← owns_eq_rep]; unfold owns; iexists _; isplitr; swap; · iexact H7
    ipureintro; rw [View.read_writes_full]
    refine Eq.trans (b := (k0_pay9 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H8]
  · rw [← owns_eq_rep]; unfold owns; iexists _; isplitr; swap; · iexact H8
    ipureintro; rw [View.read_writes_full]
    refine Eq.trans (b := (scan0 (arg10.view.readAt (Elt F) (Rect.unit (s := S2x512x128) (k0_off2 i) S1x512x128.size (k0_off2_inb i hc2)).toLoadRect (arg10.view.writes (Elt F) (arg10.view.rep x9) [⟨Rect.unit (s := S2x512x128) (k0_off1 i) S1x512x128.size (k0_off1_inb i hc1), (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))⟩])) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readCov [⟨Rect.unit (s := S1x128) ![0, 0] S1x128.size inb_S1x128_S1x128_0_0, k0_pay19 (F := F)⟩] (Rect.unit (s := S1x128) ![0, 0] S1x128.size inb_S1x128_S1x128_0_0).toLoadRect) (arg12.view.readCov [⟨Rect.unit (s := S1x128) ![0, 0] S1x128.size inb_S1x128_S1x128_0_0, k0_pay20 (F := F)⟩] (Rect.unit (s := S1x128) ![0, 0] S1x128.size inb_S1x128_S1x128_0_0).toLoadRect)).1) ?_ ?_
    · rfl
    · rw [View.readAt_unit _ _ _ rfl (k0_off2_inb i hc2), View.read_writes_rep_unit _ _ _ _ rfl, show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, View.readCov_full, View.readCov_full]
  isplitl [H9]
  · rw [← owns_eq_rep]; unfold owns; iexists _; isplitr; swap; · iexact H9
    ipureintro; refine Eq.trans (b := VecWindow.put x9 (k0_off1 i) S1x512x128.size (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))) ?_ ?_
    · exact View.read_writes_rep_unit _ _ _ _ rfl
    · rw [show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H10]
  · rw [← owns_eq_rep]; unfold owns; iexists _; isplitr; swap; · iexact H10
    ipureintro; rw [View.read_writes_full]
    refine Eq.trans (b := (scan0 (arg10.view.readAt (Elt F) (Rect.unit (s := S2x512x128) (k0_off2 i) S1x512x128.size (k0_off2_inb i hc2)).toLoadRect (arg10.view.writes (Elt F) (arg10.view.rep x9) [⟨Rect.unit (s := S2x512x128) (k0_off1 i) S1x512x128.size (k0_off1_inb i hc1), (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))⟩])) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readCov [⟨Rect.unit (s := S1x128) ![0, 0] S1x128.size inb_S1x128_S1x128_0_0, k0_pay19 (F := F)⟩] (Rect.unit (s := S1x128) ![0, 0] S1x128.size inb_S1x128_S1x128_0_0).toLoadRect) (arg12.view.readCov [⟨Rect.unit (s := S1x128) ![0, 0] S1x128.size inb_S1x128_S1x128_0_0, k0_pay20 (F := F)⟩] (Rect.unit (s := S1x128) ![0, 0] S1x128.size inb_S1x128_S1x128_0_0).toLoadRect)).2.1) ?_ ?_
    · rfl
    · rw [View.readAt_unit _ _ _ rfl (k0_off2_inb i hc2), View.read_writes_rep_unit _ _ _ _ rfl, show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, View.readCov_full, View.readCov_full]
  rw [← owns_eq_rep]; unfold owns; iexists _; isplitr; swap; · iexact H11
  ipureintro; rw [View.read_writes_full]
  refine Eq.trans (b := (scan0 (arg10.view.readAt (Elt F) (Rect.unit (s := S2x512x128) (k0_off2 i) S1x512x128.size (k0_off2_inb i hc2)).toLoadRect (arg10.view.writes (Elt F) (arg10.view.rep x9) [⟨Rect.unit (s := S2x512x128) (k0_off1 i) S1x512x128.size (k0_off1_inb i hc1), (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))⟩])) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readCov [⟨Rect.unit (s := S1x128) ![0, 0] S1x128.size inb_S1x128_S1x128_0_0, k0_pay19 (F := F)⟩] (Rect.unit (s := S1x128) ![0, 0] S1x128.size inb_S1x128_S1x128_0_0).toLoadRect) (arg12.view.readCov [⟨Rect.unit (s := S1x128) ![0, 0] S1x128.size inb_S1x128_S1x128_0_0, k0_pay20 (F := F)⟩] (Rect.unit (s := S1x128) ![0, 0] S1x128.size inb_S1x128_S1x128_0_0).toLoadRect)).2.2) ?_ ?_
  · rfl
  · rw [View.readAt_unit _ _ _ rfl (k0_off2_inb i hc2), View.read_writes_rep_unit _ _ _ _ rfl, show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, View.readCov_full, View.readCov_full]

set_option maxHeartbeats 4000000 in
/-- The body of call 0 at a point that projects its tile and scans the tile before on from the carries. -/
theorem run0_C (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .f32) (harg3 : arg3.IsWhole) (arg4 : Memref sig .tc .vmem S2048x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S2x512x128 .f32) (harg10 : arg10.IsWhole) (arg11 : Memref sig .tc .vmem S1x128 .f32) (harg11 : arg11.IsWhole) (arg12 : Memref sig .tc .vmem S1x128 .f32) (harg12 : arg12.IsWhole)
    (hc1 : k0_cond1 i = 1#1) (hc2 : k0_cond2 i = 1#1) (hc3 : ¬ reset0 i)
    (x0 : Vec F S512x1024 .f32) (x1 : Vec F S1x1024 .f32) (x2 : Vec F S1024x4096 .f32) (x3 : Vec F S2048x128 .f32) (x4 : Vec F S1x128 .f32) (x5 : Vec F S1x128 .f32) (x6 : Vec F S512x2048 .bf16) (x7 : Vec F S512x2048 .bf16) (x8 : Vec F S512x128 .f32) (x9 : Vec F S2x512x128 .f32) (x10 : Vec F S1x128 .f32) (x11 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay8 x0 x1 x2) ∗ owns (c : Thread nD τ) arg8 fullShare (k0_pay9 x0 x1 x2) ∗ owns (c : Thread nD τ) arg9 fullShare (scan0 (VecWindow.window (VecWindow.put x9 (k0_off1 i) S1x512x128.size (k0_pay1 (k0_pay5 x3) (k0_pay7 x0 x1 x2))) (k0_off2 i) S1x512x128.size (k0_off2_inb i hc2)) x4 x5 x10 x11).1 ∗ owns (c : Thread nD τ) arg10 fullShare (VecWindow.put x9 (k0_off1 i) S1x512x128.size (k0_pay1 (k0_pay5 x3) (k0_pay7 x0 x1 x2))) ∗ owns (c : Thread nD τ) arg11 fullShare (scan0 (VecWindow.window (VecWindow.put x9 (k0_off1 i) S1x512x128.size (k0_pay1 (k0_pay5 x3) (k0_pay7 x0 x1 x2))) (k0_off2 i) S1x512x128.size (k0_off2_inb i hc2)) x4 x5 x10 x11).2.1 ∗ owns (c : Thread nD τ) arg12 fullShare (scan0 (VecWindow.window (VecWindow.put x9 (k0_off1 i) S1x512x128.size (k0_pay1 (k0_pay5 x3) (k0_pay7 x0 x1 x2))) (k0_off2 i) S1x512x128.size (k0_off2_inb i hc2)) x4 x5 x10 x11).2.2) -∗ K ⟨⟩))
    ⊢ wp frame (wpE (defs₀ (F := F)) Variants.none c none) E (cc0__c1_body i arg1 harg1 arg2 harg2 arg3 harg3 arg4 harg4 arg5 harg5 arg6 harg6 arg7 harg7 arg8 harg8 arg9 harg9 arg10 harg10 arg11 harg11 arg12 harg12) K := by
  simp only [cc0__c1_body_eq_skeleton]; unfold cc0__c1_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  simp only [owns_eq_rep]
  iintro ⟨H0, H1, H2, H3, H4, H5, H6, H7, H8, H9, H10, H11, Hk⟩
  sl_exec (disch := first | sl_exact hc1 | sl_exact hc2 | sl_exact hc3)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · rw [← owns_eq_rep]; unfold owns; iexists _; isplitr; swap; · iexact H6
    ipureintro; rw [View.read_writes_full]
    refine Eq.trans (b := (k0_pay8 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H7]
  · rw [← owns_eq_rep]; unfold owns; iexists _; isplitr; swap; · iexact H7
    ipureintro; rw [View.read_writes_full]
    refine Eq.trans (b := (k0_pay9 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H8]
  · rw [← owns_eq_rep]; unfold owns; iexists _; isplitr; swap; · iexact H8
    ipureintro; rw [View.read_writes_full]
    refine Eq.trans (b := (scan0 (arg10.view.readAt (Elt F) (Rect.unit (s := S2x512x128) (k0_off2 i) S1x512x128.size (k0_off2_inb i hc2)).toLoadRect (arg10.view.writes (Elt F) (arg10.view.rep x9) [⟨Rect.unit (s := S2x512x128) (k0_off1 i) S1x512x128.size (k0_off1_inb i hc1), (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))⟩])) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11))).1) ?_ ?_
    · rfl
    · rw [View.readAt_unit _ _ _ rfl (k0_off2_inb i hc2), View.read_writes_rep_unit _ _ _ _ rfl, show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _]
  isplitl [H9]
  · rw [← owns_eq_rep]; unfold owns; iexists _; isplitr; swap; · iexact H9
    ipureintro; refine Eq.trans (b := VecWindow.put x9 (k0_off1 i) S1x512x128.size (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))) ?_ ?_
    · exact View.read_writes_rep_unit _ _ _ _ rfl
    · rw [show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _]
  isplitl [H10]
  · rw [← owns_eq_rep]; unfold owns; iexists _; isplitr; swap; · iexact H10
    ipureintro; rw [View.read_writes_full]
    refine Eq.trans (b := (scan0 (arg10.view.readAt (Elt F) (Rect.unit (s := S2x512x128) (k0_off2 i) S1x512x128.size (k0_off2_inb i hc2)).toLoadRect (arg10.view.writes (Elt F) (arg10.view.rep x9) [⟨Rect.unit (s := S2x512x128) (k0_off1 i) S1x512x128.size (k0_off1_inb i hc1), (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))⟩])) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11))).2.1) ?_ ?_
    · rfl
    · rw [View.readAt_unit _ _ _ rfl (k0_off2_inb i hc2), View.read_writes_rep_unit _ _ _ _ rfl, show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _]
  rw [← owns_eq_rep]; unfold owns; iexists _; isplitr; swap; · iexact H11
  ipureintro; rw [View.read_writes_full]
  refine Eq.trans (b := (scan0 (arg10.view.readAt (Elt F) (Rect.unit (s := S2x512x128) (k0_off2 i) S1x512x128.size (k0_off2_inb i hc2)).toLoadRect (arg10.view.writes (Elt F) (arg10.view.rep x9) [⟨Rect.unit (s := S2x512x128) (k0_off1 i) S1x512x128.size (k0_off1_inb i hc1), (k0_pay1 (k0_pay5 (arg4.view.readAt (Elt F) (Rect.unit (s := S2048x128) ![0, 0] S2048x128.size inb_S2048x128_S2048x128_0_0).toLoadRect (arg4.view.rep x3))) (k0_pay7 (arg1.view.readAt (Elt F) (Rect.unit (s := S512x1024) ![0, 0] S512x1024.size inb_S512x1024_S512x1024_0_0).toLoadRect (arg1.view.rep x0)) (arg2.view.readAt (Elt F) (Rect.unit (s := S1x1024) ![0, 0] S1x1024.size inb_S1x1024_S1x1024_0_0).toLoadRect (arg2.view.rep x1)) (arg3.view.readAt (Elt F) (Rect.unit (s := S1024x4096) ![0, 0] S1024x4096.size inb_S1024x4096_S1024x4096_0_0).toLoadRect (arg3.view.rep x2))))⟩])) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11))).2.2) ?_ ?_
  · rfl
  · rw [View.readAt_unit _ _ _ rfl (k0_off2_inb i hc2), View.read_writes_rep_unit _ _ _ _ rfl, show (arg4.view.readAt (Elt F) (Rect.unit (s := S2048x128) ![0, 0] S2048x128.size inb_S2048x128_S2048x128_0_0).toLoadRect (arg4.view.rep x3)) = x3 from View.readAt_rep_full _ _ _, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S1x1024) ![0, 0] S1x1024.size inb_S1x1024_S1x1024_0_0).toLoadRect (arg2.view.rep x1)) = x1 from View.readAt_rep_full _ _ _, show (arg3.view.readAt (Elt F) (Rect.unit (s := S1024x4096) ![0, 0] S1024x4096.size inb_S1024x4096_S1024x4096_0_0).toLoadRect (arg3.view.rep x2)) = x2 from View.readAt_rep_full _ _ _, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _]

set_option maxHeartbeats 4000000 in
/-- The body of call 0 at the last point: it scans the last tile. -/
theorem run0_D (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .f32) (harg3 : arg3.IsWhole) (arg4 : Memref sig .tc .vmem S2048x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x128 .f32) (harg9 : arg9.IsWhole) (arg10 : Memref sig .tc .vmem S2x512x128 .f32) (harg10 : arg10.IsWhole) (arg11 : Memref sig .tc .vmem S1x128 .f32) (harg11 : arg11.IsWhole) (arg12 : Memref sig .tc .vmem S1x128 .f32) (harg12 : arg12.IsWhole)
    (hc1 : ¬ k0_cond1 i = 1#1) (hc2 : k0_cond2 i = 1#1) (hc3 : ¬ reset0 i)
    (x0 : Vec F S512x1024 .f32) (x1 : Vec F S1x1024 .f32) (x2 : Vec F S1024x4096 .f32) (x3 : Vec F S2048x128 .f32) (x4 : Vec F S1x128 .f32) (x5 : Vec F S1x128 .f32) (x6 : Vec F S512x2048 .bf16) (x7 : Vec F S512x2048 .bf16) (x8 : Vec F S512x128 .f32) (x9 : Vec F S2x512x128 .f32) (x10 : Vec F S1x128 .f32) (x11 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (scan0 (VecWindow.window x9 (k0_off2 i) S1x512x128.size (k0_off2_inb i hc2)) x4 x5 x10 x11).1 ∗ owns (c : Thread nD τ) arg10 fullShare x9 ∗ owns (c : Thread nD τ) arg11 fullShare (scan0 (VecWindow.window x9 (k0_off2 i) S1x512x128.size (k0_off2_inb i hc2)) x4 x5 x10 x11).2.1 ∗ owns (c : Thread nD τ) arg12 fullShare (scan0 (VecWindow.window x9 (k0_off2 i) S1x512x128.size (k0_off2_inb i hc2)) x4 x5 x10 x11).2.2) -∗ K ⟨⟩))
    ⊢ wp frame (wpE (defs₀ (F := F)) Variants.none c none) E (cc0__c1_body i arg1 harg1 arg2 harg2 arg3 harg3 arg4 harg4 arg5 harg5 arg6 harg6 arg7 harg7 arg8 harg8 arg9 harg9 arg10 harg10 arg11 harg11 arg12 harg12) K := by
  simp only [cc0__c1_body_eq_skeleton]; unfold cc0__c1_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  simp only [owns_eq_rep]
  iintro ⟨H0, H1, H2, H3, H4, H5, H6, H7, H8, H9, H10, H11, Hk⟩
  sl_exec (disch := first | sl_exact hc1 | sl_exact hc2 | sl_exact hc3)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · rw [← owns_eq_rep]; unfold owns; iexists _; isplitr; swap; · iexact H8
    ipureintro; rw [View.read_writes_full]
    refine Eq.trans (b := (scan0 (arg10.view.readAt (Elt F) (Rect.unit (s := S2x512x128) (k0_off2 i) S1x512x128.size (k0_off2_inb i hc2)).toLoadRect (arg10.view.rep x9)) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11))).1) ?_ ?_
    · rfl
    · rw [View.readAt_unit _ _ _ rfl (k0_off2_inb i hc2), View.read_rep, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _]
  isplitl [H9]
  · iexact H9
  isplitl [H10]
  · rw [← owns_eq_rep]; unfold owns; iexists _; isplitr; swap; · iexact H10
    ipureintro; rw [View.read_writes_full]
    refine Eq.trans (b := (scan0 (arg10.view.readAt (Elt F) (Rect.unit (s := S2x512x128) (k0_off2 i) S1x512x128.size (k0_off2_inb i hc2)).toLoadRect (arg10.view.rep x9)) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11))).2.1) ?_ ?_
    · rfl
    · rw [View.readAt_unit _ _ _ rfl (k0_off2_inb i hc2), View.read_rep, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _]
  rw [← owns_eq_rep]; unfold owns; iexists _; isplitr; swap; · iexact H11
  ipureintro; rw [View.read_writes_full]
  refine Eq.trans (b := (scan0 (arg10.view.readAt (Elt F) (Rect.unit (s := S2x512x128) (k0_off2 i) S1x512x128.size (k0_off2_inb i hc2)).toLoadRect (arg10.view.rep x9)) (arg5.view.readAt (Elt F) (Rect.unit (s := S1x128) ![0, 0] S1x128.size inb_S1x128_S1x128_0_0).toLoadRect (arg5.view.rep x4)) (arg6.view.readAt (Elt F) (Rect.unit (s := S1x128) ![0, 0] S1x128.size inb_S1x128_S1x128_0_0).toLoadRect (arg6.view.rep x5)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11))).2.2) ?_ ?_
  · rfl
  · rw [View.readAt_unit _ _ _ rfl (k0_off2_inb i hc2), View.read_rep, show (arg5.view.readAt (Elt F) (Rect.unit (s := S1x128) ![0, 0] S1x128.size inb_S1x128_S1x128_0_0).toLoadRect (arg5.view.rep x4)) = x4 from View.readAt_rep_full _ _ _, show (arg6.view.readAt (Elt F) (Rect.unit (s := S1x128) ![0, 0] S1x128.size inb_S1x128_S1x128_0_0).toLoadRect (arg6.view.rep x5)) = x5 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _]

end Cert.KernelIdeal.Own

end
-- ==== Proof.K.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.K.Run0
public import Idealize.ShloMosaic.Lib.Pipeline.Frame

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (r : Ref sig .tc) → Buf (Elt F) ((c : Thread nD τ).loc r))

/-! # Call 0: its points, what its carried buffers hold between them, and its body's obligation -/

/-- Window `w`'s block at point `t`, in the contents the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem coord0 (t : Fin cfg0.N) : (grid0.coords t 0).val = t.val := by
  have ht : t.val < 17 := Nat.lt_of_lt_of_eq t.isLt N_0
  have e0 : (grid0.coords t 0).val = t.val / 1 % 17 := Pipeline.Grid.coords_val t 0 (by decide) rfl
  omega

theorem lt17_0 (t : Fin cfg0.N) : t.val < 17 := Nat.lt_of_lt_of_eq t.isLt N_0

theorem cond1_iff0 (t : Fin cfg0.N) : k0_cond1 (grid0.coords t) = 1#1 ↔ t.val < 16 := by
  have h := coord0 t
  unfold k0_cond1; rw [← h]
  generalize grid0.coords t 0 = v
  change Fin 17 at v; revert v; decide +kernel

theorem cond2_iff0 (t : Fin cfg0.N) : k0_cond2 (grid0.coords t) = 1#1 ↔ 1 ≤ t.val := by
  have h := coord0 t
  unfold k0_cond2; rw [← h]
  generalize grid0.coords t 0 = v
  change Fin 17 at v; revert v; decide +kernel

theorem reset_iff0 (t : Fin cfg0.N) : reset0 (grid0.coords t) ↔ t.val % 8 = 1 := by
  have h := coord0 t
  unfold reset0; rw [← h]
  generalize grid0.coords t 0 = v
  change Fin 17 at v; revert v; decide +kernel

/-- The point numbered `k`. -/
def pt0 (k : ℕ) : Fin cfg0.N := ⟨min k 16, by rw [show cfg0.N = 17 from N_0]; omega⟩

theorem pt0_val (t : Fin cfg0.N) : pt0 t.val = t := by
  have := lt17_0 t; apply Fin.ext; show min t.val 16 = t.val; omega

/-- The point whose tile the call's projections hold at point `t`. -/
def cap0 (t : Fin cfg0.N) : Fin cfg0.N := pt0 (min t.val 15)

theorem cap0_lt (t : Fin cfg0.N) (h : t.val < 16) : cap0 t = t := by
  unfold cap0; rw [show min t.val 15 = t.val from by omega, pt0_val]

/-- What tile `k` feeds the recurrence. -/
def bu0 (c : Dev nD) (k : ℕ) : FVec F S1x512x128 .f32 := k0_pay1 (k0_pay5 (iblk0 V c 3 (pt0 k))) (k0_pay7 (iblk0 V c 0 (pt0 k)) (iblk0 V c 1 (pt0 k)) (iblk0 V c 2 (pt0 k)))

/-- Tile `k`'s scanned rows and the carries it leaves. -/
def out0 (c : Dev nD) : ℕ → FVec F S512x128 .f32 × FVec F S1x128 .f32 × FVec F S1x128 .f32
  | 0 => scan0 (bu0 V c 0) (iblk0 V c 4 (pt0 1)) (iblk0 V c 5 (pt0 1)) k0_pay19 k0_pay20
  | k + 1 => scan0 (bu0 V c (k + 1)) (iblk0 V c 4 (pt0 (k + 2))) (iblk0 V c 5 (pt0 (k + 2)))
      (if (k + 1) % 8 = 0 then k0_pay19 else (out0 c k).2.1) (if (k + 1) % 8 = 0 then k0_pay20 else (out0 c k).2.2)

/-- What the carried buffers hold after `n` points. -/
def good0 (c : Dev nD) (n : ℕ) (g0 : Vec F S2x512x128 .f32) (g1 g2 : Vec F S1x128 .f32) : Prop :=
  (∀ k, n = k + 1 → k < 16 → ∀ (off : Fin S2x512x128.rank → ℕ) (h : ∀ a, off a + S1x512x128.size a ≤ S2x512x128.size a), off = ![k % 2, 0, 0] →
      VecWindow.window g0 off S1x512x128.size h = bu0 V c k)
    ∧ (∀ k, n = k + 2 → g1 = (out0 V c k).2.1 ∧ g2 = (out0 V c k).2.2)

theorem good0_zero (c : Dev nD) (g0 : Vec F S2x512x128 .f32) (g1 g2 : Vec F S1x128 .f32) : good0 V c 0 g0 g1 g2 :=
  ⟨fun k h => by omega, fun k h => by omega⟩

/-- The tile a point projects is the one its half of the buffer holds afterwards. -/
theorem new0 (c : Dev nD) (t : Fin cfg0.N) (x : Vec F S2x512x128 .f32) (k : ℕ) (hk : t.val + 1 = k + 1)
    (off : Fin S2x512x128.rank → ℕ) (h : ∀ a, off a + S1x512x128.size a ≤ S2x512x128.size a) (ho : off = ![k % 2, 0, 0]) :
    VecWindow.window (VecWindow.put x (k0_off1 (grid0.coords t)) S1x512x128.size (k0_pay1 (k0_pay5 (iblk0 V c 3 t)) (k0_pay7 (iblk0 V c 0 t) (iblk0 V c 1 t) (iblk0 V c 2 t)))) off S1x512x128.size h = bu0 V c k := by
  obtain rfl : k = t.val := by omega
  obtain rfl : off = k0_off1 (grid0.coords t) := by rw [ho, k0_off1_eq, coord0]
  rw [VecWindow.window_put_same]
  unfold bu0; rw [pt0_val]

/-- The tile before is what the other half holds. -/
theorem old0 (c : Dev nD) (t : Fin cfg0.N) (ht : 1 ≤ t.val) (g0 : Vec F S2x512x128 .f32) (g1 g2 : Vec F S1x128 .f32)
    (hg : good0 V c t.val g0 g1 g2) (h : ∀ a, k0_off2 (grid0.coords t) a + S1x512x128.size a ≤ S2x512x128.size a) :
    VecWindow.window g0 (k0_off2 (grid0.coords t)) S1x512x128.size h = bu0 V c (t.val - 1) := by
  have := lt17_0 t
  exact hg.1 (t.val - 1) (by omega) (by omega) _ h (by rw [k0_off2_eq, coord0, show (t.val + 1) % 2 = (t.val - 1) % 2 from by omega])

theorem old_put0 (c : Dev nD) (t : Fin cfg0.N) (ht : 1 ≤ t.val) (g0 : Vec F S2x512x128 .f32) (g1 g2 : Vec F S1x128 .f32)
    (hg : good0 V c t.val g0 g1 g2) (w : FVec F S1x512x128 .f32) (h : ∀ a, k0_off2 (grid0.coords t) a + S1x512x128.size a ≤ S2x512x128.size a) :
    VecWindow.window (VecWindow.put g0 (k0_off1 (grid0.coords t)) S1x512x128.size w) (k0_off2 (grid0.coords t)) S1x512x128.size h = bu0 V c (t.val - 1) := by
  rw [VecWindow.window_put_of_disjoint _ _ _ _ _ _ _ (0 : Fin 3) ?_]
  · exact old0 V c t ht g0 g1 g2 hg h
  · rw [k0_off1_eq, k0_off2_eq, coord0]
    show (t.val + 1) % 2 + 1 ≤ t.val % 2 ∨ t.val % 2 + 1 ≤ (t.val + 1) % 2
    omega

theorem pt0_val_pt (k : ℕ) : (pt0 k).val = min k 16 := rfl

theorem scan_reset0 (c : Dev nD) (t : Fin cfg0.N) (ht : t.val % 8 = 1) :
    scan0 (bu0 V c (t.val - 1)) (iblk0 V c 4 t) (iblk0 V c 5 t) k0_pay19 k0_pay20 = out0 V c (t.val - 1) := by
  obtain ⟨k, hk⟩ : ∃ k, t.val = k + 1 := ⟨t.val - 1, by omega⟩
  have hl := lt17_0 t
  rw [← pt0_val t, hk, show (pt0 (k + 1)).val - 1 = k from by show min (k + 1) 16 - 1 = k; omega]
  cases k with
  | zero => rfl
  | succ k => show _ = out0 V c (k + 1); rw [out0, if_pos (by omega), if_pos (by omega)]

theorem scan_carry0 (c : Dev nD) (t : Fin cfg0.N) (ht : 1 ≤ t.val) (hr : ¬ t.val % 8 = 1) (g0 : Vec F S2x512x128 .f32) (g1 g2 : Vec F S1x128 .f32)
    (hg : good0 V c t.val g0 g1 g2) :
    scan0 (bu0 V c (t.val - 1)) (iblk0 V c 4 t) (iblk0 V c 5 t) g1 g2 = out0 V c (t.val - 1) := by
  obtain ⟨k, hk⟩ : ∃ k, t.val = k + 2 := ⟨t.val - 2, by omega⟩
  obtain ⟨h1, h2⟩ := hg.2 k hk
  have hl := lt17_0 t
  rw [h1, h2, ← pt0_val t, hk, show (pt0 (k + 2)).val - 1 = k + 1 from by show min (k + 2) 16 - 1 = k + 1; omega]
  show _ = out0 V c (k + 1); rw [out0, if_neg (by omega), if_neg (by omega)]

/-- A carried buffer, whole. -/
abbrev scM0_0 : Memref sig .tc .vmem S2x512x128 .f32 := Memref.whole cc0_scratch0
/-- A carried buffer, whole. -/
abbrev scM0_1 : Memref sig .tc .vmem S1x128 .f32 := Memref.whole cc0_scratch1
/-- A carried buffer, whole. -/
abbrev scM0_2 : Memref sig .tc .vmem S1x128 .f32 := Memref.whole cc0_scratch2

/-- What is kept between the points of call 0: the carried buffers at good contents, the other calls' buffers and the
    generator's register at anything. -/
def Inv0 (c : Dev nD) (n : ℕ) : sProp 𝕄 :=
  iprop((∃ g0 : Vec F S2x512x128 .f32, ∃ g1 : Vec F S1x128 .f32, ∃ g2 : Vec F S1x128 .f32, ⌜good0 V c n g0 g1 g2⌝
      ∗ owns (c : Thread nD τ) scM0_0 fullShare g0 ∗ owns (c : Thread nD τ) scM0_1 fullShare g1 ∗ owns (c : Thread nD τ) scM0_2 fullShare g2)
    ∗ Pipeline.scopedRestBut (Ix := Unit) (Name := ℕ) (U := UR sig nD τ) (Lvl := ℕ) (Val := Elt F) spec0 c [cc0_scratch0, cc0_scratch1, cc0_scratch2]
    ∗ (∃ r, prngReg c r))

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA; rw [scopedRest0_split]; simp only [scM0_0, scM0_1, scM0_2, owns_whole]; try rfl

/-- The proof data of call 0: the arrays as found; after the body each input's buffer at its block, each projection's at
    its tile's value, the scanned rows' at the tile before's. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay8 (iblk0 V c 0 (cap0 t)) (iblk0 V c 1 (cap0 t)) (iblk0 V c 2 (cap0 t))
    | ⟨7, _⟩ => k0_pay9 (iblk0 V c 0 (cap0 t)) (iblk0 V c 1 (cap0 t)) (iblk0 V c 2 (cap0 t))
    | ⟨8, _⟩ => (out0 V c (t.val - 1)).1
  Φ t := Inv0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay8 (iblk0 V c 0 (cap0 t)) (iblk0 V c 1 (cap0 t)) (iblk0 V c 2 (cap0 t)) := by dsimp only [dat0]
theorem after0_7 (c : Dev nD) (t : Fin cfg0.N) : (dat0 V c).after 7 t = k0_pay9 (iblk0 V c 0 (cap0 t)) (iblk0 V c 1 (cap0 t)) (iblk0 V c 2 (cap0 t)) := by dsimp only [dat0]
theorem after0_8 (c : Dev nD) (t : Fin cfg0.N) : (dat0 V c).after 8 t = (out0 V c (t.val - 1)).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

theorem idle0_6 (t : Fin cfg0.N) : cfg0.idle 6 (cfg0.grid.coords t) = false ↔ t.val < 16 := by
  rw [← cond1_iff0 t]
  show (!(decide (k0_cond1 (grid0.coords t) = 1#1))) = false ↔ _
  simp

theorem flush0_6 (t : Fin cfg0.N) : (cfg0.win 6).flush t = false ↔ t.val = 15 := by
  revert t; decide +kernel

theorem idle0_7 (t : Fin cfg0.N) : cfg0.idle 7 (cfg0.grid.coords t) = false ↔ t.val < 16 := by
  rw [← cond1_iff0 t]
  show (!(decide (k0_cond1 (grid0.coords t) = 1#1))) = false ↔ _
  simp

theorem flush0_7 (t : Fin cfg0.N) : (cfg0.win 7).flush t = false ↔ t.val = 15 := by
  revert t; decide +kernel

theorem idle0_8 (t : Fin cfg0.N) : cfg0.idle 8 (cfg0.grid.coords t) = false ↔ 1 ≤ t.val := by
  rw [← cond2_iff0 t]
  show (!(decide (k0_cond2 (grid0.coords t) = 1#1))) = false ↔ _
  simp

theorem flush0_8 (t : Fin cfg0.N) : (cfg0.win 8).flush t = false ↔ t.val = 0 := by
  revert t; decide +kernel

/-- At the last point the buffer holds what the point before left. -/
theorem kept0_6 (c : Dev nD) (t : Fin cfg0.N) (ht : t.val = 16) (d) : (dat0 V c).before 6 t d = (dat0 V c).after 6 t := by
  rw [(dat0 V c).before_of_pos 6 t (by omega) ((cfg0.win 6).fetch_out rfl t), (flush0_6 _).mpr (by show t.val - 1 = 15; omega), if_neg Bool.false_ne_true]
  unfold Dat.left
  rw [(idle0_6 _).mpr (by show t.val - 1 < 16; omega)]
  unfold Dat.kept
  rw [Pipeline.fill_of_clip_none 6 _ (fun _ => rfl) d ((dat0 V c).after 6 _), Window.fill_cut]
  rw [after0_6, after0_6, show cap0 ⟨t.val - 1, Nat.lt_of_le_of_lt (Nat.sub_le _ _) t.isLt⟩ = cap0 t from by
    unfold cap0; rw [show min (t.val - 1) 15 = min t.val 15 from by omega]]

/-- At the last point the buffer holds what the point before left. -/
theorem kept0_7 (c : Dev nD) (t : Fin cfg0.N) (ht : t.val = 16) (d) : (dat0 V c).before 7 t d = (dat0 V c).after 7 t := by
  rw [(dat0 V c).before_of_pos 7 t (by omega) ((cfg0.win 7).fetch_out rfl t), (flush0_7 _).mpr (by show t.val - 1 = 15; omega), if_neg Bool.false_ne_true]
  unfold Dat.left
  rw [(idle0_7 _).mpr (by show t.val - 1 < 16; omega)]
  unfold Dat.kept
  rw [Pipeline.fill_of_clip_none 7 _ (fun _ => rfl) d ((dat0 V c).after 7 _), Window.fill_cut]
  rw [after0_7, after0_7, show cap0 ⟨t.val - 1, Nat.lt_of_le_of_lt (Nat.sub_le _ _) t.isLt⟩ = cap0 t from by
    unfold cap0; rw [show min (t.val - 1) 15 = min t.val 15 from by omega]]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (dat0 V c).leavesExact 6 t
    ∗ (dat0 V c).leavesExact 7 t
    ∗ (dat0 V c).leavesExact 8 t)

set_option maxHeartbeats 4000000 in
/-- At the first point. -/
theorem sound0_A (c : Dev nD) (t : Fin cfg0.N) (h0 : t.val = 0) :
    bodyPre0 V c t ⊢ wp frame (wpE (defs₀ (F := F)) Variants.none c none) Set.univ (bodyAt0 t) (fun _ => bodyPost0 V c t) := by
  have c1 : k0_cond1 (grid0.coords t) = 1#1 := (cond1_iff0 t).mpr (by omega)
  have c2 : ¬ k0_cond2 (grid0.coords t) = 1#1 := fun h => absurd ((cond2_iff0 t).mp h) (by omega)
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Inv0 V c (t.val + 1) from rfl, show (dat0 V c).Φ t.castSucc = Inv0 V c t.val from rfl]
  rw [after0_0, after0_1, after0_2, after0_3, after0_4, after0_5]
  rw [show (dat0 V c).leavesExact 6 t = owns (c : Thread nD τ) (st0_6 t) fullShare ((dat0 V c).after 6 t) from by unfold Dat.leavesExact; rw [(idle0_6 t).mpr (by omega)], after0_6]
  rw [show (dat0 V c).leavesExact 7 t = owns (c : Thread nD τ) (st0_7 t) fullShare ((dat0 V c).after 7 t) from by unfold Dat.leavesExact; rw [(idle0_7 t).mpr (by omega)], after0_7]
  rw [cap0_lt t (by omega)]
  have i8 : cfg0.idle 8 (cfg0.grid.coords t) = true := by
    by_contra h; exact absurd ((idle0_8 t).mp (by simpa using h)) (by omega)
  rw [show (dat0 V c).leavesExact 8 t = iprop(∃ d, owns (c : Thread nD τ) (st0_8 t) fullShare ((dat0 V c).before 8 t d)) from by unfold Dat.leavesExact; rw [i8, (flush0_8 t).mpr h0]]
  unfold Inv0
  iintro ⟨⟨⟨%g0, %g1, %g2, %hg, G0, G1, G2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run0_A c (grid0.coords t) _ _ _ _ _ _ _ _ _ _ _ _ _ _ _ _ _ _ _ _ _ _ _ _ c1 c2 (iblk0 V c 0 t) (iblk0 V c 1 t) (iblk0 V c 2 t) (iblk0 V c 3 t) (iblk0 V c 4 t) (iblk0 V c 5 t) ((dat0 V c).before 6 t d6) ((dat0 V c).before 7 t d7) ((dat0 V c).before 8 t d8) g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  iintro ⟨H0, H1, H2, H3, H4, H5, H6, H7, H8, G0, G1, G2⟩
  isplitl [G0 G1 G2 HR Hg]
  · isplitl [G0 G1 G2]
    · iexists _; iexists _; iexists _
      isplitr
      swap
      · isplitl [G0]; · iexact G0
        isplitl [G1]; · iexact G1
        iexact G2
      ipureintro
      refine ⟨fun k hk hk' off h ho => new0 V c t g0 k hk off h ho, fun k hk => ?_⟩
      omega
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4000000 in
/-- At a point that begins a sequence. -/
theorem sound0_B (c : Dev nD) (t : Fin cfg0.N) (h1 : t.val < 16) (h2 : 1 ≤ t.val) (h3 : t.val % 8 = 1) :
    bodyPre0 V c t ⊢ wp frame (wpE (defs₀ (F := F)) Variants.none c none) Set.univ (bodyAt0 t) (fun _ => bodyPost0 V c t) := by
  have c1 : k0_cond1 (grid0.coords t) = 1#1 := (cond1_iff0 t).mpr (by omega)
  have c2 : k0_cond2 (grid0.coords t) = 1#1 := (cond2_iff0 t).mpr (by omega)
  have c3 : reset0 (grid0.coords t) := (reset_iff0 t).mpr h3
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Inv0 V c (t.val + 1) from rfl, show (dat0 V c).Φ t.castSucc = Inv0 V c t.val from rfl]
  rw [after0_0, after0_1, after0_2, after0_3, after0_4, after0_5]
  rw [show (dat0 V c).leavesExact 6 t = owns (c : Thread nD τ) (st0_6 t) fullShare ((dat0 V c).after 6 t) from by unfold Dat.leavesExact; rw [(idle0_6 t).mpr (by omega)], after0_6]
  rw [show (dat0 V c).leavesExact 7 t = owns (c : Thread nD τ) (st0_7 t) fullShare ((dat0 V c).after 7 t) from by unfold Dat.leavesExact; rw [(idle0_7 t).mpr (by omega)], after0_7]
  rw [cap0_lt t (by omega)]
  rw [show (dat0 V c).leavesExact 8 t = owns (c : Thread nD τ) (st0_8 t) fullShare ((dat0 V c).after 8 t) from by unfold Dat.leavesExact; rw [(idle0_8 t).mpr (by omega)], after0_8]
  unfold Inv0
  iintro ⟨⟨⟨%g0, %g1, %g2, %hg, G0, G1, G2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hS : scan0 (VecWindow.window (VecWindow.put g0 (k0_off1 (grid0.coords t)) S1x512x128.size (k0_pay1 (k0_pay5 (iblk0 V c 3 t)) (k0_pay7 (iblk0 V c 0 t) (iblk0 V c 1 t) (iblk0 V c 2 t)))) (k0_off2 (grid0.coords t)) S1x512x128.size (k0_off2_inb (grid0.coords t) c2)) (iblk0 V c 4 t) (iblk0 V c 5 t) k0_pay19 k0_pay20 = out0 V c (t.val - 1) := by
    rw [old_put0 V c t h2 g0 g1 g2 hg]; exact scan_reset0 V c t h3
  iapply (run0_B c (grid0.coords t) _ _ _ _ _ _ _ _ _ _ _ _ _ _ _ _ _ _ _ _ _ _ _ _ c1 c2 c3 (iblk0 V c 0 t) (iblk0 V c 1 t) (iblk0 V c 2 t) (iblk0 V c 3 t) (iblk0 V c 4 t) (iblk0 V c 5 t) ((dat0 V c).before 6 t d6) ((dat0 V c).before 7 t d7) ((dat0 V c).before 8 t d8) g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  iintro ⟨H0, H1, H2, H3, H4, H5, H6, H7, H8, G0, G1, G2⟩
  isplitl [G0 G1 G2 HR Hg]
  · isplitl [G0 G1 G2]
    · iexists _; iexists _; iexists _
      isplitr
      swap
      · isplitl [G0]; · iexact G0
        isplitl [G1]; · iexact G1
        iexact G2
      ipureintro
      refine ⟨fun k hk hk' off h ho => new0 V c t g0 k hk off h ho, fun k hk => ?_⟩
      obtain rfl : k = t.val - 1 := by omega
      rw [hS]; exact ⟨rfl, rfl⟩
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← hS]; iexact H8

set_option maxHeartbeats 4000000 in
/-- At any other point that projects and scans. -/
theorem sound0_C (c : Dev nD) (t : Fin cfg0.N) (h1 : t.val < 16) (h2 : 1 ≤ t.val) (h3 : ¬ t.val % 8 = 1) :
    bodyPre0 V c t ⊢ wp frame (wpE (defs₀ (F := F)) Variants.none c none) Set.univ (bodyAt0 t) (fun _ => bodyPost0 V c t) := by
  have c1 : k0_cond1 (grid0.coords t) = 1#1 := (cond1_iff0 t).mpr (by omega)
  have c2 : k0_cond2 (grid0.coords t) = 1#1 := (cond2_iff0 t).mpr (by omega)
  have c3 : ¬ reset0 (grid0.coords t) := fun h => h3 ((reset_iff0 t).mp h)
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Inv0 V c (t.val + 1) from rfl, show (dat0 V c).Φ t.castSucc = Inv0 V c t.val from rfl]
  rw [after0_0, after0_1, after0_2, after0_3, after0_4, after0_5]
  rw [show (dat0 V c).leavesExact 6 t = owns (c : Thread nD τ) (st0_6 t) fullShare ((dat0 V c).after 6 t) from by unfold Dat.leavesExact; rw [(idle0_6 t).mpr (by omega)], after0_6]
  rw [show (dat0 V c).leavesExact 7 t = owns (c : Thread nD τ) (st0_7 t) fullShare ((dat0 V c).after 7 t) from by unfold Dat.leavesExact; rw [(idle0_7 t).mpr (by omega)], after0_7]
  rw [cap0_lt t (by omega)]
  rw [show (dat0 V c).leavesExact 8 t = owns (c : Thread nD τ) (st0_8 t) fullShare ((dat0 V c).after 8 t) from by unfold Dat.leavesExact; rw [(idle0_8 t).mpr (by omega)], after0_8]
  unfold Inv0
  iintro ⟨⟨⟨%g0, %g1, %g2, %hg, G0, G1, G2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hS : scan0 (VecWindow.window (VecWindow.put g0 (k0_off1 (grid0.coords t)) S1x512x128.size (k0_pay1 (k0_pay5 (iblk0 V c 3 t)) (k0_pay7 (iblk0 V c 0 t) (iblk0 V c 1 t) (iblk0 V c 2 t)))) (k0_off2 (grid0.coords t)) S1x512x128.size (k0_off2_inb (grid0.coords t) c2)) (iblk0 V c 4 t) (iblk0 V c 5 t) g1 g2 = out0 V c (t.val - 1) := by
    rw [old_put0 V c t h2 g0 g1 g2 hg]; exact scan_carry0 V c t h2 h3 g0 g1 g2 hg
  iapply (run0_C c (grid0.coords t) _ _ _ _ _ _ _ _ _ _ _ _ _ _ _ _ _ _ _ _ _ _ _ _ c1 c2 c3 (iblk0 V c 0 t) (iblk0 V c 1 t) (iblk0 V c 2 t) (iblk0 V c 3 t) (iblk0 V c 4 t) (iblk0 V c 5 t) ((dat0 V c).before 6 t d6) ((dat0 V c).before 7 t d7) ((dat0 V c).before 8 t d8) g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  iintro ⟨H0, H1, H2, H3, H4, H5, H6, H7, H8, G0, G1, G2⟩
  isplitl [G0 G1 G2 HR Hg]
  · isplitl [G0 G1 G2]
    · iexists _; iexists _; iexists _
      isplitr
      swap
      · isplitl [G0]; · iexact G0
        isplitl [G1]; · iexact G1
        iexact G2
      ipureintro
      refine ⟨fun k hk hk' off h ho => new0 V c t g0 k hk off h ho, fun k hk => ?_⟩
      obtain rfl : k = t.val - 1 := by omega
      rw [hS]; exact ⟨rfl, rfl⟩
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← hS]; iexact H8

set_option maxHeartbeats 4000000 in
/-- At the last point. -/
theorem sound0_D (c : Dev nD) (t : Fin cfg0.N) (h0 : t.val = 16) :
    bodyPre0 V c t ⊢ wp frame (wpE (defs₀ (F := F)) Variants.none c none) Set.univ (bodyAt0 t) (fun _ => bodyPost0 V c t) := by
  have c1 : ¬ k0_cond1 (grid0.coords t) = 1#1 := fun h => absurd ((cond1_iff0 t).mp h) (by omega)
  have c2 : k0_cond2 (grid0.coords t) = 1#1 := (cond2_iff0 t).mpr (by omega)
  have h2 : 1 ≤ t.val := by omega
  have h3 : ¬ t.val % 8 = 1 := by omega
  have c3 : ¬ reset0 (grid0.coords t) := fun h => h3 ((reset_iff0 t).mp h)
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Inv0 V c (t.val + 1) from rfl, show (dat0 V c).Φ t.castSucc = Inv0 V c t.val from rfl]
  rw [after0_0, after0_1, after0_2, after0_3, after0_4, after0_5]
  have i6 : cfg0.idle 6 (cfg0.grid.coords t) = true := by
    by_contra h; exact absurd ((idle0_6 t).mp (by simpa using h)) (by omega)
  have f6 : (cfg0.win 6).flush t = true := by
    by_contra h; exact absurd ((flush0_6 t).mp (by simpa using h)) (by omega)
  rw [show (dat0 V c).leavesExact 6 t = owns (c : Thread nD τ) (st0_6 t) fullShare ((dat0 V c).after 6 t) from by unfold Dat.leavesExact; rw [i6, f6]]
  simp only [kept0_6 V c t h0]
  have i7 : cfg0.idle 7 (cfg0.grid.coords t) = true := by
    by_contra h; exact absurd ((idle0_7 t).mp (by simpa using h)) (by omega)
  have f7 : (cfg0.win 7).flush t = true := by
    by_contra h; exact absurd ((flush0_7 t).mp (by simpa using h)) (by omega)
  rw [show (dat0 V c).leavesExact 7 t = owns (c : Thread nD τ) (st0_7 t) fullShare ((dat0 V c).after 7 t) from by unfold Dat.leavesExact; rw [i7, f7]]
  simp only [kept0_7 V c t h0]
  rw [show (dat0 V c).leavesExact 8 t = owns (c : Thread nD τ) (st0_8 t) fullShare ((dat0 V c).after 8 t) from by unfold Dat.leavesExact; rw [(idle0_8 t).mpr (by omega)], after0_8]
  unfold Inv0
  iintro ⟨⟨⟨%g0, %g1, %g2, %hg, G0, G1, G2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hS : scan0 (VecWindow.window g0 (k0_off2 (grid0.coords t)) S1x512x128.size (k0_off2_inb (grid0.coords t) c2)) (iblk0 V c 4 t) (iblk0 V c 5 t) g1 g2 = out0 V c (t.val - 1) := by
    rw [old0 V c t h2 g0 g1 g2 hg]; exact scan_carry0 V c t h2 h3 g0 g1 g2 hg
  iapply (run0_D c (grid0.coords t) _ _ _ _ _ _ _ _ _ _ _ _ _ _ _ _ _ _ _ _ _ _ _ _ c1 c2 c3 (iblk0 V c 0 t) (iblk0 V c 1 t) (iblk0 V c 2 t) (iblk0 V c 3 t) (iblk0 V c 4 t) (iblk0 V c 5 t) ((dat0 V c).after 6 t) ((dat0 V c).after 7 t) ((dat0 V c).before 8 t d8) g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  iintro ⟨H0, H1, H2, H3, H4, H5, H6, H7, H8, G0, G1, G2⟩
  isplitl [G0 G1 G2 HR Hg]
  · isplitl [G0 G1 G2]
    · iexists _; iexists _; iexists _
      isplitr
      swap
      · isplitl [G0]; · iexact G0
        isplitl [G1]; · iexact G1
        iexact G2
      ipureintro
      refine ⟨fun k hk hk' => by omega, fun k hk => ?_⟩
      obtain rfl : k = t.val - 1 := by omega
      rw [hS]; exact ⟨rfl, rfl⟩
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← hS]; iexact H8

theorem sound_body0 (c : Dev nD) (t : Fin cfg0.N) :
    bodyPre0 V c t ⊢ wp frame (wpE (defs₀ (F := F)) Variants.none c none) Set.univ (bodyAt0 t) (fun _ => bodyPost0 V c t) := by
  have := lt17_0 t
  by_cases h0 : t.val = 0
  · exact sound0_A V c t h0
  by_cases h1 : t.val < 16
  · by_cases h3 : t.val % 8 = 1
    · exact sound0_B V c t h1 (by omega) h3
    · exact sound0_C V c t h1 (by omega) h3
  · exact sound0_D V c t (by omega)

theorem defs₀_row0 (t : Fin cfg0.N) : defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Before the first point nothing is asked of the carried buffers. -/
theorem hin0 (c : Dev nD) : (Pipeline.ΦA spec0 c : sProp 𝕄) ⊢ (dat0 V c).Φ 0 := by
  rw [show (dat0 V c).Φ 0 = Inv0 V c 0 from rfl, PhiA0_eq]; unfold Inv0
  iintro ⟨⟨⟨⟨%g0, G0⟩, ⟨%g1, G1⟩, ⟨%g2, G2⟩⟩, HR⟩, Hg⟩
  isplitl [G0 G1 G2]
  · iexists g0; iexists g1; iexists g2
    isplitr; · ipureintro; exact good0_zero V c g0 g1 g2
    isplitl [G0]; · iexact G0
    isplitl [G1]; · iexact G1
    iexact G2
  isplitl [HR]; · iexact HR
  iexact Hg

/-- After the last point what they hold is forgotten. -/
theorem hout0 (c : Dev nD) : (dat0 V c).Φ (Fin.last cfg0.N) ⊢ (Pipeline.ΦA spec0 c : sProp 𝕄) := by
  rw [show (dat0 V c).Φ (Fin.last cfg0.N) = Inv0 V c (Fin.last cfg0.N).val from rfl, PhiA0_eq]; unfold Inv0
  iintro ⟨⟨%g0, %g1, %g2, -, G0, G1, G2⟩, HR, Hg⟩
  isplitl [G0 G1 G2 HR]
  · isplitl [G0 G1 G2]
    · isplitl [G0]; · iexists g0; iexact G0
      isplitl [G1]; · iexists g1; iexact G1
      iexists g2; iexact G2
    iexact HR
  iexact Hg

end Cert.KernelIdeal.Own

end
-- ==== Proof.K.Run1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.K.Scan

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one body of call 1 does, in each case of its grid point -/

/-- The body resets its carries. -/
abbrev reset1 (i : grid1.Coords) : Prop := (Scalar.cmpi .ne (Scalar.extui (Scalar.cmpi .eq (Scalar.select (Scalar.andi (Scalar.xori (Scalar.cmpi .slt (Scalar.remsi (Scalar.subi (BitVec.ofNat 32 (i 0).val) 1#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.subi (BitVec.ofNat 32 (i 0).val) 1#32) (Scalar.select (Scalar.cmpi .eq 8#32 0#32) 1#32 8#32)) 0#32)) (Scalar.addi (Scalar.remsi (Scalar.subi (BitVec.ofNat 32 (i 0).val) 1#32) (Scalar.select (Scalar.cmpi .eq 8#32 0#32) 1#32 8#32)) (Scalar.select (Scalar.cmpi .eq 8#32 0#32) 1#32 8#32)) (Scalar.remsi (Scalar.subi (BitVec.ofNat 32 (i 0).val) 1#32) (Scalar.select (Scalar.cmpi .eq 8#32 0#32) 1#32 8#32))) 0#32)) 0#32) = 1#1

set_option maxHeartbeats 4000000 in
/-- The body of call 1 at the first point: it projects its tile and scans nothing. -/
theorem run1_A (c : Dev nD) (i : grid1.Coords) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S1024x4096 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S512x128 .f32) (harg16 : arg16.IsWhole) (arg17 : Memref sig .tc .vmem S2x512x128 .f32) (harg17 : arg17.IsWhole) (arg18 : Memref sig .tc .vmem S1x128 .f32) (harg18 : arg18.IsWhole) (arg19 : Memref sig .tc .vmem S1x128 .f32) (harg19 : arg19.IsWhole)
    (hc1 : k1_cond1 i = 1#1) (hc2 : ¬ k1_cond2 i = 1#1)
    (x0 : Vec F S512x1024 .f32) (x1 : Vec F S512x2048 .bf16) (x2 : Vec F S512x2048 .bf16) (x3 : Vec F S512x128 .f32) (x4 : Vec F S128x2048 .f32) (x5 : Vec F S1x2048 .f32) (x6 : Vec F S2048x1024 .f32) (x7 : Vec F S1x1024 .f32) (x8 : Vec F S1024x4096 .f32) (x9 : Vec F S2048x128 .f32) (x10 : Vec F S1x128 .f32) (x11 : Vec F S1x128 .f32) (x12 : Vec F S512x1024 .f32) (x13 : Vec F S512x2048 .bf16) (x14 : Vec F S512x2048 .bf16) (x15 : Vec F S512x128 .f32) (x16 : Vec F S2x512x128 .f32) (x17 : Vec F S1x128 .f32) (x18 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k1_pay9 x0 x1 x2 x3 x4 x5 x6) ∗ owns (c : Thread nD τ) arg14 fullShare (k1_pay3 (k1_pay9 x0 x1 x2 x3 x4 x5 x6) (k1_pay10 x7) x8) ∗ owns (c : Thread nD τ) arg15 fullShare (k1_pay4 (k1_pay9 x0 x1 x2 x3 x4 x5 x6) (k1_pay10 x7) x8) ∗ owns (c : Thread nD τ) arg16 fullShare x15 ∗ owns (c : Thread nD τ) arg17 fullShare (VecWindow.put x16 (k1_off1 i) S1x512x128.size (k1_pay5 (k1_pay9 x0 x1 x2 x3 x4 x5 x6) (k1_pay10 x7) x8 (k1_pay11 x9))) ∗ owns (c : Thread nD τ) arg18 fullShare x17 ∗ owns (c : Thread nD τ) arg19 fullShare x18) -∗ K ⟨⟩))
    ⊢ wp frame (wpE (defs₀ (F := F)) Variants.none c none) E (cc1__c2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__c2_body_eq_skeleton]; unfold cc1__c2_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  simp only [owns_eq_rep]
  iintro ⟨H0, H1, H2, H3, H4, H5, H6, H7, H8, H9, H10, H11, H12, H13, H14, H15, H16, H17, H18, Hk⟩
  sl_exec (disch := first | sl_exact hc1 | sl_exact hc2)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · rw [← owns_eq_rep]; unfold owns; iexists _; isplitr; swap; · iexact H12
    ipureintro; rw [View.read_writes_full]
    refine Eq.trans (b := (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _]
  isplitl [H13]
  · rw [← owns_eq_rep]; unfold owns; iexists _; isplitr; swap; · iexact H13
    ipureintro; rw [View.read_writes_full]
    refine Eq.trans (b := (k1_pay3 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _]
  isplitl [H14]
  · rw [← owns_eq_rep]; unfold owns; iexists _; isplitr; swap; · iexact H14
    ipureintro; rw [View.read_writes_full]
    refine Eq.trans (b := (k1_pay4 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _]
  isplitl [H15]
  · iexact H15
  isplitl [H16]
  · rw [← owns_eq_rep]; unfold owns; iexists _; isplitr; swap; · iexact H16
    ipureintro; refine Eq.trans (b := VecWindow.put x16 (k1_off1 i) S1x512x128.size (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))) ?_ ?_
    · exact View.read_writes_rep_unit _ _ _ _ rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _]
  isplitl [H17]
  · iexact H17
  iexact H18

set_option maxHeartbeats 4000000 in
/-- The body of call 1 at a point that projects its tile, resets the carries and scans the tile before. -/
theorem run1_B (c : Dev nD) (i : grid1.Coords) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S1024x4096 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S512x128 .f32) (harg16 : arg16.IsWhole) (arg17 : Memref sig .tc .vmem S2x512x128 .f32) (harg17 : arg17.IsWhole) (arg18 : Memref sig .tc .vmem S1x128 .f32) (harg18 : arg18.IsWhole) (arg19 : Memref sig .tc .vmem S1x128 .f32) (harg19 : arg19.IsWhole)
    (hc1 : k1_cond1 i = 1#1) (hc2 : k1_cond2 i = 1#1) (hc3 : reset1 i)
    (x0 : Vec F S512x1024 .f32) (x1 : Vec F S512x2048 .bf16) (x2 : Vec F S512x2048 .bf16) (x3 : Vec F S512x128 .f32) (x4 : Vec F S128x2048 .f32) (x5 : Vec F S1x2048 .f32) (x6 : Vec F S2048x1024 .f32) (x7 : Vec F S1x1024 .f32) (x8 : Vec F S1024x4096 .f32) (x9 : Vec F S2048x128 .f32) (x10 : Vec F S1x128 .f32) (x11 : Vec F S1x128 .f32) (x12 : Vec F S512x1024 .f32) (x13 : Vec F S512x2048 .bf16) (x14 : Vec F S512x2048 .bf16) (x15 : Vec F S512x128 .f32) (x16 : Vec F S2x512x128 .f32) (x17 : Vec F S1x128 .f32) (x18 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k1_pay9 x0 x1 x2 x3 x4 x5 x6) ∗ owns (c : Thread nD τ) arg14 fullShare (k1_pay3 (k1_pay9 x0 x1 x2 x3 x4 x5 x6) (k1_pay10 x7) x8) ∗ owns (c : Thread nD τ) arg15 fullShare (k1_pay4 (k1_pay9 x0 x1 x2 x3 x4 x5 x6) (k1_pay10 x7) x8) ∗ owns (c : Thread nD τ) arg16 fullShare (scan1 (VecWindow.window (VecWindow.put x16 (k1_off1 i) S1x512x128.size (k1_pay5 (k1_pay9 x0 x1 x2 x3 x4 x5 x6) (k1_pay10 x7) x8 (k1_pay11 x9))) (k1_off2 i) S1x512x128.size (k1_off2_inb i hc2)) x10 x11 k1_pay21 k1_pay22).1 ∗ owns (c : Thread nD τ) arg17 fullShare (VecWindow.put x16 (k1_off1 i) S1x512x128.size (k1_pay5 (k1_pay9 x0 x1 x2 x3 x4 x5 x6) (k1_pay10 x7) x8 (k1_pay11 x9))) ∗ owns (c : Thread nD τ) arg18 fullShare (scan1 (VecWindow.window (VecWindow.put x16 (k1_off1 i) S1x512x128.size (k1_pay5 (k1_pay9 x0 x1 x2 x3 x4 x5 x6) (k1_pay10 x7) x8 (k1_pay11 x9))) (k1_off2 i) S1x512x128.size (k1_off2_inb i hc2)) x10 x11 k1_pay21 k1_pay22).2.1 ∗ owns (c : Thread nD τ) arg19 fullShare (scan1 (VecWindow.window (VecWindow.put x16 (k1_off1 i) S1x512x128.size (k1_pay5 (k1_pay9 x0 x1 x2 x3 x4 x5 x6) (k1_pay10 x7) x8 (k1_pay11 x9))) (k1_off2 i) S1x512x128.size (k1_off2_inb i hc2)) x10 x11 k1_pay21 k1_pay22).2.2) -∗ K ⟨⟩))
    ⊢ wp frame (wpE (defs₀ (F := F)) Variants.none c none) E (cc1__c2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__c2_body_eq_skeleton]; unfold cc1__c2_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  simp only [owns_eq_rep]
  iintro ⟨H0, H1, H2, H3, H4, H5, H6, H7, H8, H9, H10, H11, H12, H13, H14, H15, H16, H17, H18, Hk⟩
  sl_exec (disch := first | sl_exact hc1 | sl_exact hc2 | sl_exact hc3)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · rw [← owns_eq_rep]; unfold owns; iexists _; isplitr; swap; · iexact H12
    ipureintro; rw [View.read_writes_full]
    refine Eq.trans (b := (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _]
  isplitl [H13]
  · rw [← owns_eq_rep]; unfold owns; iexists _; isplitr; swap; · iexact H13
    ipureintro; rw [View.read_writes_full]
    refine Eq.trans (b := (k1_pay3 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _]
  isplitl [H14]
  · rw [← owns_eq_rep]; unfold owns; iexists _; isplitr; swap; · iexact H14
    ipureintro; rw [View.read_writes_full]
    refine Eq.trans (b := (k1_pay4 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _]
  isplitl [H15]
  · rw [← owns_eq_rep]; unfold owns; iexists _; isplitr; swap; · iexact H15
    ipureintro; rw [View.read_writes_full]
    refine Eq.trans (b := (scan1 (arg17.view.readAt (Elt F) (Rect.unit (s := S2x512x128) (k1_off2 i) S1x512x128.size (k1_off2_inb i hc2)).toLoadRect (arg17.view.writes (Elt F) (arg17.view.rep x16) [⟨Rect.unit (s := S2x512x128) (k1_off1 i) S1x512x128.size (k1_off1_inb i hc1), (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))⟩])) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readCov [⟨Rect.unit (s := S1x128) ![0, 0] S1x128.size inb_S1x128_S1x128_0_0, k1_pay21 (F := F)⟩] (Rect.unit (s := S1x128) ![0, 0] S1x128.size inb_S1x128_S1x128_0_0).toLoadRect) (arg19.view.readCov [⟨Rect.unit (s := S1x128) ![0, 0] S1x128.size inb_S1x128_S1x128_0_0, k1_pay22 (F := F)⟩] (Rect.unit (s := S1x128) ![0, 0] S1x128.size inb_S1x128_S1x128_0_0).toLoadRect)).1) ?_ ?_
    · rfl
    · rw [View.readAt_unit _ _ _ rfl (k1_off2_inb i hc2), View.read_writes_rep_unit _ _ _ _ rfl, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, View.readCov_full, View.readCov_full]
  isplitl [H16]
  · rw [← owns_eq_rep]; unfold owns; iexists _; isplitr; swap; · iexact H16
    ipureintro; refine Eq.trans (b := VecWindow.put x16 (k1_off1 i) S1x512x128.size (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))) ?_ ?_
    · exact View.read_writes_rep_unit _ _ _ _ rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _]
  isplitl [H17]
  · rw [← owns_eq_rep]; unfold owns; iexists _; isplitr; swap; · iexact H17
    ipureintro; rw [View.read_writes_full]
    refine Eq.trans (b := (scan1 (arg17.view.readAt (Elt F) (Rect.unit (s := S2x512x128) (k1_off2 i) S1x512x128.size (k1_off2_inb i hc2)).toLoadRect (arg17.view.writes (Elt F) (arg17.view.rep x16) [⟨Rect.unit (s := S2x512x128) (k1_off1 i) S1x512x128.size (k1_off1_inb i hc1), (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))⟩])) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readCov [⟨Rect.unit (s := S1x128) ![0, 0] S1x128.size inb_S1x128_S1x128_0_0, k1_pay21 (F := F)⟩] (Rect.unit (s := S1x128) ![0, 0] S1x128.size inb_S1x128_S1x128_0_0).toLoadRect) (arg19.view.readCov [⟨Rect.unit (s := S1x128) ![0, 0] S1x128.size inb_S1x128_S1x128_0_0, k1_pay22 (F := F)⟩] (Rect.unit (s := S1x128) ![0, 0] S1x128.size inb_S1x128_S1x128_0_0).toLoadRect)).2.1) ?_ ?_
    · rfl
    · rw [View.readAt_unit _ _ _ rfl (k1_off2_inb i hc2), View.read_writes_rep_unit _ _ _ _ rfl, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, View.readCov_full, View.readCov_full]
  rw [← owns_eq_rep]; unfold owns; iexists _; isplitr; swap; · iexact H18
  ipureintro; rw [View.read_writes_full]
  refine Eq.trans (b := (scan1 (arg17.view.readAt (Elt F) (Rect.unit (s := S2x512x128) (k1_off2 i) S1x512x128.size (k1_off2_inb i hc2)).toLoadRect (arg17.view.writes (Elt F) (arg17.view.rep x16) [⟨Rect.unit (s := S2x512x128) (k1_off1 i) S1x512x128.size (k1_off1_inb i hc1), (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))⟩])) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readCov [⟨Rect.unit (s := S1x128) ![0, 0] S1x128.size inb_S1x128_S1x128_0_0, k1_pay21 (F := F)⟩] (Rect.unit (s := S1x128) ![0, 0] S1x128.size inb_S1x128_S1x128_0_0).toLoadRect) (arg19.view.readCov [⟨Rect.unit (s := S1x128) ![0, 0] S1x128.size inb_S1x128_S1x128_0_0, k1_pay22 (F := F)⟩] (Rect.unit (s := S1x128) ![0, 0] S1x128.size inb_S1x128_S1x128_0_0).toLoadRect)).2.2) ?_ ?_
  · rfl
  · rw [View.readAt_unit _ _ _ rfl (k1_off2_inb i hc2), View.read_writes_rep_unit _ _ _ _ rfl, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, View.readCov_full, View.readCov_full]

set_option maxHeartbeats 4000000 in
/-- The body of call 1 at a point that projects its tile and scans the tile before on from the carries. -/
theorem run1_C (c : Dev nD) (i : grid1.Coords) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S1024x4096 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S512x128 .f32) (harg16 : arg16.IsWhole) (arg17 : Memref sig .tc .vmem S2x512x128 .f32) (harg17 : arg17.IsWhole) (arg18 : Memref sig .tc .vmem S1x128 .f32) (harg18 : arg18.IsWhole) (arg19 : Memref sig .tc .vmem S1x128 .f32) (harg19 : arg19.IsWhole)
    (hc1 : k1_cond1 i = 1#1) (hc2 : k1_cond2 i = 1#1) (hc3 : ¬ reset1 i)
    (x0 : Vec F S512x1024 .f32) (x1 : Vec F S512x2048 .bf16) (x2 : Vec F S512x2048 .bf16) (x3 : Vec F S512x128 .f32) (x4 : Vec F S128x2048 .f32) (x5 : Vec F S1x2048 .f32) (x6 : Vec F S2048x1024 .f32) (x7 : Vec F S1x1024 .f32) (x8 : Vec F S1024x4096 .f32) (x9 : Vec F S2048x128 .f32) (x10 : Vec F S1x128 .f32) (x11 : Vec F S1x128 .f32) (x12 : Vec F S512x1024 .f32) (x13 : Vec F S512x2048 .bf16) (x14 : Vec F S512x2048 .bf16) (x15 : Vec F S512x128 .f32) (x16 : Vec F S2x512x128 .f32) (x17 : Vec F S1x128 .f32) (x18 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k1_pay9 x0 x1 x2 x3 x4 x5 x6) ∗ owns (c : Thread nD τ) arg14 fullShare (k1_pay3 (k1_pay9 x0 x1 x2 x3 x4 x5 x6) (k1_pay10 x7) x8) ∗ owns (c : Thread nD τ) arg15 fullShare (k1_pay4 (k1_pay9 x0 x1 x2 x3 x4 x5 x6) (k1_pay10 x7) x8) ∗ owns (c : Thread nD τ) arg16 fullShare (scan1 (VecWindow.window (VecWindow.put x16 (k1_off1 i) S1x512x128.size (k1_pay5 (k1_pay9 x0 x1 x2 x3 x4 x5 x6) (k1_pay10 x7) x8 (k1_pay11 x9))) (k1_off2 i) S1x512x128.size (k1_off2_inb i hc2)) x10 x11 x17 x18).1 ∗ owns (c : Thread nD τ) arg17 fullShare (VecWindow.put x16 (k1_off1 i) S1x512x128.size (k1_pay5 (k1_pay9 x0 x1 x2 x3 x4 x5 x6) (k1_pay10 x7) x8 (k1_pay11 x9))) ∗ owns (c : Thread nD τ) arg18 fullShare (scan1 (VecWindow.window (VecWindow.put x16 (k1_off1 i) S1x512x128.size (k1_pay5 (k1_pay9 x0 x1 x2 x3 x4 x5 x6) (k1_pay10 x7) x8 (k1_pay11 x9))) (k1_off2 i) S1x512x128.size (k1_off2_inb i hc2)) x10 x11 x17 x18).2.1 ∗ owns (c : Thread nD τ) arg19 fullShare (scan1 (VecWindow.window (VecWindow.put x16 (k1_off1 i) S1x512x128.size (k1_pay5 (k1_pay9 x0 x1 x2 x3 x4 x5 x6) (k1_pay10 x7) x8 (k1_pay11 x9))) (k1_off2 i) S1x512x128.size (k1_off2_inb i hc2)) x10 x11 x17 x18).2.2) -∗ K ⟨⟩))
    ⊢ wp frame (wpE (defs₀ (F := F)) Variants.none c none) E (cc1__c2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__c2_body_eq_skeleton]; unfold cc1__c2_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  simp only [owns_eq_rep]
  iintro ⟨H0, H1, H2, H3, H4, H5, H6, H7, H8, H9, H10, H11, H12, H13, H14, H15, H16, H17, H18, Hk⟩
  sl_exec (disch := first | sl_exact hc1 | sl_exact hc2 | sl_exact hc3)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · rw [← owns_eq_rep]; unfold owns; iexists _; isplitr; swap; · iexact H12
    ipureintro; rw [View.read_writes_full]
    refine Eq.trans (b := (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _]
  isplitl [H13]
  · rw [← owns_eq_rep]; unfold owns; iexists _; isplitr; swap; · iexact H13
    ipureintro; rw [View.read_writes_full]
    refine Eq.trans (b := (k1_pay3 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _]
  isplitl [H14]
  · rw [← owns_eq_rep]; unfold owns; iexists _; isplitr; swap; · iexact H14
    ipureintro; rw [View.read_writes_full]
    refine Eq.trans (b := (k1_pay4 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)))) ?_ ?_
    · rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _]
  isplitl [H15]
  · rw [← owns_eq_rep]; unfold owns; iexists _; isplitr; swap; · iexact H15
    ipureintro; rw [View.read_writes_full]
    refine Eq.trans (b := (scan1 (arg17.view.readAt (Elt F) (Rect.unit (s := S2x512x128) (k1_off2 i) S1x512x128.size (k1_off2_inb i hc2)).toLoadRect (arg17.view.writes (Elt F) (arg17.view.rep x16) [⟨Rect.unit (s := S2x512x128) (k1_off1 i) S1x512x128.size (k1_off1_inb i hc1), (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))⟩])) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readAt (Elt F) (Rect.unit (s := S1x128) ![0, 0] S1x128.size inb_S1x128_S1x128_0_0).toLoadRect (arg18.view.rep x17)) (arg19.view.readAt (Elt F) (Rect.unit (s := S1x128) ![0, 0] S1x128.size inb_S1x128_S1x128_0_0).toLoadRect (arg19.view.rep x18))).1) ?_ ?_
    · rfl
    · rw [View.readAt_unit _ _ _ rfl (k1_off2_inb i hc2), View.read_writes_rep_unit _ _ _ _ rfl, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, show (arg18.view.readAt (Elt F) (Rect.unit (s := S1x128) ![0, 0] S1x128.size inb_S1x128_S1x128_0_0).toLoadRect (arg18.view.rep x17)) = x17 from View.readAt_rep_full _ _ _, show (arg19.view.readAt (Elt F) (Rect.unit (s := S1x128) ![0, 0] S1x128.size inb_S1x128_S1x128_0_0).toLoadRect (arg19.view.rep x18)) = x18 from View.readAt_rep_full _ _ _]
  isplitl [H16]
  · rw [← owns_eq_rep]; unfold owns; iexists _; isplitr; swap; · iexact H16
    ipureintro; refine Eq.trans (b := VecWindow.put x16 (k1_off1 i) S1x512x128.size (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))) ?_ ?_
    · exact View.read_writes_rep_unit _ _ _ _ rfl
    · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _]
  isplitl [H17]
  · rw [← owns_eq_rep]; unfold owns; iexists _; isplitr; swap; · iexact H17
    ipureintro; rw [View.read_writes_full]
    refine Eq.trans (b := (scan1 (arg17.view.readAt (Elt F) (Rect.unit (s := S2x512x128) (k1_off2 i) S1x512x128.size (k1_off2_inb i hc2)).toLoadRect (arg17.view.writes (Elt F) (arg17.view.rep x16) [⟨Rect.unit (s := S2x512x128) (k1_off1 i) S1x512x128.size (k1_off1_inb i hc1), (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))⟩])) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readAt (Elt F) (Rect.unit (s := S1x128) ![0, 0] S1x128.size inb_S1x128_S1x128_0_0).toLoadRect (arg18.view.rep x17)) (arg19.view.readAt (Elt F) (Rect.unit (s := S1x128) ![0, 0] S1x128.size inb_S1x128_S1x128_0_0).toLoadRect (arg19.view.rep x18))).2.1) ?_ ?_
    · rfl
    · rw [View.readAt_unit _ _ _ rfl (k1_off2_inb i hc2), View.read_writes_rep_unit _ _ _ _ rfl, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, show (arg18.view.readAt (Elt F) (Rect.unit (s := S1x128) ![0, 0] S1x128.size inb_S1x128_S1x128_0_0).toLoadRect (arg18.view.rep x17)) = x17 from View.readAt_rep_full _ _ _, show (arg19.view.readAt (Elt F) (Rect.unit (s := S1x128) ![0, 0] S1x128.size inb_S1x128_S1x128_0_0).toLoadRect (arg19.view.rep x18)) = x18 from View.readAt_rep_full _ _ _]
  rw [← owns_eq_rep]; unfold owns; iexists _; isplitr; swap; · iexact H18
  ipureintro; rw [View.read_writes_full]
  refine Eq.trans (b := (scan1 (arg17.view.readAt (Elt F) (Rect.unit (s := S2x512x128) (k1_off2 i) S1x512x128.size (k1_off2_inb i hc2)).toLoadRect (arg17.view.writes (Elt F) (arg17.view.rep x16) [⟨Rect.unit (s := S2x512x128) (k1_off1 i) S1x512x128.size (k1_off1_inb i hc1), (k1_pay5 (k1_pay9 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6))) (k1_pay10 (arg8.view.readAt (Elt F) (Rect.unit (s := S1x1024) ![0, 0] S1x1024.size inb_S1x1024_S1x1024_0_0).toLoadRect (arg8.view.rep x7))) (arg9.view.readAt (Elt F) (Rect.unit (s := S1024x4096) ![0, 0] S1024x4096.size inb_S1024x4096_S1024x4096_0_0).toLoadRect (arg9.view.rep x8)) (k1_pay11 (arg10.view.readAt (Elt F) (Rect.unit (s := S2048x128) ![0, 0] S2048x128.size inb_S2048x128_S2048x128_0_0).toLoadRect (arg10.view.rep x9))))⟩])) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readAt (Elt F) (Rect.unit (s := S1x128) ![0, 0] S1x128.size inb_S1x128_S1x128_0_0).toLoadRect (arg18.view.rep x17)) (arg19.view.readAt (Elt F) (Rect.unit (s := S1x128) ![0, 0] S1x128.size inb_S1x128_S1x128_0_0).toLoadRect (arg19.view.rep x18))).2.2) ?_ ?_
  · rfl
  · rw [View.readAt_unit _ _ _ rfl (k1_off2_inb i hc2), View.read_writes_rep_unit _ _ _ _ rfl, show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _, show (arg9.view.readAt (Elt F) (Rect.unit (s := S1024x4096) ![0, 0] S1024x4096.size inb_S1024x4096_S1024x4096_0_0).toLoadRect (arg9.view.rep x8)) = x8 from View.readAt_rep_full _ _ _, show (arg10.view.readAt (Elt F) (Rect.unit (s := S2048x128) ![0, 0] S2048x128.size inb_S2048x128_S2048x128_0_0).toLoadRect (arg10.view.rep x9)) = x9 from View.readAt_rep_full _ _ _, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, show (arg18.view.readAt (Elt F) (Rect.unit (s := S1x128) ![0, 0] S1x128.size inb_S1x128_S1x128_0_0).toLoadRect (arg18.view.rep x17)) = x17 from View.readAt_rep_full _ _ _, show (arg19.view.readAt (Elt F) (Rect.unit (s := S1x128) ![0, 0] S1x128.size inb_S1x128_S1x128_0_0).toLoadRect (arg19.view.rep x18)) = x18 from View.readAt_rep_full _ _ _]

set_option maxHeartbeats 4000000 in
/-- The body of call 1 at the last point: it scans the last tile. -/
theorem run1_D (c : Dev nD) (i : grid1.Coords) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S1024x4096 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S512x128 .f32) (harg16 : arg16.IsWhole) (arg17 : Memref sig .tc .vmem S2x512x128 .f32) (harg17 : arg17.IsWhole) (arg18 : Memref sig .tc .vmem S1x128 .f32) (harg18 : arg18.IsWhole) (arg19 : Memref sig .tc .vmem S1x128 .f32) (harg19 : arg19.IsWhole)
    (hc1 : ¬ k1_cond1 i = 1#1) (hc2 : k1_cond2 i = 1#1) (hc3 : ¬ reset1 i)
    (x0 : Vec F S512x1024 .f32) (x1 : Vec F S512x2048 .bf16) (x2 : Vec F S512x2048 .bf16) (x3 : Vec F S512x128 .f32) (x4 : Vec F S128x2048 .f32) (x5 : Vec F S1x2048 .f32) (x6 : Vec F S2048x1024 .f32) (x7 : Vec F S1x1024 .f32) (x8 : Vec F S1024x4096 .f32) (x9 : Vec F S2048x128 .f32) (x10 : Vec F S1x128 .f32) (x11 : Vec F S1x128 .f32) (x12 : Vec F S512x1024 .f32) (x13 : Vec F S512x2048 .bf16) (x14 : Vec F S512x2048 .bf16) (x15 : Vec F S512x128 .f32) (x16 : Vec F S2x512x128 .f32) (x17 : Vec F S1x128 .f32) (x18 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (scan1 (VecWindow.window x16 (k1_off2 i) S1x512x128.size (k1_off2_inb i hc2)) x10 x11 x17 x18).1 ∗ owns (c : Thread nD τ) arg17 fullShare x16 ∗ owns (c : Thread nD τ) arg18 fullShare (scan1 (VecWindow.window x16 (k1_off2 i) S1x512x128.size (k1_off2_inb i hc2)) x10 x11 x17 x18).2.1 ∗ owns (c : Thread nD τ) arg19 fullShare (scan1 (VecWindow.window x16 (k1_off2 i) S1x512x128.size (k1_off2_inb i hc2)) x10 x11 x17 x18).2.2) -∗ K ⟨⟩))
    ⊢ wp frame (wpE (defs₀ (F := F)) Variants.none c none) E (cc1__c2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__c2_body_eq_skeleton]; unfold cc1__c2_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  simp only [owns_eq_rep]
  iintro ⟨H0, H1, H2, H3, H4, H5, H6, H7, H8, H9, H10, H11, H12, H13, H14, H15, H16, H17, H18, Hk⟩
  sl_exec (disch := first | sl_exact hc1 | sl_exact hc2 | sl_exact hc3)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · rw [← owns_eq_rep]; unfold owns; iexists _; isplitr; swap; · iexact H15
    ipureintro; rw [View.read_writes_full]
    refine Eq.trans (b := (scan1 (arg17.view.readAt (Elt F) (Rect.unit (s := S2x512x128) (k1_off2 i) S1x512x128.size (k1_off2_inb i hc2)).toLoadRect (arg17.view.rep x16)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readAt (Elt F) (Rect.unit (s := S1x128) ![0, 0] S1x128.size inb_S1x128_S1x128_0_0).toLoadRect (arg18.view.rep x17)) (arg19.view.readAt (Elt F) (Rect.unit (s := S1x128) ![0, 0] S1x128.size inb_S1x128_S1x128_0_0).toLoadRect (arg19.view.rep x18))).1) ?_ ?_
    · rfl
    · rw [View.readAt_unit _ _ _ rfl (k1_off2_inb i hc2), View.read_rep, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, show (arg18.view.readAt (Elt F) (Rect.unit (s := S1x128) ![0, 0] S1x128.size inb_S1x128_S1x128_0_0).toLoadRect (arg18.view.rep x17)) = x17 from View.readAt_rep_full _ _ _, show (arg19.view.readAt (Elt F) (Rect.unit (s := S1x128) ![0, 0] S1x128.size inb_S1x128_S1x128_0_0).toLoadRect (arg19.view.rep x18)) = x18 from View.readAt_rep_full _ _ _]
  isplitl [H16]
  · iexact H16
  isplitl [H17]
  · rw [← owns_eq_rep]; unfold owns; iexists _; isplitr; swap; · iexact H17
    ipureintro; rw [View.read_writes_full]
    refine Eq.trans (b := (scan1 (arg17.view.readAt (Elt F) (Rect.unit (s := S2x512x128) (k1_off2 i) S1x512x128.size (k1_off2_inb i hc2)).toLoadRect (arg17.view.rep x16)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readAt (Elt F) (Rect.unit (s := S1x128) ![0, 0] S1x128.size inb_S1x128_S1x128_0_0).toLoadRect (arg18.view.rep x17)) (arg19.view.readAt (Elt F) (Rect.unit (s := S1x128) ![0, 0] S1x128.size inb_S1x128_S1x128_0_0).toLoadRect (arg19.view.rep x18))).2.1) ?_ ?_
    · rfl
    · rw [View.readAt_unit _ _ _ rfl (k1_off2_inb i hc2), View.read_rep, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, show (arg18.view.readAt (Elt F) (Rect.unit (s := S1x128) ![0, 0] S1x128.size inb_S1x128_S1x128_0_0).toLoadRect (arg18.view.rep x17)) = x17 from View.readAt_rep_full _ _ _, show (arg19.view.readAt (Elt F) (Rect.unit (s := S1x128) ![0, 0] S1x128.size inb_S1x128_S1x128_0_0).toLoadRect (arg19.view.rep x18)) = x18 from View.readAt_rep_full _ _ _]
  rw [← owns_eq_rep]; unfold owns; iexists _; isplitr; swap; · iexact H18
  ipureintro; rw [View.read_writes_full]
  refine Eq.trans (b := (scan1 (arg17.view.readAt (Elt F) (Rect.unit (s := S2x512x128) (k1_off2 i) S1x512x128.size (k1_off2_inb i hc2)).toLoadRect (arg17.view.rep x16)) (arg11.view.readAt (Elt F) (Rect.unit (s := S1x128) ![0, 0] S1x128.size inb_S1x128_S1x128_0_0).toLoadRect (arg11.view.rep x10)) (arg12.view.readAt (Elt F) (Rect.unit (s := S1x128) ![0, 0] S1x128.size inb_S1x128_S1x128_0_0).toLoadRect (arg12.view.rep x11)) (arg18.view.readAt (Elt F) (Rect.unit (s := S1x128) ![0, 0] S1x128.size inb_S1x128_S1x128_0_0).toLoadRect (arg18.view.rep x17)) (arg19.view.readAt (Elt F) (Rect.unit (s := S1x128) ![0, 0] S1x128.size inb_S1x128_S1x128_0_0).toLoadRect (arg19.view.rep x18))).2.2) ?_ ?_
  · rfl
  · rw [View.readAt_unit _ _ _ rfl (k1_off2_inb i hc2), View.read_rep, show (arg11.view.readAt (Elt F) (Rect.unit (s := S1x128) ![0, 0] S1x128.size inb_S1x128_S1x128_0_0).toLoadRect (arg11.view.rep x10)) = x10 from View.readAt_rep_full _ _ _, show (arg12.view.readAt (Elt F) (Rect.unit (s := S1x128) ![0, 0] S1x128.size inb_S1x128_S1x128_0_0).toLoadRect (arg12.view.rep x11)) = x11 from View.readAt_rep_full _ _ _, show (arg18.view.readAt (Elt F) (Rect.unit (s := S1x128) ![0, 0] S1x128.size inb_S1x128_S1x128_0_0).toLoadRect (arg18.view.rep x17)) = x17 from View.readAt_rep_full _ _ _, show (arg19.view.readAt (Elt F) (Rect.unit (s := S1x128) ![0, 0] S1x128.size inb_S1x128_S1x128_0_0).toLoadRect (arg19.view.rep x18)) = x18 from View.readAt_rep_full _ _ _]

end Cert.KernelIdeal.Own

end
-- ==== Proof.K.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.K.Run1
public import Idealize.ShloMosaic.Lib.Pipeline.Frame

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (r : Ref sig .tc) → Buf (Elt F) ((c : Thread nD τ).loc r))

/-! # Call 1: its points, what its carried buffers hold between them, and its body's obligation -/

/-- Window `w`'s block at point `t`, in the contents the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem coord1 (t : Fin cfg1.N) : (grid1.coords t 0).val = t.val := by
  have ht : t.val < 17 := Nat.lt_of_lt_of_eq t.isLt N_1
  have e0 : (grid1.coords t 0).val = t.val / 1 % 17 := Pipeline.Grid.coords_val t 0 (by decide) rfl
  omega

theorem lt17_1 (t : Fin cfg1.N) : t.val < 17 := Nat.lt_of_lt_of_eq t.isLt N_1

theorem cond1_iff1 (t : Fin cfg1.N) : k1_cond1 (grid1.coords t) = 1#1 ↔ t.val < 16 := by
  have h := coord1 t
  unfold k1_cond1; rw [← h]
  generalize grid1.coords t 0 = v
  change Fin 17 at v; revert v; decide +kernel

theorem cond2_iff1 (t : Fin cfg1.N) : k1_cond2 (grid1.coords t) = 1#1 ↔ 1 ≤ t.val := by
  have h := coord1 t
  unfold k1_cond2; rw [← h]
  generalize grid1.coords t 0 = v
  change Fin 17 at v; revert v; decide +kernel

theorem reset_iff1 (t : Fin cfg1.N) : reset1 (grid1.coords t) ↔ t.val % 8 = 1 := by
  have h := coord1 t
  unfold reset1; rw [← h]
  generalize grid1.coords t 0 = v
  change Fin 17 at v; revert v; decide +kernel

/-- The point numbered `k`. -/
def pt1 (k : ℕ) : Fin cfg1.N := ⟨min k 16, by rw [show cfg1.N = 17 from N_1]; omega⟩

theorem pt1_val (t : Fin cfg1.N) : pt1 t.val = t := by
  have := lt17_1 t; apply Fin.ext; show min t.val 16 = t.val; omega

/-- The point whose tile the call's projections hold at point `t`. -/
def cap1 (t : Fin cfg1.N) : Fin cfg1.N := pt1 (min t.val 15)

theorem cap1_lt (t : Fin cfg1.N) (h : t.val < 16) : cap1 t = t := by
  unfold cap1; rw [show min t.val 15 = t.val from by omega, pt1_val]

/-- What tile `k` feeds the recurrence. -/
def bu1 (c : Dev nD) (k : ℕ) : FVec F S1x512x128 .f32 := k1_pay5 (k1_pay9 (iblk1 V c 0 (pt1 k)) (iblk1 V c 1 (pt1 k)) (iblk1 V c 2 (pt1 k)) (iblk1 V c 3 (pt1 k)) (iblk1 V c 4 (pt1 k)) (iblk1 V c 5 (pt1 k)) (iblk1 V c 6 (pt1 k))) (k1_pay10 (iblk1 V c 7 (pt1 k))) (iblk1 V c 8 (pt1 k)) (k1_pay11 (iblk1 V c 9 (pt1 k)))

/-- Tile `k`'s scanned rows and the carries it leaves. -/
def out1 (c : Dev nD) : ℕ → FVec F S512x128 .f32 × FVec F S1x128 .f32 × FVec F S1x128 .f32
  | 0 => scan1 (bu1 V c 0) (iblk1 V c 10 (pt1 1)) (iblk1 V c 11 (pt1 1)) k1_pay21 k1_pay22
  | k + 1 => scan1 (bu1 V c (k + 1)) (iblk1 V c 10 (pt1 (k + 2))) (iblk1 V c 11 (pt1 (k + 2)))
      (if (k + 1) % 8 = 0 then k1_pay21 else (out1 c k).2.1) (if (k + 1) % 8 = 0 then k1_pay22 else (out1 c k).2.2)

/-- What the carried buffers hold after `n` points. -/
def good1 (c : Dev nD) (n : ℕ) (g0 : Vec F S2x512x128 .f32) (g1 g2 : Vec F S1x128 .f32) : Prop :=
  (∀ k, n = k + 1 → k < 16 → ∀ (off : Fin S2x512x128.rank → ℕ) (h : ∀ a, off a + S1x512x128.size a ≤ S2x512x128.size a), off = ![k % 2, 0, 0] →
      VecWindow.window g0 off S1x512x128.size h = bu1 V c k)
    ∧ (∀ k, n = k + 2 → g1 = (out1 V c k).2.1 ∧ g2 = (out1 V c k).2.2)

theorem good1_zero (c : Dev nD) (g0 : Vec F S2x512x128 .f32) (g1 g2 : Vec F S1x128 .f32) : good1 V c 0 g0 g1 g2 :=
  ⟨fun k h => by omega, fun k h => by omega⟩

/-- The tile a point projects is the one its half of the buffer holds afterwards. -/
theorem new1 (c : Dev nD) (t : Fin cfg1.N) (x : Vec F S2x512x128 .f32) (k : ℕ) (hk : t.val + 1 = k + 1)
    (off : Fin S2x512x128.rank → ℕ) (h : ∀ a, off a + S1x512x128.size a ≤ S2x512x128.size a) (ho : off = ![k % 2, 0, 0]) :
    VecWindow.window (VecWindow.put x (k1_off1 (grid1.coords t)) S1x512x128.size (k1_pay5 (k1_pay9 (iblk1 V c 0 t) (iblk1 V c 1 t) (iblk1 V c 2 t) (iblk1 V c 3 t) (iblk1 V c 4 t) (iblk1 V c 5 t) (iblk1 V c 6 t)) (k1_pay10 (iblk1 V c 7 t)) (iblk1 V c 8 t) (k1_pay11 (iblk1 V c 9 t)))) off S1x512x128.size h = bu1 V c k := by
  obtain rfl : k = t.val := by omega
  obtain rfl : off = k1_off1 (grid1.coords t) := by rw [ho, k1_off1_eq, coord1]
  rw [VecWindow.window_put_same]
  unfold bu1; rw [pt1_val]

/-- The tile before is what the other half holds. -/
theorem old1 (c : Dev nD) (t : Fin cfg1.N) (ht : 1 ≤ t.val) (g0 : Vec F S2x512x128 .f32) (g1 g2 : Vec F S1x128 .f32)
    (hg : good1 V c t.val g0 g1 g2) (h : ∀ a, k1_off2 (grid1.coords t) a + S1x512x128.size a ≤ S2x512x128.size a) :
    VecWindow.window g0 (k1_off2 (grid1.coords t)) S1x512x128.size h = bu1 V c (t.val - 1) := by
  have := lt17_1 t
  exact hg.1 (t.val - 1) (by omega) (by omega) _ h (by rw [k1_off2_eq, coord1, show (t.val + 1) % 2 = (t.val - 1) % 2 from by omega])

theorem old_put1 (c : Dev nD) (t : Fin cfg1.N) (ht : 1 ≤ t.val) (g0 : Vec F S2x512x128 .f32) (g1 g2 : Vec F S1x128 .f32)
    (hg : good1 V c t.val g0 g1 g2) (w : FVec F S1x512x128 .f32) (h : ∀ a, k1_off2 (grid1.coords t) a + S1x512x128.size a ≤ S2x512x128.size a) :
    VecWindow.window (VecWindow.put g0 (k1_off1 (grid1.coords t)) S1x512x128.size w) (k1_off2 (grid1.coords t)) S1x512x128.size h = bu1 V c (t.val - 1) := by
  rw [VecWindow.window_put_of_disjoint _ _ _ _ _ _ _ (0 : Fin 3) ?_]
  · exact old1 V c t ht g0 g1 g2 hg h
  · rw [k1_off1_eq, k1_off2_eq, coord1]
    show (t.val + 1) % 2 + 1 ≤ t.val % 2 ∨ t.val % 2 + 1 ≤ (t.val + 1) % 2
    omega

theorem pt1_val_pt (k : ℕ) : (pt1 k).val = min k 16 := rfl

theorem scan_reset1 (c : Dev nD) (t : Fin cfg1.N) (ht : t.val % 8 = 1) :
    scan1 (bu1 V c (t.val - 1)) (iblk1 V c 10 t) (iblk1 V c 11 t) k1_pay21 k1_pay22 = out1 V c (t.val - 1) := by
  obtain ⟨k, hk⟩ : ∃ k, t.val = k + 1 := ⟨t.val - 1, by omega⟩
  have hl := lt17_1 t
  rw [← pt1_val t, hk, show (pt1 (k + 1)).val - 1 = k from by show min (k + 1) 16 - 1 = k; omega]
  cases k with
  | zero => rfl
  | succ k => show _ = out1 V c (k + 1); rw [out1, if_pos (by omega), if_pos (by omega)]

theorem scan_carry1 (c : Dev nD) (t : Fin cfg1.N) (ht : 1 ≤ t.val) (hr : ¬ t.val % 8 = 1) (g0 : Vec F S2x512x128 .f32) (g1 g2 : Vec F S1x128 .f32)
    (hg : good1 V c t.val g0 g1 g2) :
    scan1 (bu1 V c (t.val - 1)) (iblk1 V c 10 t) (iblk1 V c 11 t) g1 g2 = out1 V c (t.val - 1) := by
  obtain ⟨k, hk⟩ : ∃ k, t.val = k + 2 := ⟨t.val - 2, by omega⟩
  obtain ⟨h1, h2⟩ := hg.2 k hk
  have hl := lt17_1 t
  rw [h1, h2, ← pt1_val t, hk, show (pt1 (k + 2)).val - 1 = k + 1 from by show min (k + 2) 16 - 1 = k + 1; omega]
  show _ = out1 V c (k + 1); rw [out1, if_neg (by omega), if_neg (by omega)]

/-- A carried buffer, whole. -/
abbrev scM1_0 : Memref sig .tc .vmem S2x512x128 .f32 := Memref.whole cc1_scratch0
/-- A carried buffer, whole. -/
abbrev scM1_1 : Memref sig .tc .vmem S1x128 .f32 := Memref.whole cc1_scratch1
/-- A carried buffer, whole. -/
abbrev scM1_2 : Memref sig .tc .vmem S1x128 .f32 := Memref.whole cc1_scratch2

/-- What is kept between the points of call 1: the carried buffers at good contents, the other calls' buffers and the
    generator's register at anything. -/
def Inv1 (c : Dev nD) (n : ℕ) : sProp 𝕄 :=
  iprop((∃ g0 : Vec F S2x512x128 .f32, ∃ g1 : Vec F S1x128 .f32, ∃ g2 : Vec F S1x128 .f32, ⌜good1 V c n g0 g1 g2⌝
      ∗ owns (c : Thread nD τ) scM1_0 fullShare g0 ∗ owns (c : Thread nD τ) scM1_1 fullShare g1 ∗ owns (c : Thread nD τ) scM1_2 fullShare g2)
    ∗ Pipeline.scopedRestBut (Ix := Unit) (Name := ℕ) (U := UR sig nD τ) (Lvl := ℕ) (Val := Elt F) spec1 c [cc1_scratch0, cc1_scratch1, cc1_scratch2]
    ∗ (∃ r, prngReg c r))

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

/-- The proof data of call 1: the arrays as found; after the body each input's buffer at its block, each projection's at
    its tile's value, the scanned rows' at the tile before's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => k1_pay9 (iblk1 V c 0 (cap1 t)) (iblk1 V c 1 (cap1 t)) (iblk1 V c 2 (cap1 t)) (iblk1 V c 3 (cap1 t)) (iblk1 V c 4 (cap1 t)) (iblk1 V c 5 (cap1 t)) (iblk1 V c 6 (cap1 t))
    | ⟨13, _⟩ => k1_pay3 (k1_pay9 (iblk1 V c 0 (cap1 t)) (iblk1 V c 1 (cap1 t)) (iblk1 V c 2 (cap1 t)) (iblk1 V c 3 (cap1 t)) (iblk1 V c 4 (cap1 t)) (iblk1 V c 5 (cap1 t)) (iblk1 V c 6 (cap1 t))) (k1_pay10 (iblk1 V c 7 (cap1 t))) (iblk1 V c 8 (cap1 t))
    | ⟨14, _⟩ => k1_pay4 (k1_pay9 (iblk1 V c 0 (cap1 t)) (iblk1 V c 1 (cap1 t)) (iblk1 V c 2 (cap1 t)) (iblk1 V c 3 (cap1 t)) (iblk1 V c 4 (cap1 t)) (iblk1 V c 5 (cap1 t)) (iblk1 V c 6 (cap1 t))) (k1_pay10 (iblk1 V c 7 (cap1 t))) (iblk1 V c 8 (cap1 t))
    | ⟨15, _⟩ => (out1 V c (t.val - 1)).1
    | ⟨n + 16, h⟩ => absurd h (by show ¬ n + 16 < 16; omega)
  Φ t := Inv1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = k1_pay9 (iblk1 V c 0 (cap1 t)) (iblk1 V c 1 (cap1 t)) (iblk1 V c 2 (cap1 t)) (iblk1 V c 3 (cap1 t)) (iblk1 V c 4 (cap1 t)) (iblk1 V c 5 (cap1 t)) (iblk1 V c 6 (cap1 t)) := by dsimp only [dat1]
theorem after1_13 (c : Dev nD) (t : Fin cfg1.N) : (dat1 V c).after 13 t = k1_pay3 (k1_pay9 (iblk1 V c 0 (cap1 t)) (iblk1 V c 1 (cap1 t)) (iblk1 V c 2 (cap1 t)) (iblk1 V c 3 (cap1 t)) (iblk1 V c 4 (cap1 t)) (iblk1 V c 5 (cap1 t)) (iblk1 V c 6 (cap1 t))) (k1_pay10 (iblk1 V c 7 (cap1 t))) (iblk1 V c 8 (cap1 t)) := by dsimp only [dat1]
theorem after1_14 (c : Dev nD) (t : Fin cfg1.N) : (dat1 V c).after 14 t = k1_pay4 (k1_pay9 (iblk1 V c 0 (cap1 t)) (iblk1 V c 1 (cap1 t)) (iblk1 V c 2 (cap1 t)) (iblk1 V c 3 (cap1 t)) (iblk1 V c 4 (cap1 t)) (iblk1 V c 5 (cap1 t)) (iblk1 V c 6 (cap1 t))) (k1_pay10 (iblk1 V c 7 (cap1 t))) (iblk1 V c 8 (cap1 t)) := by dsimp only [dat1]
theorem after1_15 (c : Dev nD) (t : Fin cfg1.N) : (dat1 V c).after 15 t = (out1 V c (t.val - 1)).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)

theorem idle1_12 (t : Fin cfg1.N) : cfg1.idle 12 (cfg1.grid.coords t) = false ↔ t.val < 16 := by
  rw [← cond1_iff1 t]
  show (!(decide (k1_cond1 (grid1.coords t) = 1#1))) = false ↔ _
  simp

theorem flush1_12 (t : Fin cfg1.N) : (cfg1.win 12).flush t = false ↔ t.val = 15 := by
  revert t; decide +kernel

theorem idle1_13 (t : Fin cfg1.N) : cfg1.idle 13 (cfg1.grid.coords t) = false ↔ t.val < 16 := by
  rw [← cond1_iff1 t]
  show (!(decide (k1_cond1 (grid1.coords t) = 1#1))) = false ↔ _
  simp

theorem flush1_13 (t : Fin cfg1.N) : (cfg1.win 13).flush t = false ↔ t.val = 15 := by
  revert t; decide +kernel

theorem idle1_14 (t : Fin cfg1.N) : cfg1.idle 14 (cfg1.grid.coords t) = false ↔ t.val < 16 := by
  rw [← cond1_iff1 t]
  show (!(decide (k1_cond1 (grid1.coords t) = 1#1))) = false ↔ _
  simp

theorem flush1_14 (t : Fin cfg1.N) : (cfg1.win 14).flush t = false ↔ t.val = 15 := by
  revert t; decide +kernel

theorem idle1_15 (t : Fin cfg1.N) : cfg1.idle 15 (cfg1.grid.coords t) = false ↔ 1 ≤ t.val := by
  rw [← cond2_iff1 t]
  show (!(decide (k1_cond2 (grid1.coords t) = 1#1))) = false ↔ _
  simp

theorem flush1_15 (t : Fin cfg1.N) : (cfg1.win 15).flush t = false ↔ t.val = 0 := by
  revert t; decide +kernel

/-- At the last point the buffer holds what the point before left. -/
theorem kept1_12 (c : Dev nD) (t : Fin cfg1.N) (ht : t.val = 16) (d) : (dat1 V c).before 12 t d = (dat1 V c).after 12 t := by
  rw [(dat1 V c).before_of_pos 12 t (by omega) ((cfg1.win 12).fetch_out rfl t), (flush1_12 _).mpr (by show t.val - 1 = 15; omega), if_neg Bool.false_ne_true]
  unfold Dat.left
  rw [(idle1_12 _).mpr (by show t.val - 1 < 16; omega)]
  unfold Dat.kept
  rw [Pipeline.fill_of_clip_none 12 _ (fun _ => rfl) d ((dat1 V c).after 12 _), Window.fill_cut]
  rw [after1_12, after1_12, show cap1 ⟨t.val - 1, Nat.lt_of_le_of_lt (Nat.sub_le _ _) t.isLt⟩ = cap1 t from by
    unfold cap1; rw [show min (t.val - 1) 15 = min t.val 15 from by omega]]

/-- At the last point the buffer holds what the point before left. -/
theorem kept1_13 (c : Dev nD) (t : Fin cfg1.N) (ht : t.val = 16) (d) : (dat1 V c).before 13 t d = (dat1 V c).after 13 t := by
  rw [(dat1 V c).before_of_pos 13 t (by omega) ((cfg1.win 13).fetch_out rfl t), (flush1_13 _).mpr (by show t.val - 1 = 15; omega), if_neg Bool.false_ne_true]
  unfold Dat.left
  rw [(idle1_13 _).mpr (by show t.val - 1 < 16; omega)]
  unfold Dat.kept
  rw [Pipeline.fill_of_clip_none 13 _ (fun _ => rfl) d ((dat1 V c).after 13 _), Window.fill_cut]
  rw [after1_13, after1_13, show cap1 ⟨t.val - 1, Nat.lt_of_le_of_lt (Nat.sub_le _ _) t.isLt⟩ = cap1 t from by
    unfold cap1; rw [show min (t.val - 1) 15 = min t.val 15 from by omega]]

/-- At the last point the buffer holds what the point before left. -/
theorem kept1_14 (c : Dev nD) (t : Fin cfg1.N) (ht : t.val = 16) (d) : (dat1 V c).before 14 t d = (dat1 V c).after 14 t := by
  rw [(dat1 V c).before_of_pos 14 t (by omega) ((cfg1.win 14).fetch_out rfl t), (flush1_14 _).mpr (by show t.val - 1 = 15; omega), if_neg Bool.false_ne_true]
  unfold Dat.left
  rw [(idle1_14 _).mpr (by show t.val - 1 < 16; omega)]
  unfold Dat.kept
  rw [Pipeline.fill_of_clip_none 14 _ (fun _ => rfl) d ((dat1 V c).after 14 _), Window.fill_cut]
  rw [after1_14, after1_14, show cap1 ⟨t.val - 1, Nat.lt_of_le_of_lt (Nat.sub_le _ _) t.isLt⟩ = cap1 t from by
    unfold cap1; rw [show min (t.val - 1) 15 = min t.val 15 from by omega]]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ (dat1 V c).leavesExact 12 t
    ∗ (dat1 V c).leavesExact 13 t
    ∗ (dat1 V c).leavesExact 14 t
    ∗ (dat1 V c).leavesExact 15 t)

set_option maxHeartbeats 4000000 in
/-- At the first point. -/
theorem sound1_A (c : Dev nD) (t : Fin cfg1.N) (h0 : t.val = 0) :
    bodyPre1 V c t ⊢ wp frame (wpE (defs₀ (F := F)) Variants.none c none) Set.univ (bodyAt1 t) (fun _ => bodyPost1 V c t) := by
  have c1 : k1_cond1 (grid1.coords t) = 1#1 := (cond1_iff1 t).mpr (by omega)
  have c2 : ¬ k1_cond2 (grid1.coords t) = 1#1 := fun h => absurd ((cond2_iff1 t).mp h) (by omega)
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl]
  rw [show (dat1 V c).Φ t.succ = Inv1 V c (t.val + 1) from rfl, show (dat1 V c).Φ t.castSucc = Inv1 V c t.val from rfl]
  rw [after1_0, after1_1, after1_2, after1_3, after1_4, after1_5, after1_6, after1_7, after1_8, after1_9, after1_10, after1_11]
  rw [show (dat1 V c).leavesExact 12 t = owns (c : Thread nD τ) (st1_12 t) fullShare ((dat1 V c).after 12 t) from by unfold Dat.leavesExact; rw [(idle1_12 t).mpr (by omega)], after1_12]
  rw [show (dat1 V c).leavesExact 13 t = owns (c : Thread nD τ) (st1_13 t) fullShare ((dat1 V c).after 13 t) from by unfold Dat.leavesExact; rw [(idle1_13 t).mpr (by omega)], after1_13]
  rw [show (dat1 V c).leavesExact 14 t = owns (c : Thread nD τ) (st1_14 t) fullShare ((dat1 V c).after 14 t) from by unfold Dat.leavesExact; rw [(idle1_14 t).mpr (by omega)], after1_14]
  rw [cap1_lt t (by omega)]
  have i15 : cfg1.idle 15 (cfg1.grid.coords t) = true := by
    by_contra h; exact absurd ((idle1_15 t).mp (by simpa using h)) (by omega)
  rw [show (dat1 V c).leavesExact 15 t = iprop(∃ d, owns (c : Thread nD τ) (st1_15 t) fullShare ((dat1 V c).before 15 t d)) from by unfold Dat.leavesExact; rw [i15, (flush1_15 t).mpr h0]]
  unfold Inv1
  iintro ⟨⟨⟨%g0, %g1, %g2, %hg, G0, G1, G2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run1_A c (grid1.coords t) _ _ _ _ _ _ _ _ _ _ _ _ _ _ _ _ _ _ _ _ _ _ _ _ _ _ _ _ _ _ _ _ _ _ _ _ _ _ c1 c2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) ((dat1 V c).before 12 t d12) ((dat1 V c).before 13 t d13) ((dat1 V c).before 14 t d14) ((dat1 V c).before 15 t d15) g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [G0]; · iexact G0
  isplitl [G1]; · iexact G1
  isplitl [G2]; · iexact G2
  iintro ⟨H0, H1, H2, H3, H4, H5, H6, H7, H8, H9, H10, H11, H12, H13, H14, H15, G0, G1, G2⟩
  isplitl [G0 G1 G2 HR Hg]
  · isplitl [G0 G1 G2]
    · iexists _; iexists _; iexists _
      isplitr
      swap
      · isplitl [G0]; · iexact G0
        isplitl [G1]; · iexact G1
        iexact G2
      ipureintro
      refine ⟨fun k hk hk' off h ho => new1 V c t g0 k hk off h ho, fun k hk => ?_⟩
      omega
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

set_option maxHeartbeats 4000000 in
/-- At a point that begins a sequence. -/
theorem sound1_B (c : Dev nD) (t : Fin cfg1.N) (h1 : t.val < 16) (h2 : 1 ≤ t.val) (h3 : t.val % 8 = 1) :
    bodyPre1 V c t ⊢ wp frame (wpE (defs₀ (F := F)) Variants.none c none) Set.univ (bodyAt1 t) (fun _ => bodyPost1 V c t) := by
  have c1 : k1_cond1 (grid1.coords t) = 1#1 := (cond1_iff1 t).mpr (by omega)
  have c2 : k1_cond2 (grid1.coords t) = 1#1 := (cond2_iff1 t).mpr (by omega)
  have c3 : reset1 (grid1.coords t) := (reset_iff1 t).mpr h3
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl]
  rw [show (dat1 V c).Φ t.succ = Inv1 V c (t.val + 1) from rfl, show (dat1 V c).Φ t.castSucc = Inv1 V c t.val from rfl]
  rw [after1_0, after1_1, after1_2, after1_3, after1_4, after1_5, after1_6, after1_7, after1_8, after1_9, after1_10, after1_11]
  rw [show (dat1 V c).leavesExact 12 t = owns (c : Thread nD τ) (st1_12 t) fullShare ((dat1 V c).after 12 t) from by unfold Dat.leavesExact; rw [(idle1_12 t).mpr (by omega)], after1_12]
  rw [show (dat1 V c).leavesExact 13 t = owns (c : Thread nD τ) (st1_13 t) fullShare ((dat1 V c).after 13 t) from by unfold Dat.leavesExact; rw [(idle1_13 t).mpr (by omega)], after1_13]
  rw [show (dat1 V c).leavesExact 14 t = owns (c : Thread nD τ) (st1_14 t) fullShare ((dat1 V c).after 14 t) from by unfold Dat.leavesExact; rw [(idle1_14 t).mpr (by omega)], after1_14]
  rw [cap1_lt t (by omega)]
  rw [show (dat1 V c).leavesExact 15 t = owns (c : Thread nD τ) (st1_15 t) fullShare ((dat1 V c).after 15 t) from by unfold Dat.leavesExact; rw [(idle1_15 t).mpr (by omega)], after1_15]
  unfold Inv1
  iintro ⟨⟨⟨%g0, %g1, %g2, %hg, G0, G1, G2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hS : scan1 (VecWindow.window (VecWindow.put g0 (k1_off1 (grid1.coords t)) S1x512x128.size (k1_pay5 (k1_pay9 (iblk1 V c 0 t) (iblk1 V c 1 t) (iblk1 V c 2 t) (iblk1 V c 3 t) (iblk1 V c 4 t) (iblk1 V c 5 t) (iblk1 V c 6 t)) (k1_pay10 (iblk1 V c 7 t)) (iblk1 V c 8 t) (k1_pay11 (iblk1 V c 9 t)))) (k1_off2 (grid1.coords t)) S1x512x128.size (k1_off2_inb (grid1.coords t) c2)) (iblk1 V c 10 t) (iblk1 V c 11 t) k1_pay21 k1_pay22 = out1 V c (t.val - 1) := by
    rw [old_put1 V c t h2 g0 g1 g2 hg]; exact scan_reset1 V c t h3
  iapply (run1_B c (grid1.coords t) _ _ _ _ _ _ _ _ _ _ _ _ _ _ _ _ _ _ _ _ _ _ _ _ _ _ _ _ _ _ _ _ _ _ _ _ _ _ c1 c2 c3 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) ((dat1 V c).before 12 t d12) ((dat1 V c).before 13 t d13) ((dat1 V c).before 14 t d14) ((dat1 V c).before 15 t d15) g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [G0]; · iexact G0
  isplitl [G1]; · iexact G1
  isplitl [G2]; · iexact G2
  iintro ⟨H0, H1, H2, H3, H4, H5, H6, H7, H8, H9, H10, H11, H12, H13, H14, H15, G0, G1, G2⟩
  isplitl [G0 G1 G2 HR Hg]
  · isplitl [G0 G1 G2]
    · iexists _; iexists _; iexists _
      isplitr
      swap
      · isplitl [G0]; · iexact G0
        isplitl [G1]; · iexact G1
        iexact G2
      ipureintro
      refine ⟨fun k hk hk' off h ho => new1 V c t g0 k hk off h ho, fun k hk => ?_⟩
      obtain rfl : k = t.val - 1 := by omega
      rw [hS]; exact ⟨rfl, rfl⟩
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  rw [← hS]; iexact H15

set_option maxHeartbeats 4000000 in
/-- At any other point that projects and scans. -/
theorem sound1_C (c : Dev nD) (t : Fin cfg1.N) (h1 : t.val < 16) (h2 : 1 ≤ t.val) (h3 : ¬ t.val % 8 = 1) :
    bodyPre1 V c t ⊢ wp frame (wpE (defs₀ (F := F)) Variants.none c none) Set.univ (bodyAt1 t) (fun _ => bodyPost1 V c t) := by
  have c1 : k1_cond1 (grid1.coords t) = 1#1 := (cond1_iff1 t).mpr (by omega)
  have c2 : k1_cond2 (grid1.coords t) = 1#1 := (cond2_iff1 t).mpr (by omega)
  have c3 : ¬ reset1 (grid1.coords t) := fun h => h3 ((reset_iff1 t).mp h)
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl]
  rw [show (dat1 V c).Φ t.succ = Inv1 V c (t.val + 1) from rfl, show (dat1 V c).Φ t.castSucc = Inv1 V c t.val from rfl]
  rw [after1_0, after1_1, after1_2, after1_3, after1_4, after1_5, after1_6, after1_7, after1_8, after1_9, after1_10, after1_11]
  rw [show (dat1 V c).leavesExact 12 t = owns (c : Thread nD τ) (st1_12 t) fullShare ((dat1 V c).after 12 t) from by unfold Dat.leavesExact; rw [(idle1_12 t).mpr (by omega)], after1_12]
  rw [show (dat1 V c).leavesExact 13 t = owns (c : Thread nD τ) (st1_13 t) fullShare ((dat1 V c).after 13 t) from by unfold Dat.leavesExact; rw [(idle1_13 t).mpr (by omega)], after1_13]
  rw [show (dat1 V c).leavesExact 14 t = owns (c : Thread nD τ) (st1_14 t) fullShare ((dat1 V c).after 14 t) from by unfold Dat.leavesExact; rw [(idle1_14 t).mpr (by omega)], after1_14]
  rw [cap1_lt t (by omega)]
  rw [show (dat1 V c).leavesExact 15 t = owns (c : Thread nD τ) (st1_15 t) fullShare ((dat1 V c).after 15 t) from by unfold Dat.leavesExact; rw [(idle1_15 t).mpr (by omega)], after1_15]
  unfold Inv1
  iintro ⟨⟨⟨%g0, %g1, %g2, %hg, G0, G1, G2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hS : scan1 (VecWindow.window (VecWindow.put g0 (k1_off1 (grid1.coords t)) S1x512x128.size (k1_pay5 (k1_pay9 (iblk1 V c 0 t) (iblk1 V c 1 t) (iblk1 V c 2 t) (iblk1 V c 3 t) (iblk1 V c 4 t) (iblk1 V c 5 t) (iblk1 V c 6 t)) (k1_pay10 (iblk1 V c 7 t)) (iblk1 V c 8 t) (k1_pay11 (iblk1 V c 9 t)))) (k1_off2 (grid1.coords t)) S1x512x128.size (k1_off2_inb (grid1.coords t) c2)) (iblk1 V c 10 t) (iblk1 V c 11 t) g1 g2 = out1 V c (t.val - 1) := by
    rw [old_put1 V c t h2 g0 g1 g2 hg]; exact scan_carry1 V c t h2 h3 g0 g1 g2 hg
  iapply (run1_C c (grid1.coords t) _ _ _ _ _ _ _ _ _ _ _ _ _ _ _ _ _ _ _ _ _ _ _ _ _ _ _ _ _ _ _ _ _ _ _ _ _ _ c1 c2 c3 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) ((dat1 V c).before 12 t d12) ((dat1 V c).before 13 t d13) ((dat1 V c).before 14 t d14) ((dat1 V c).before 15 t d15) g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [G0]; · iexact G0
  isplitl [G1]; · iexact G1
  isplitl [G2]; · iexact G2
  iintro ⟨H0, H1, H2, H3, H4, H5, H6, H7, H8, H9, H10, H11, H12, H13, H14, H15, G0, G1, G2⟩
  isplitl [G0 G1 G2 HR Hg]
  · isplitl [G0 G1 G2]
    · iexists _; iexists _; iexists _
      isplitr
      swap
      · isplitl [G0]; · iexact G0
        isplitl [G1]; · iexact G1
        iexact G2
      ipureintro
      refine ⟨fun k hk hk' off h ho => new1 V c t g0 k hk off h ho, fun k hk => ?_⟩
      obtain rfl : k = t.val - 1 := by omega
      rw [hS]; exact ⟨rfl, rfl⟩
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  rw [← hS]; iexact H15

set_option maxHeartbeats 4000000 in
/-- At the last point. -/
theorem sound1_D (c : Dev nD) (t : Fin cfg1.N) (h0 : t.val = 16) :
    bodyPre1 V c t ⊢ wp frame (wpE (defs₀ (F := F)) Variants.none c none) Set.univ (bodyAt1 t) (fun _ => bodyPost1 V c t) := by
  have c1 : ¬ k1_cond1 (grid1.coords t) = 1#1 := fun h => absurd ((cond1_iff1 t).mp h) (by omega)
  have c2 : k1_cond2 (grid1.coords t) = 1#1 := (cond2_iff1 t).mpr (by omega)
  have h2 : 1 ≤ t.val := by omega
  have h3 : ¬ t.val % 8 = 1 := by omega
  have c3 : ¬ reset1 (grid1.coords t) := fun h => h3 ((reset_iff1 t).mp h)
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl]
  rw [show (dat1 V c).Φ t.succ = Inv1 V c (t.val + 1) from rfl, show (dat1 V c).Φ t.castSucc = Inv1 V c t.val from rfl]
  rw [after1_0, after1_1, after1_2, after1_3, after1_4, after1_5, after1_6, after1_7, after1_8, after1_9, after1_10, after1_11]
  have i12 : cfg1.idle 12 (cfg1.grid.coords t) = true := by
    by_contra h; exact absurd ((idle1_12 t).mp (by simpa using h)) (by omega)
  have f12 : (cfg1.win 12).flush t = true := by
    by_contra h; exact absurd ((flush1_12 t).mp (by simpa using h)) (by omega)
  rw [show (dat1 V c).leavesExact 12 t = owns (c : Thread nD τ) (st1_12 t) fullShare ((dat1 V c).after 12 t) from by unfold Dat.leavesExact; rw [i12, f12]]
  simp only [kept1_12 V c t h0]
  have i13 : cfg1.idle 13 (cfg1.grid.coords t) = true := by
    by_contra h; exact absurd ((idle1_13 t).mp (by simpa using h)) (by omega)
  have f13 : (cfg1.win 13).flush t = true := by
    by_contra h; exact absurd ((flush1_13 t).mp (by simpa using h)) (by omega)
  rw [show (dat1 V c).leavesExact 13 t = owns (c : Thread nD τ) (st1_13 t) fullShare ((dat1 V c).after 13 t) from by unfold Dat.leavesExact; rw [i13, f13]]
  simp only [kept1_13 V c t h0]
  have i14 : cfg1.idle 14 (cfg1.grid.coords t) = true := by
    by_contra h; exact absurd ((idle1_14 t).mp (by simpa using h)) (by omega)
  have f14 : (cfg1.win 14).flush t = true := by
    by_contra h; exact absurd ((flush1_14 t).mp (by simpa using h)) (by omega)
  rw [show (dat1 V c).leavesExact 14 t = owns (c : Thread nD τ) (st1_14 t) fullShare ((dat1 V c).after 14 t) from by unfold Dat.leavesExact; rw [i14, f14]]
  simp only [kept1_14 V c t h0]
  rw [show (dat1 V c).leavesExact 15 t = owns (c : Thread nD τ) (st1_15 t) fullShare ((dat1 V c).after 15 t) from by unfold Dat.leavesExact; rw [(idle1_15 t).mpr (by omega)], after1_15]
  unfold Inv1
  iintro ⟨⟨⟨%g0, %g1, %g2, %hg, G0, G1, G2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hS : scan1 (VecWindow.window g0 (k1_off2 (grid1.coords t)) S1x512x128.size (k1_off2_inb (grid1.coords t) c2)) (iblk1 V c 10 t) (iblk1 V c 11 t) g1 g2 = out1 V c (t.val - 1) := by
    rw [old1 V c t h2 g0 g1 g2 hg]; exact scan_carry1 V c t h2 h3 g0 g1 g2 hg
  iapply (run1_D c (grid1.coords t) _ _ _ _ _ _ _ _ _ _ _ _ _ _ _ _ _ _ _ _ _ _ _ _ _ _ _ _ _ _ _ _ _ _ _ _ _ _ c1 c2 c3 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) ((dat1 V c).after 12 t) ((dat1 V c).after 13 t) ((dat1 V c).after 14 t) ((dat1 V c).before 15 t d15) g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [G0]; · iexact G0
  isplitl [G1]; · iexact G1
  isplitl [G2]; · iexact G2
  iintro ⟨H0, H1, H2, H3, H4, H5, H6, H7, H8, H9, H10, H11, H12, H13, H14, H15, G0, G1, G2⟩
  isplitl [G0 G1 G2 HR Hg]
  · isplitl [G0 G1 G2]
    · iexists _; iexists _; iexists _
      isplitr
      swap
      · isplitl [G0]; · iexact G0
        isplitl [G1]; · iexact G1
        iexact G2
      ipureintro
      refine ⟨fun k hk hk' => by omega, fun k hk => ?_⟩
      obtain rfl : k = t.val - 1 := by omega
      rw [hS]; exact ⟨rfl, rfl⟩
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  rw [← hS]; iexact H15

theorem sound_body1 (c : Dev nD) (t : Fin cfg1.N) :
    bodyPre1 V c t ⊢ wp frame (wpE (defs₀ (F := F)) Variants.none c none) Set.univ (bodyAt1 t) (fun _ => bodyPost1 V c t) := by
  have := lt17_1 t
  by_cases h0 : t.val = 0
  · exact sound1_A V c t h0
  by_cases h1 : t.val < 16
  · by_cases h3 : t.val % 8 = 1
    · exact sound1_B V c t h1 (by omega) h3
    · exact sound1_C V c t h1 (by omega) h3
  · exact sound1_D V c t (by omega)

theorem defs₀_row1 (t : Fin cfg1.N) : defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- Before the first point nothing is asked of the carried buffers. -/
theorem hin1 (c : Dev nD) : (Pipeline.ΦA spec1 c : sProp 𝕄) ⊢ (dat1 V c).Φ 0 := by
  rw [show (dat1 V c).Φ 0 = Inv1 V c 0 from rfl, PhiA1_eq]; unfold Inv1
  iintro ⟨⟨⟨⟨%g0, G0⟩, ⟨%g1, G1⟩, ⟨%g2, G2⟩⟩, HR⟩, Hg⟩
  isplitl [G0 G1 G2]
  · iexists g0; iexists g1; iexists g2
    isplitr; · ipureintro; exact good1_zero V c g0 g1 g2
    isplitl [G0]; · iexact G0
    isplitl [G1]; · iexact G1
    iexact G2
  isplitl [HR]; · iexact HR
  iexact Hg

/-- After the last point what they hold is forgotten. -/
theorem hout1 (c : Dev nD) : (dat1 V c).Φ (Fin.last cfg1.N) ⊢ (Pipeline.ΦA spec1 c : sProp 𝕄) := by
  rw [show (dat1 V c).Φ (Fin.last cfg1.N) = Inv1 V c (Fin.last cfg1.N).val from rfl, PhiA1_eq]; unfold Inv1
  iintro ⟨⟨%g0, %g1, %g2, -, G0, G1, G2⟩, HR, Hg⟩
  isplitl [G0 G1 G2 HR]
  · isplitl [G0 G1 G2]
    · isplitl [G0]; · iexists g0; iexact G0
      isplitl [G1]; · iexists g1; iexact G1
      iexists g2; iexact G2
    iexact HR
  iexact Hg

end Cert.KernelIdeal.Own

end
-- ==== Proof.K.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.VecWindow
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (r : Ref sig .tc) → Buf (Elt F) ((c : Thread nD τ).loc r))

/-! # Call 2: its body, and the body's obligation -/

set_option maxHeartbeats 4000000 in
/-- The body of call 2 stores one value of its inputs. -/
theorem run2 (c : Dev nD) (i : grid2.Coords) (arg1 : Memref sig .tc .vmem S512x1024 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x1024 .f32) (harg7 : arg7.IsWhole) (arg8 : Memref sig .tc .vmem S1x1024 .f32) (harg8 : arg8.IsWhole) (arg9 : Memref sig .tc .vmem S512x1024 .f32) (harg9 : arg9.IsWhole)
    (x0 : Vec F S512x1024 .f32) (x1 : Vec F S512x2048 .bf16) (x2 : Vec F S512x2048 .bf16) (x3 : Vec F S512x128 .f32) (x4 : Vec F S128x2048 .f32) (x5 : Vec F S1x2048 .f32) (x6 : Vec F S2048x1024 .f32) (x7 : Vec F S1x1024 .f32) (x8 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k2_pay1 x0 x1 x2 x3 x4 x5 x6 x7)) -∗ K ⟨⟩))
    ⊢ wp frame (wpE (defs₀ (F := F)) Variants.none c none) E (cc2__c3_body i arg1 harg1 arg2 harg2 arg3 harg3 arg4 harg4 arg5 harg5 arg6 harg6 arg7 harg7 arg8 harg8 arg9 harg9) K := by
  simp only [cc2__c3_body_eq_skeleton]; unfold cc2__c3_body_skel
  simp only [k2_part1_eq_skeleton]
  simp only [owns_eq_rep]
  iintro ⟨H0, H1, H2, H3, H4, H5, H6, H7, H8, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← owns_eq_rep]; unfold owns; iexists _; isplitr; swap; · iexact H8
  ipureintro; rw [View.read_writes_full]
  refine Eq.trans (b := k2_pay1 (arg1.view.readAt (Elt F) (Rect.unit (s := S512x1024) ![0, 0] S512x1024.size inb_S512x1024_S512x1024_0_0).toLoadRect (arg1.view.rep x0)) (arg2.view.readAt (Elt F) (Rect.unit (s := S512x2048) ![0, 0] S512x2048.size inb_S512x2048_S512x2048_0_0).toLoadRect (arg2.view.rep x1)) (arg3.view.readAt (Elt F) (Rect.unit (s := S512x2048) ![0, 0] S512x2048.size inb_S512x2048_S512x2048_0_0).toLoadRect (arg3.view.rep x2)) (arg4.view.readAt (Elt F) (Rect.unit (s := S512x128) ![0, 0] S512x128.size inb_S512x128_S512x128_0_0).toLoadRect (arg4.view.rep x3)) (arg5.view.readAt (Elt F) (Rect.unit (s := S128x2048) ![0, 0] S128x2048.size inb_S128x2048_S128x2048_0_0).toLoadRect (arg5.view.rep x4)) (arg6.view.readAt (Elt F) (Rect.unit (s := S1x2048) ![0, 0] S1x2048.size inb_S1x2048_S1x2048_0_0).toLoadRect (arg6.view.rep x5)) (arg7.view.readAt (Elt F) (Rect.unit (s := S2048x1024) ![0, 0] S2048x1024.size inb_S2048x1024_S2048x1024_0_0).toLoadRect (arg7.view.rep x6)) (arg8.view.readAt (Elt F) (Rect.unit (s := S1x1024) ![0, 0] S1x1024.size inb_S1x1024_S1x1024_0_0).toLoadRect (arg8.view.rep x7))) ?_ ?_
  · rfl
  · rw [show (arg1.view.readAt (Elt F) (Rect.unit (s := S512x1024) ![0, 0] S512x1024.size inb_S512x1024_S512x1024_0_0).toLoadRect (arg1.view.rep x0)) = x0 from View.readAt_rep_full _ _ _, show (arg2.view.readAt (Elt F) (Rect.unit (s := S512x2048) ![0, 0] S512x2048.size inb_S512x2048_S512x2048_0_0).toLoadRect (arg2.view.rep x1)) = x1 from View.readAt_rep_full _ _ _, show (arg3.view.readAt (Elt F) (Rect.unit (s := S512x2048) ![0, 0] S512x2048.size inb_S512x2048_S512x2048_0_0).toLoadRect (arg3.view.rep x2)) = x2 from View.readAt_rep_full _ _ _, show (arg4.view.readAt (Elt F) (Rect.unit (s := S512x128) ![0, 0] S512x128.size inb_S512x128_S512x128_0_0).toLoadRect (arg4.view.rep x3)) = x3 from View.readAt_rep_full _ _ _, show (arg5.view.readAt (Elt F) (Rect.unit (s := S128x2048) ![0, 0] S128x2048.size inb_S128x2048_S128x2048_0_0).toLoadRect (arg5.view.rep x4)) = x4 from View.readAt_rep_full _ _ _, show (arg6.view.readAt (Elt F) (Rect.unit (s := S1x2048) ![0, 0] S1x2048.size inb_S1x2048_S1x2048_0_0).toLoadRect (arg6.view.rep x5)) = x5 from View.readAt_rep_full _ _ _, show (arg7.view.readAt (Elt F) (Rect.unit (s := S2048x1024) ![0, 0] S2048x1024.size inb_S2048x1024_S2048x1024_0_0).toLoadRect (arg7.view.rep x6)) = x6 from View.readAt_rep_full _ _ _, show (arg8.view.readAt (Elt F) (Rect.unit (s := S1x1024) ![0, 0] S1x1024.size inb_S1x1024_S1x1024_0_0).toLoadRect (arg8.view.rep x7)) = x7 from View.readAt_rep_full _ _ _]

/-- Window `w`'s block at point `t`, in the contents the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of call 2. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay1 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = k2_pay1 (iblk2 V c 0 t) (iblk2 V c 1 t) (iblk2 V c 2 t) (iblk2 V c 3 t) (iblk2 V c 4 t) (iblk2 V c 5 t) (iblk2 V c 6 t) (iblk2 V c 7 t) := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = (dat2 V c).Φ t.castSucc from rfl]
  rw [after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run2 c (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) ((dat2 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row2 (t : Fin cfg2.N) : defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

end Cert.KernelIdeal.Own

end
-- ==== Proof.K.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.K.Region0
public import proofs.«01_k».proof.Proof.K.Region1
public import proofs.«01_k».proof.Proof.K.Region2
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: the contents at the boundary of each stretch, and its run -/

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

theorem args_h0 : ∀ a ∈ argRefs, a ∉ hostOps0_W := ListAll.forall_mem_of_all_decide (by decide +kernel)
/-- After host stretch 0. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (args_h0 a ha)).trans (W0_args m ρ c a ha)
/-- The same at the core's own references. -/
abbrev U1 : (c : Dev nD) → (b : Ref sig .tc) → Buf (Elt F) ((c : Thread nD τ).loc b) := fun c b => W1 m ρ c b

/-- After call 0: its arrays at what it leaves there, every other buffer as it was. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What is no output of the call keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (U1 m ρ) c).arrAt_in w (h w rfl) _).trans (A_eq0 (U1 m ρ) c w))
  · exact W2_of_ne m ρ c r fun w e => hw ⟨w, e⟩
theorem args_r0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (args_r0 a ha)).trans (W1_args m ρ c a ha)
abbrev U2 : (c : Dev nD) → (b : Ref sig .tc) → Buf (Elt F) ((c : Thread nD τ).loc b) := fun c b => W2 m ρ c b
theorem arr_exit0 (c : Dev nD) (w : Fin cfg0.W) : (dat0 (U1 m ρ) c).arrAt w cfg0.N = U2 m ρ c (Pipeline.arrRef spec0 w) :=
  (W2_arr m ρ c w).symm
theorem rest_exit0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

theorem args_h1 : ∀ a ∈ argRefs, a ∉ hostOps1_W := ListAll.forall_mem_of_all_decide (by decide +kernel)
/-- After host stretch 1. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (args_h1 a ha)).trans (W2_args m ρ c a ha)
/-- The same at the core's own references. -/
abbrev U3 : (c : Dev nD) → (b : Ref sig .tc) → Buf (Elt F) ((c : Thread nD τ).loc b) := fun c b => W3 m ρ c b

/-- After call 1: its arrays at what it leaves there, every other buffer as it was. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What is no output of the call keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (U3 m ρ) c).arrAt_in w (h w rfl) _).trans (A_eq1 (U3 m ρ) c w))
  · exact W4_of_ne m ρ c r fun w e => hw ⟨w, e⟩
theorem args_r1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (args_r1 a ha)).trans (W3_args m ρ c a ha)
abbrev U4 : (c : Dev nD) → (b : Ref sig .tc) → Buf (Elt F) ((c : Thread nD τ).loc b) := fun c b => W4 m ρ c b
theorem arr_exit1 (c : Dev nD) (w : Fin cfg1.W) : (dat1 (U3 m ρ) c).arrAt w cfg1.N = U4 m ρ c (Pipeline.arrRef spec1 w) :=
  (W4_arr m ρ c w).symm
theorem rest_exit1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

theorem args_h2 : ∀ a ∈ argRefs, a ∉ hostOps2_W := ListAll.forall_mem_of_all_decide (by decide +kernel)
/-- After host stretch 2. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (args_h2 a ha)).trans (W4_args m ρ c a ha)
/-- The same at the core's own references. -/
abbrev U5 : (c : Dev nD) → (b : Ref sig .tc) → Buf (Elt F) ((c : Thread nD τ).loc b) := fun c b => W5 m ρ c b

/-- After call 2: its arrays at what it leaves there, every other buffer as it was. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- What is no output of the call keeps its contents. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (U5 m ρ) c).arrAt_in w (h w rfl) _).trans (A_eq2 (U5 m ρ) c w))
  · exact W6_of_ne m ρ c r fun w e => hw ⟨w, e⟩
theorem args_r2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (args_r2 a ha)).trans (W5_args m ρ c a ha)
abbrev U6 : (c : Dev nD) → (b : Ref sig .tc) → Buf (Elt F) ((c : Thread nD τ).loc b) := fun c b => W6 m ρ c b
theorem arr_exit2 (c : Dev nD) (w : Fin cfg2.W) : (dat2 (U5 m ρ) c).arrAt w cfg2.N = U6 m ρ c (Pipeline.arrRef spec2 w) :=
  (W6_arr m ρ c w).symm
theorem rest_exit2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

theorem args_h3 : ∀ a ∈ argRefs, a ∉ hostOps3_W := ListAll.forall_mem_of_all_decide (by decide +kernel)
/-- After host stretch 3. -/
abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (args_h3 a ha)).trans (W6_args m ρ c a ha)
/-- The same at the core's own references. -/
abbrev U7 : (c : Dev nD) → (b : Ref sig .tc) → Buf (Elt F) ((c : Thread nD τ).loc b) := fun c b => W7 m ρ c b

/-! ## The calls and stretches as segments -/

abbrev adm : (p : Fin 3) → (pcfgs (F := F) p).Adm := fun p => (cfgs p).toPCfg_adm
/-- Each call's proof data, at the contents it finds. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev noVar : Variants := Variants.none
abbrev noIx : GSem nD τ sig → Finset Unit := fun _ => ∅
abbrev noLv : GSem nD τ sig → Unit → ℕ := fun _ _ => 0
/-- What rides beside the buffers: the generator's register, and that nothing is owed. -/
abbrev Side (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noIx noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state after the last stretch. -/
abbrev Last (c : Dev nD) : sProp 𝕄 := iprop(StableHlo.held (c : Thread nD τ) (Pipeline.ucRefs τ sig) (W7 m ρ c) ∗ ∃ r, prngReg c r)

set_option backward.isDefEq.respectTransparency.types false in
/-- Call 0 as a segment. -/
def reg0 : Pipeline.RegionSeg (pcfgs (F := F)) adm (pdats m ρ) () defs₀ noVar noIx noLv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ noIx noLv 0 fun _ _ => rfl
  pre c := iprop(StableHlo.held (c : Thread nD τ) (Pipeline.ucRefs τ sig) (W1 m ρ c) ∗ Side c)
  post c := iprop(StableHlo.held (c : Thread nD τ) (Pipeline.ucRefs τ sig) (W2 m ρ c) ∗ Side c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m ρ) c)
    unfold Pipeline.ΦA
    iintro ⟨Hp, -, Hr⟩
    isplitl [Hr]; · iexact Hr
    iexact Hp
  hout c := by
    rw [Pipeline.ownSems0_none]
    refine BIBase.Entails.trans (hout0 (U1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (arr_exit0 m ρ c) (rest_exit0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment. -/
def reg1 : Pipeline.RegionSeg (pcfgs (F := F)) adm (pdats m ρ) () defs₀ noVar noIx noLv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ noIx noLv 1 fun _ _ => rfl
  pre c := iprop(StableHlo.held (c : Thread nD τ) (Pipeline.ucRefs τ sig) (W3 m ρ c) ∗ Side c)
  post c := iprop(StableHlo.held (c : Thread nD τ) (Pipeline.ucRefs τ sig) (W4 m ρ c) ∗ Side c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) (A_eq1 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U3 m ρ) c)
    unfold Pipeline.ΦA
    iintro ⟨Hp, -, Hr⟩
    isplitl [Hr]; · iexact Hr
    iexact Hp
  hout c := by
    rw [Pipeline.ownSems0_none]
    refine BIBase.Entails.trans (hout1 (U3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (arr_exit1 m ρ c) (rest_exit1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment. -/
def reg2 : Pipeline.RegionSeg (pcfgs (F := F)) adm (pdats m ρ) () defs₀ noVar noIx noLv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ noIx noLv 2 fun _ _ => rfl
  pre c := iprop(StableHlo.held (c : Thread nD τ) (Pipeline.ucRefs τ sig) (W5 m ρ c) ∗ Side c)
  post c := iprop(StableHlo.held (c : Thread nD τ) (Pipeline.ucRefs τ sig) (W6 m ρ c) ∗ Side c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) (A_eq2 (U5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U5 m ρ) c)
    unfold Pipeline.ΦA
    iintro ⟨Hp, -, Hr⟩
    isplitl [Hr]; · iexact Hr
    iexact Hp
  hout c := by
    rw [Pipeline.ownSems0_none]
    refine BIBase.Entails.trans (hout2 (U5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (arr_exit2 m ρ c) (rest_exit2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's stretches and calls, in order. -/
abbrev segs : List (Pipeline.Seg (pcfgs (F := F)) adm (pdats m ρ) () defs₀ noVar noIx noLv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)) ]
theorem main_run (c : Dev nD) : main (F := F) c = Pipeline.Seg.run (segs m ρ) :=
  main_segs adm (pdats m ρ) () noVar noIx noLv _ _ _ _ _ _ _ rfl rfl rfl rfl c

theorem no_unscoped : ∀ sm : SemLoc sig, sm.isScoped .tc = true := by decide

set_option backward.isDefEq.respectTransparency.types false in
/-- Every run of the program ends with every buffer that outlives it at the last boundary's contents and every counter at zero. -/
theorem run_all : θ_run defs (onTc (τ := τ) (main (F := F))) ⟨m, fun _ => 0, ρ⟩
    (fun r => (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ noVar noIx noLv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Side c)) (Tₙ := Last m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ Side c) ⊢ iprop(Last m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noIx noLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The arguments end as they were. -/
theorem args_kept {mem : (ℓ : Loc nD τ sig) → Buf (Elt F) ℓ} (c : Dev nD) (h : ∀ b ∈ Pipeline.ucRefs τ sig, mem (((c : Thread nD τ)).1, b) = W7 m ρ c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17) :=
  ⟨(h _ (mem_uc main_arg0 (by decide))).trans (W7_args m ρ c main_arg0 (by decide)),
   (h _ (mem_uc main_arg1 (by decide))).trans (W7_args m ρ c main_arg1 (by decide)),
   (h _ (mem_uc main_arg2 (by decide))).trans (W7_args m ρ c main_arg2 (by decide)),
   (h _ (mem_uc main_arg3 (by decide))).trans (W7_args m ρ c main_arg3 (by decide)),
   (h _ (mem_uc main_arg4 (by decide))).trans (W7_args m ρ c main_arg4 (by decide)),
   (h _ (mem_uc main_arg5 (by decide))).trans (W7_args m ρ c main_arg5 (by decide)),
   (h _ (mem_uc main_arg6 (by decide))).trans (W7_args m ρ c main_arg6 (by decide)),
   (h _ (mem_uc main_arg7 (by decide))).trans (W7_args m ρ c main_arg7 (by decide)),
   (h _ (mem_uc main_arg8 (by decide))).trans (W7_args m ρ c main_arg8 (by decide)),
   (h _ (mem_uc main_arg9 (by decide))).trans (W7_args m ρ c main_arg9 (by decide)),
   (h _ (mem_uc main_arg10 (by decide))).trans (W7_args m ρ c main_arg10 (by decide)),
   (h _ (mem_uc main_arg11 (by decide))).trans (W7_args m ρ c main_arg11 (by decide)),
   (h _ (mem_uc main_arg12 (by decide))).trans (W7_args m ρ c main_arg12 (by decide)),
   (h _ (mem_uc main_arg13 (by decide))).trans (W7_args m ρ c main_arg13 (by decide)),
   (h _ (mem_uc main_arg14 (by decide))).trans (W7_args m ρ c main_arg14 (by decide)),
   (h _ (mem_uc main_arg15 (by decide))).trans (W7_args m ρ c main_arg15 (by decide)),
   (h _ (mem_uc main_arg16 (by decide))).trans (W7_args m ρ c main_arg16 (by decide)),
   (h _ (mem_uc main_arg17 (by decide))).trans (W7_args m ρ c main_arg17 (by decide))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => args_kept m ρ c (h.1 c), h.2⟩) (run_all m ρ)

end Cert.KernelIdeal.Own

end
-- ==== Proof.M.Model.lean ====
module

public import Idealize.ShloMosaic.Lib.Pointwise

@[expose] public section

noncomputable section

namespace Cert.Model

open Idealize.ShloMosaic

/-! # The network row by row, over the extended reals -/

/-- One row scaled by the inverse root of its mean square and by the weights. -/
def nrm (w x : Fin 1024 → EReal) (k : Fin 1024) : EReal :=
  x k * Ideal.rsqrt (Ideal.div (∑ i, x i * x i) (Ideal.ofBits .f32 0x44800000#32) + Ideal.ofBits .f32 0x3727C5AC#32) * w k

/-- The logistic function. -/
def sgm (x : EReal) : EReal := Ideal.div 1 (1 + Ideal.exp (-x))

/-- The projection of a normed row. -/
def proj (w : Fin 1024 → EReal) (Wi : Fin 1024 → Fin 4096 → EReal) (x : Fin 1024 → EReal) (j : Fin 4096) : EReal :=
  ∑ k, nrm w x k * Wi k j

/-- The projection's first half under `x · sigmoid x`. -/
def uE (w : Fin 1024 → EReal) (Wi : Fin 1024 → Fin 4096 → EReal) (x : Fin 1024 → EReal) (j : Fin 2048) : EReal :=
  proj w Wi x ⟨j.val, by omega⟩ * sgm (proj w Wi x ⟨j.val, by omega⟩)

/-- The projection's second half, the gate. -/
def zE (w : Fin 1024 → EReal) (Wi : Fin 1024 → Fin 4096 → EReal) (x : Fin 1024 → EReal) (j : Fin 2048) : EReal :=
  proj w Wi x ⟨2048 + j.val, by omega⟩

/-- What a row feeds the recurrence. -/
def buE (B : Fin 128 → Fin 2048 → EReal) (u : Fin 2048 → EReal) (j : Fin 128) : EReal := ∑ k, u k * B j k

/-- The denominator of the implicit step. -/
def schur (a s : EReal) : EReal := Ideal.div 1 (1 + sgm s * sgm s * max a 0)

/-- The recurrence's coefficients from the two channel parameters. -/
def c11 (a s : EReal) : EReal := schur a s
def c12 (a s : EReal) : EReal := -sgm s * max a 0 * schur a s
def c21 (a s : EReal) : EReal := sgm s * schur a s
def c22 (a s : EReal) : EReal := 1 - sgm s * sgm s * max a 0 * schur a s
def cbe (a s : EReal) : EReal := sgm s * sgm s * schur a s

/-- The recurrence's state after `n` steps from rest. -/
def stE (a s : EReal) (f : ℕ → EReal) : ℕ → EReal × EReal
  | 0 => (0, 0)
  | n + 1 => (c11 a s * (stE a s f n).1 + c12 a s * (stE a s f n).2 + c21 a s * f n,
      c21 a s * (stE a s f n).1 + c22 a s * (stE a s f n).2 + cbe a s * f n)

/-- A row's result from its states. -/
def blk (C : Fin 2048 → Fin 128 → EReal) (D : Fin 2048 → EReal) (Wo : Fin 2048 → Fin 1024 → EReal)
    (x : Fin 1024 → EReal) (u z : Fin 2048 → EReal) (xs : Fin 128 → EReal) (o : Fin 1024) : EReal :=
  x o + ∑ k, ((∑ i, xs i * C k i) + D k * u k) * (z k * sgm (z k)) * Wo k o

/-- One layer's weights. -/
structure Layer where
  w : Fin 1024 → EReal
  Wi : Fin 1024 → Fin 4096 → EReal
  a : Fin 128 → EReal
  s : Fin 128 → EReal
  B : Fin 128 → Fin 2048 → EReal
  C : Fin 2048 → Fin 128 → EReal
  D : Fin 2048 → EReal
  Wo : Fin 2048 → Fin 1024 → EReal

/-- A layer's input to the recurrence at time `n`. -/
def Layer.bu (L : Layer) (x : ℕ → Fin 1024 → EReal) (j : Fin 128) (n : ℕ) : EReal := buE L.B (uE L.w L.Wi (x n)) j

/-- A layer's states at time `n`. -/
def Layer.st (L : Layer) (x : ℕ → Fin 1024 → EReal) (n : ℕ) (j : Fin 128) : EReal × EReal := stE (L.a j) (L.s j) (L.bu x j) n

/-- A layer's output at time `n`. -/
def Layer.out (L : Layer) (x : ℕ → Fin 1024 → EReal) (n : ℕ) : Fin 1024 → EReal :=
  blk L.C L.D L.Wo (x n) (uE L.w L.Wi (x n)) (zE L.w L.Wi (x n)) fun j => (L.st x (n + 1) j).2

end Cert.Model
-- ==== Proof.M.Rows.lean ====
module

public import proofs.«01_k».proof.Proof.K.Scan
public import proofs.«01_k».proof.Proof.M.Model

@[expose] public section

set_option maxRecDepth 16384

noncomputable section

namespace Cert.KernelIdeal.Own

open Cert.KernelIdeal Cert.KernelIdeal.Gen Cert.Model
open Idealize.ShloMosaic

/-! # The kernel bodies' values, row by row -/

theorem logistic_eq (x : EReal) : Idealize.ShloMosaic.Ideal.logistic x = sgm x := rfl

theorem k0_pay6_row (x : Vec Ideal S512x1024 .f32) (w : Vec Ideal S1x1024 .f32) (Wi : Vec Ideal S1024x4096 .f32) (r : Fin 512) (j : Fin 4096) :
    k0_pay6 x w Wi (ix2 r j) = proj (fun k => w (ix2 0 k)) (fun k j => Wi (ix2 k j)) (fun k => x (ix2 r k)) j := by
  pointwise [k0_pay6]; rfl

theorem k0_pay7_row (x : Vec Ideal S512x1024 .f32) (w : Vec Ideal S1x1024 .f32) (Wi : Vec Ideal S1024x4096 .f32) (r : Fin 512) (j : Fin 2048) :
    k0_pay7 x w Wi (ix2 r j) = uE (fun k => w (ix2 0 k)) (fun k j => Wi (ix2 k j)) (fun k => x (ix2 r k)) j := by
  pointwise [k0_pay7]
  simp only [k0_pay6_row]; rfl

theorem k0_pay8_row (x : Vec Ideal S512x1024 .f32) (w : Vec Ideal S1x1024 .f32) (Wi : Vec Ideal S1024x4096 .f32) (r : Fin 512) (j : Fin 2048) :
    k0_pay8 x w Wi (ix2 r j) = uE (fun k => w (ix2 0 k)) (fun k j => Wi (ix2 k j)) (fun k => x (ix2 r k)) j :=
  k0_pay7_row x w Wi r j

theorem k0_pay9_row (x : Vec Ideal S512x1024 .f32) (w : Vec Ideal S1x1024 .f32) (Wi : Vec Ideal S1024x4096 .f32) (r : Fin 512) (j : Fin 2048) :
    k0_pay9 x w Wi (ix2 r j) = zE (fun k => w (ix2 0 k)) (fun k j => Wi (ix2 k j)) (fun k => x (ix2 r k)) j := by
  pointwise [k0_pay9]
  simp only [k0_pay6_row]; rfl

theorem bu0_row (x : Vec Ideal S512x1024 .f32) (w : Vec Ideal S1x1024 .f32) (Wi : Vec Ideal S1024x4096 .f32) (B : Vec Ideal S2048x128 .f32)
    (r : Fin 512) (j : Fin 128) :
    k0_pay10 (k0_pay1 (k0_pay5 B) (k0_pay7 x w Wi)) (ix2 r j)
      = buE (fun j k => B (ix2 k j)) (uE (fun k => w (ix2 0 k)) (fun k j => Wi (ix2 k j)) (fun k => x (ix2 r k))) j := by
  pointwise [k0_pay1, k0_pay5, k0_pay10]
  simp only [k0_pay7_row]; rfl

theorem k1_pay1_row (x : Vec Ideal S512x1024 .f32) (w : Vec Ideal S1x1024 .f32) (Wi : Vec Ideal S1024x4096 .f32) (r : Fin 512) (j : Fin 4096) :
    k1_pay1 x w Wi (ix2 r j) = proj (fun k => w (ix2 0 k)) (fun k j => Wi (ix2 k j)) (fun k => x (ix2 r k)) j := by
  pointwise [k1_pay1]; rfl

theorem k1_pay2_row (x : Vec Ideal S512x1024 .f32) (w : Vec Ideal S1x1024 .f32) (Wi : Vec Ideal S1024x4096 .f32) (r : Fin 512) (j : Fin 2048) :
    k1_pay2 x w Wi (ix2 r j) = uE (fun k => w (ix2 0 k)) (fun k j => Wi (ix2 k j)) (fun k => x (ix2 r k)) j := by
  pointwise [k1_pay2]
  simp only [k1_pay1_row]; rfl

theorem k1_pay3_row (x : Vec Ideal S512x1024 .f32) (w : Vec Ideal S1x1024 .f32) (Wi : Vec Ideal S1024x4096 .f32) (r : Fin 512) (j : Fin 2048) :
    k1_pay3 x (k1_pay10 w) Wi (ix2 r j) = uE (fun k => w (ix2 0 k)) (fun k j => Wi (ix2 k j)) (fun k => x (ix2 r k)) j := by
  pointwise [k1_pay3]
  simp only [k1_pay2_row]
  pointwise [k1_pay10]

theorem k1_pay4_row (x : Vec Ideal S512x1024 .f32) (w : Vec Ideal S1x1024 .f32) (Wi : Vec Ideal S1024x4096 .f32) (r : Fin 512) (j : Fin 2048) :
    k1_pay4 x (k1_pay10 w) Wi (ix2 r j) = zE (fun k => w (ix2 0 k)) (fun k j => Wi (ix2 k j)) (fun k => x (ix2 r k)) j := by
  pointwise [k1_pay4]
  simp only [k1_pay1_row]
  pointwise [k1_pay10]; rfl

theorem bu1_row (x : Vec Ideal S512x1024 .f32) (w : Vec Ideal S1x1024 .f32) (Wi : Vec Ideal S1024x4096 .f32) (B : Vec Ideal S2048x128 .f32)
    (r : Fin 512) (j : Fin 128) :
    k1_pay12 (k1_pay5 x (k1_pay10 w) Wi (k1_pay11 B)) (ix2 r j)
      = buE (fun j k => B (ix2 k j)) (uE (fun k => w (ix2 0 k)) (fun k j => Wi (ix2 k j)) (fun k => x (ix2 r k))) j := by
  pointwise [k1_pay5, k1_pay11, k1_pay12]
  simp only [k1_pay2_row]
  pointwise [k1_pay10]; rfl

theorem k1_pay9_row (x : Vec Ideal S512x1024 .f32) (u z : Vec Ideal S512x2048 .bf16) (xs : Vec Ideal S512x128 .f32) (C : Vec Ideal S128x2048 .f32)
    (D : Vec Ideal S1x2048 .f32) (Wo : Vec Ideal S2048x1024 .f32) (r : Fin 512) (o : Fin 1024) :
    k1_pay9 x u z xs C D Wo (ix2 r o) = blk (fun k i => C (ix2 i k)) (fun k => D (ix2 0 k)) (fun k o => Wo (ix2 k o))
      (fun k => x (ix2 r k)) (fun k => u (ix2 r k)) (fun k => z (ix2 r k)) (fun i => xs (ix2 r i)) o := by
  pointwise [k1_pay9]; rfl

theorem k2_pay1_row (x : Vec Ideal S512x1024 .f32) (u z : Vec Ideal S512x2048 .bf16) (xs : Vec Ideal S512x128 .f32) (C : Vec Ideal S128x2048 .f32)
    (D : Vec Ideal S1x2048 .f32) (Wo : Vec Ideal S2048x1024 .f32) (w : Vec Ideal S1x1024 .f32) (r : Fin 512) (o : Fin 1024) :
    k2_pay1 x u z xs C D Wo w (ix2 r o) = nrm (fun k => w (ix2 0 k)) (blk (fun k i => C (ix2 i k)) (fun k => D (ix2 0 k)) (fun k o => Wo (ix2 k o))
      (fun k => x (ix2 r k)) (fun k => u (ix2 r k)) (fun k => z (ix2 r k)) (fun i => xs (ix2 r i))) o := by
  pointwise [k2_pay1]; rfl

theorem coef0 (a s : Vec Ideal S1x128 .f32) (j : Fin 128) :
    k0_pay13 a s (ix2 0 j) = c11 (a (ix2 0 j)) (s (ix2 0 j)) ∧ k0_pay14 a s (ix2 0 j) = c12 (a (ix2 0 j)) (s (ix2 0 j))
      ∧ k0_pay15 a s (ix2 0 j) = c21 (a (ix2 0 j)) (s (ix2 0 j)) ∧ k0_pay16 a s (ix2 0 j) = c22 (a (ix2 0 j)) (s (ix2 0 j))
      ∧ k0_pay17 a s (ix2 0 j) = c21 (a (ix2 0 j)) (s (ix2 0 j)) ∧ k0_pay18 a s (ix2 0 j) = cbe (a (ix2 0 j)) (s (ix2 0 j)) := by
  refine ⟨?_, ?_, ?_, ?_, ?_, ?_⟩
  all_goals
    pointwise [k0_pay11, k0_pay12, k0_pay13, k0_pay14, k0_pay15, k0_pay16, k0_pay17, k0_pay18]
    first | rfl | (rw [zero_sub]; rfl)

theorem coef1 (a s : Vec Ideal S1x128 .f32) (j : Fin 128) :
    k1_pay15 a s (ix2 0 j) = c11 (a (ix2 0 j)) (s (ix2 0 j)) ∧ k1_pay16 a s (ix2 0 j) = c12 (a (ix2 0 j)) (s (ix2 0 j))
      ∧ k1_pay17 a s (ix2 0 j) = c21 (a (ix2 0 j)) (s (ix2 0 j)) ∧ k1_pay18 a s (ix2 0 j) = c22 (a (ix2 0 j)) (s (ix2 0 j))
      ∧ k1_pay19 a s (ix2 0 j) = c21 (a (ix2 0 j)) (s (ix2 0 j)) ∧ k1_pay20 a s (ix2 0 j) = cbe (a (ix2 0 j)) (s (ix2 0 j)) := by
  refine ⟨?_, ?_, ?_, ?_, ?_, ?_⟩
  all_goals
    pointwise [k1_pay13, k1_pay14, k1_pay15, k1_pay16, k1_pay17, k1_pay18, k1_pay19, k1_pay20]
    first | rfl | (rw [zero_sub]; rfl)

end Cert.KernelIdeal.Own
-- ==== Proof.M.Ext.lean ====
module

public import Idealize.ShloMosaic.PureOps
public import Mathlib.Data.Matrix.Mul
public import Mathlib.LinearAlgebra.Matrix.Notation
public import Mathlib.LinearAlgebra.Matrix.Determinant.Basic
public import Mathlib.Data.EReal.Operations

@[expose] public section

noncomputable section

namespace Cert.Model

open Matrix

/-! # Extended reals up to the sign of an infinity -/

/-- An extended real that is a real number. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, by norm_cast⟩
theorem Fin'.mul {x y : EReal} (hx : Fin' x) (hy : Fin' y) : Fin' (x * y) := by
  obtain ⟨a, rfl⟩ := hx; obtain ⟨b, rfl⟩ := hy; exact ⟨a * b, by norm_cast⟩
theorem Fin'.neg {x : EReal} (hx : Fin' x) : Fin' (-x) := by
  obtain ⟨a, rfl⟩ := hx; exact ⟨-a, by norm_cast⟩
theorem Fin'.sub {x y : EReal} (hx : Fin' x) (hy : Fin' y) : Fin' (x - y) := by
  rw [sub_eq_add_neg]; exact hx.add hy.neg
theorem Fin'.zero : Fin' 0 := ⟨0, by norm_cast⟩
theorem Fin'.one : Fin' 1 := ⟨1, by norm_cast⟩
theorem Fin'.sum {ι : Type} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- An infinity of either sign. -/
def Inf (x : EReal) : Prop := x = ⊤ ∨ x = ⊥

theorem fin_or_inf (x : EReal) : Fin' x ∨ Inf x := by
  induction x using EReal.rec with
  | bot => exact Or.inr (Or.inr rfl)
  | top => exact Or.inr (Or.inl rfl)
  | coe r => exact Or.inl ⟨r, rfl⟩

theorem Inf.add_right {x : EReal} (h : Inf x) (y : EReal) : Inf (x + y) := by
  rcases h with rfl | rfl
  · induction y using EReal.rec with
    | bot => exact Or.inr (by simp)
    | top => exact Or.inl (by simp)
    | coe r => exact Or.inl (by simp)
  · exact Or.inr (by simp)

theorem Inf.add_left {x : EReal} (h : Inf x) (y : EReal) : Inf (y + x) := by
  rw [add_comm]; exact h.add_right y

theorem Inf.mul_right {x : EReal} (h : Inf x) {y : EReal} (hy : y ≠ 0) : Inf (x * y) := by
  induction y using EReal.rec with
  | bot => rcases h with rfl | rfl <;> simp [Inf]
  | top => rcases h with rfl | rfl <;> simp [Inf]
  | coe r =>
    have hr : r ≠ 0 := fun e => hy (by rw [e]; rfl)
    rcases lt_or_gt_of_ne hr with h0 | h0
    · rcases h with rfl | rfl
      · exact Or.inr (EReal.top_mul_coe_of_neg h0)
      · exact Or.inl (EReal.bot_mul_coe_of_neg h0)
    · rcases h with rfl | rfl
      · exact Or.inl (EReal.top_mul_coe_of_pos h0)
      · exact Or.inr (EReal.bot_mul_coe_of_pos h0)

theorem Inf.mul_left {x : EReal} (h : Inf x) {y : EReal} (hy : y ≠ 0) : Inf (y * x) := by
  rw [EReal.mul_comm]; exact h.mul_right hy

theorem Inf.ne_zero {x : EReal} (h : Inf x) : x ≠ 0 := by
  rcases h with rfl | rfl <;> simp

/-- Equal, or both infinite. -/
def Sim (x y : EReal) : Prop := x = y ∨ (Inf x ∧ Inf y)

theorem Sim.refl (x : EReal) : Sim x x := Or.inl rfl

theorem Sim.add {a b c d : EReal} (h : Sim a b) (h' : Sim c d) : Sim (a + c) (b + d) := by
  rcases h with rfl | ⟨ha, hb⟩
  · rcases h' with rfl | ⟨hc, hd⟩
    · exact Sim.refl _
    · exact Or.inr ⟨hc.add_left _, hd.add_left _⟩
  · exact Or.inr ⟨ha.add_right _, hb.add_right _⟩

theorem Sim.mul {a b c d : EReal} (h : Sim a b) (h' : Sim c d) : Sim (a * c) (b * d) := by
  rcases h with rfl | ⟨ha, hb⟩
  · rcases h' with rfl | ⟨hc, hd⟩
    · exact Sim.refl _
    · by_cases h0 : a = 0
      · subst h0; simp [Sim.refl]
      · exact Or.inr ⟨hc.mul_left h0, hd.mul_left h0⟩
  · rcases h' with rfl | ⟨hc, hd⟩
    · by_cases h0 : c = 0
      · subst h0; simp [Sim.refl]
      · exact Or.inr ⟨ha.mul_right h0, hb.mul_right h0⟩
    · exact Or.inr ⟨ha.mul_right hc.ne_zero, hb.mul_right hd.ne_zero⟩

theorem Sim.sum {ι : Type} (s : Finset ι) {f g : ι → EReal} (h : ∀ i, Sim (f i) (g i)) : Sim (∑ i ∈ s, f i) (∑ i ∈ s, g i) := by
  classical
  induction s using Finset.induction_on with
  | empty => simpa using Sim.refl 0
  | insert a s ha ih =>
    rw [Finset.sum_insert ha, Finset.sum_insert ha]
    exact (h a).add ih

/-! # Pairs of extended reals as real pairs with one point at infinity -/

/-- Real pairs and a point at infinity. -/
abbrev Pt : Type := WithTop (Fin 2 → ℝ)

/-- A matrix acting on the pairs, infinity fixed. -/
def act (M : Matrix (Fin 2) (Fin 2) ℝ) : Pt →+ Pt where
  toFun := WithTop.map (M *ᵥ ·)
  map_zero' := by
    show WithTop.map (M *ᵥ ·) ((0 : Fin 2 → ℝ) : Pt) = ((0 : Fin 2 → ℝ) : Pt)
    rw [WithTop.map_coe, Matrix.mulVec_zero]
  map_add' x y := by
    induction x using WithTop.recTopCoe with
    | top => simp
    | coe x =>
      induction y using WithTop.recTopCoe with
      | top => simp
      | coe y =>
        rw [← WithTop.coe_add, WithTop.map_coe, WithTop.map_coe, WithTop.map_coe, ← WithTop.coe_add, Matrix.mulVec_add]

theorem act_coe (M : Matrix (Fin 2) (Fin 2) ℝ) (x : Fin 2 → ℝ) : act M (x : Pt) = ((M *ᵥ x : Fin 2 → ℝ) : Pt) := rfl
theorem act_top (M : Matrix (Fin 2) (Fin 2) ℝ) : act M (⊤ : Pt) = ⊤ := rfl

theorem act_act (M N : Matrix (Fin 2) (Fin 2) ℝ) (x : Pt) : act M (act N x) = act (M * N) x := by
  induction x using WithTop.recTopCoe with
  | top => rfl
  | coe x => rw [act_coe, act_coe, act_coe, Matrix.mulVec_mulVec]

theorem act_one (x : Pt) : act 1 x = x := by
  induction x using WithTop.recTopCoe with
  | top => rfl
  | coe x => rw [act_coe, Matrix.one_mulVec]

/-- The pair `a`, `b` is the point `v`; at infinity both are infinite, which happens under an invertible matrix only. -/
def Rep (M : Matrix (Fin 2) (Fin 2) ℝ) (v : Pt) (a b : EReal) : Prop :=
  (∃ x : Fin 2 → ℝ, v = (x : Pt) ∧ a = (x 0 : EReal) ∧ b = (x 1 : EReal)) ∨ (v = ⊤ ∧ M.det ≠ 0 ∧ Inf a ∧ Inf b)

theorem Rep.zero (M : Matrix (Fin 2) (Fin 2) ℝ) : Rep M 0 0 0 := Or.inl ⟨0, rfl, rfl, rfl⟩

/-- Two pairs at one point are alike. -/
theorem Rep.sim {M : Matrix (Fin 2) (Fin 2) ℝ} {v : Pt} {a b a' b' : EReal} (h : Rep M v a b) (h' : Rep M v a' b') : Sim b b' := by
  rcases h with ⟨x, rfl, -, rfl⟩ | ⟨rfl, -, -, hb⟩
  · rcases h' with ⟨y, e, -, rfl⟩ | ⟨e, -⟩
    · rw [WithTop.coe_inj] at e; subst e; exact Sim.refl _
    · exact absurd e WithTop.coe_ne_top
  · rcases h' with ⟨y, e, -⟩ | ⟨-, -, -, hb'⟩
    · exact absurd e.symm WithTop.coe_ne_top
    · exact Or.inr ⟨hb, hb'⟩

/-- A row that is not zero takes two infinities to an infinity. -/
theorem row_inf {p q : ℝ} (h : p ≠ 0 ∨ q ≠ 0) {x y : EReal} (hx : Inf x) (hy : Inf y) (b : EReal) :
    Inf (b + (p : EReal) * x + (q : EReal) * y) := by
  rcases h with h | h
  · exact ((hx.mul_left (by exact_mod_cast h)).add_left b).add_right _
  · exact (hy.mul_left (by exact_mod_cast h)).add_left _

/-- A pair plus a power of the matrix times a pair. -/
theorem Rep.comb {M : Matrix (Fin 2) (Fin 2) ℝ} (s : ℕ) {v w : Pt} {b1 b2 x y : EReal} (hv : Rep M v b1 b2) (hw : Rep M w x y) :
    Rep M (v + act (M ^ s) w) (b1 + ((M ^ s) 0 0 : ℝ) * x + ((M ^ s) 0 1 : ℝ) * y)
      (b2 + ((M ^ s) 1 0 : ℝ) * x + ((M ^ s) 1 1 : ℝ) * y) := by
  rcases hw with ⟨z, rfl, rfl, rfl⟩ | ⟨rfl, hd, hx, hy⟩
  · rcases hv with ⟨z', rfl, rfl, rfl⟩ | ⟨rfl, hd, h1, h2⟩
    · refine Or.inl ⟨z' + (M ^ s) *ᵥ z, by rw [act_coe, WithTop.coe_add], ?_, ?_⟩
      · norm_cast
        simp only [Pi.add_apply, Matrix.mulVec, dotProduct, Fin.sum_univ_two]; ring
      · norm_cast
        simp only [Pi.add_apply, Matrix.mulVec, dotProduct, Fin.sum_univ_two]; ring
    · exact Or.inr ⟨by rw [WithTop.top_add], hd, (h1.add_right _).add_right _, (h2.add_right _).add_right _⟩
  · have hp : (M ^ s).det ≠ 0 := by rw [Matrix.det_pow]; exact pow_ne_zero _ hd
    rw [Matrix.det_fin_two] at hp
    refine Or.inr ⟨by rw [act_top, WithTop.add_top], hd, row_inf ?_ hx hy _, row_inf ?_ hx hy _⟩
    · by_contra h
      push Not at h
      rw [h.1, h.2] at hp
      simp at hp
    · by_contra h
      push Not at h
      rw [h.1, h.2] at hp
      simp at hp

end Cert.Model
-- ==== Proof.M.Scan.lean ====
module

public import proofs.«01_k».proof.Proof.K.Scan
public import proofs.«01_k».proof.Proof.M.Ext
public import Idealize.ShloMosaic.Lib.Pointwise
public import Idealize.ShloMosaic.Lib.Pointwise.IndexVar
public import Mathlib.Data.Matrix.Mul
public import Mathlib.LinearAlgebra.Matrix.Notation

@[expose] public section

set_option maxRecDepth 16384

noncomputable section

namespace Cert.KernelIdeal.Own

open Cert.KernelIdeal Cert.KernelIdeal.Gen Cert.Model
open Idealize.ShloMosaic
open Matrix

/-! # The recurrence over the pairs with a point at infinity -/

/-- The last `s` contributions of the recurrence at time `r`. -/
def W (M : Matrix (Fin 2) (Fin 2) ℝ) (f : ℕ → Pt) (s r : ℕ) : Pt :=
  ∑ k ∈ Finset.range s, if k ≤ r then act (M ^ k) (f (r - k)) else 0

theorem W_one (M : Matrix (Fin 2) (Fin 2) ℝ) (f : ℕ → Pt) (r : ℕ) : W M f 1 r = f r := by
  simp [W, act_one]

theorem W_double (M : Matrix (Fin 2) (Fin 2) ℝ) (f : ℕ → Pt) (s r : ℕ) :
    W M f (s + s) r = W M f s r + act (M ^ s) (if s ≤ r then W M f s (r - s) else 0) := by
  unfold W
  rw [Finset.sum_range_add]
  congr 1
  split
  · rename_i h
    rw [map_sum]
    refine Finset.sum_congr rfl fun k _ => ?_
    by_cases hk : k ≤ r - s
    · rw [if_pos hk, if_pos (by omega), act_act, ← pow_add, show r - (s + k) = r - s - k by omega]
    · rw [if_neg hk, if_neg (by omega), map_zero]
  · rw [map_zero]
    exact Finset.sum_eq_zero fun k _ => if_neg (by omega)

/-- The state after `n` steps of the recurrence from the state `c`. -/
def stR (M : Matrix (Fin 2) (Fin 2) ℝ) (f : ℕ → Pt) (c : Pt) : ℕ → Pt
  | 0 => c
  | n + 1 => act M (stR M f c n) + f n

theorem stR_succ (M : Matrix (Fin 2) (Fin 2) ℝ) (f : ℕ → Pt) (c : Pt) (r : ℕ) :
    stR M f c (r + 1) = W M f (r + 1) r + act (M ^ (r + 1)) c := by
  induction r with
  | zero => simp [stR, W_one, add_comm]
  | succ r ih =>
    rw [stR, ih, map_add, act_act, ← pow_succ']
    have h : W M f (r + 1 + 1) (r + 1) = act M (W M f (r + 1) r) + f (r + 1) := by
      unfold W
      rw [Finset.sum_range_succ', map_sum]
      congr 1
      · refine Finset.sum_congr rfl fun k _ => ?_
        by_cases hk : k ≤ r
        · rw [if_pos hk, if_pos (by omega), act_act, ← pow_succ', show r + 1 - (k + 1) = r - k by omega]
        · rw [if_neg hk, if_neg (by omega), map_zero]
      · simp [act_one]
    rw [h]; exact add_right_comm _ _ _

theorem stR_add (M : Matrix (Fin 2) (Fin 2) ℝ) (g : ℕ → Pt) (c : Pt) (n m : ℕ) :
    stR M (fun k => g (n + k)) (stR M g c n) m = stR M g c (n + m) := by
  induction m with
  | zero => rfl
  | succ m ih => rw [stR, ih, ← Nat.add_assoc, stR]

theorem W_stable (M : Matrix (Fin 2) (Fin 2) ℝ) (f : ℕ → Pt) (s r : ℕ) (h : r < s) :
    W M f s r = W M f (r + 1) r := by
  unfold W
  refine (Finset.sum_subset (fun k hk => Finset.mem_range.2 ?_) fun k _ hk => if_neg ?_).symm
  · have := Finset.mem_range.1 hk; omega
  · have : ¬ k < r + 1 := fun h => hk (Finset.mem_range.2 h)
    omega

/-! # The vectors of one channel as sequences -/

/-- Two columns of vectors hold a sequence of pairs. -/
def ColB (j : Fin 128) (M : Matrix (Fin 2) (Fin 2) ℝ) (b1 b2 : FVec Ideal S512x128 .f32) (f : ℕ → Pt) : Prop :=
  ∀ r : Fin 512, Rep M (f r) (b1 (ix2 r j)) (b2 (ix2 r j))

/-- Four columns of vectors hold a sequence of real two-by-two matrices. -/
def ColT {n : ℕ} (j : Fin 128) (a b c d : FVec Ideal ⟨2, ![n, 128]⟩ .f32) (g : ℕ → Matrix (Fin 2) (Fin 2) ℝ) : Prop :=
  ∀ r : Fin n, a (ix2 r j) = ((g r 0 0 : ℝ) : EReal) ∧ b (ix2 r j) = ((g r 0 1 : ℝ) : EReal) ∧
    c (ix2 r j) = ((g r 1 0 : ℝ) : EReal) ∧ d (ix2 r j) = ((g r 1 1 : ℝ) : EReal)

/-- A vector moved down by `s` rows, the free rows zero. -/
def shiftF (s m : ℕ) (hs : S512x128.Slices ![0, 0] ⟨2, ![m, 128]⟩)
    (hc : Shape.Concatenates [⟨2, ![s, 128]⟩, ⟨2, ![m, 128]⟩] S512x128 0) (b : FVec Ideal S512x128 .f32) :
    FVec Ideal S512x128 .f32 :=
  concatenate S512x128 0 [⟨⟨2, ![s, 128]⟩, broadcast ⟨2, ![s, 128]⟩ (Scalar.ofBits .f32 0x00000000#32 : Ideal .f32)⟩,
    ⟨⟨2, ![m, 128]⟩, extractStridedSlice ⟨2, ![m, 128]⟩ ![0, 0] b hs⟩] hc

theorem shiftF_ge (s m : ℕ) (hs : S512x128.Slices ![0, 0] ⟨2, ![m, 128]⟩)
    (hc : Shape.Concatenates [⟨2, ![s, 128]⟩, ⟨2, ![m, 128]⟩] S512x128 0) (b : FVec Ideal S512x128 .f32)
    (j : Fin 128) (r : Fin 512) (h : s ≤ r.val) :
    shiftF s m hs hc b (ix2 r j) = b (ix2 (⟨r.val - s, by omega⟩ : Fin 512) j) := by
  unfold shiftF
  rw [concatenate_pair_apply]
  rw [dif_neg (by show ¬ r.val < s; omega)]
  show b _ = b _
  congr 1
  funext a
  apply Fin.ext
  match a with
  | ⟨0, _⟩ => show 0 + (r.val - s) = r.val - s; omega
  | ⟨1, _⟩ => show 0 + j.val = j.val; omega

theorem shiftF_lt (s m : ℕ) (hs : S512x128.Slices ![0, 0] ⟨2, ![m, 128]⟩)
    (hc : Shape.Concatenates [⟨2, ![s, 128]⟩, ⟨2, ![m, 128]⟩] S512x128 0) (b : FVec Ideal S512x128 .f32)
    (j : Fin 128) (r : Fin 512) (h : ¬ s ≤ r.val) : shiftF s m hs hc b (ix2 r j) = (0 : EReal) := by
  unfold shiftF
  rw [concatenate_pair_apply, dif_pos (by show r.val < s; omega)]
  exact Ideal.ofBits_zero_f32

theorem shiftF_rep (s m : ℕ) (hs : S512x128.Slices ![0, 0] ⟨2, ![m, 128]⟩)
    (hc : Shape.Concatenates [⟨2, ![s, 128]⟩, ⟨2, ![m, 128]⟩] S512x128 0) {b1 b2 : FVec Ideal S512x128 .f32}
    {j : Fin 128} {M : Matrix (Fin 2) (Fin 2) ℝ} {f : ℕ → Pt} (hb : ColB j M b1 b2 f) (r : Fin 512) :
    Rep M (if s ≤ r.val then f (r.val - s) else 0) (shiftF s m hs hc b1 (ix2 r j)) (shiftF s m hs hc b2 (ix2 r j)) := by
  by_cases h : s ≤ r.val
  · rw [if_pos h, shiftF_ge s m hs hc b1 j r h, shiftF_ge s m hs hc b2 j r h]
    exact hb ⟨r.val - s, by omega⟩
  · rw [if_neg h, shiftF_lt s m hs hc b1 j r h, shiftF_lt s m hs hc b2 j r h]
    exact Rep.zero M

/-- One level of the scan, upper component. -/
def lvlX (s m : ℕ) (hs : S512x128.Slices ![0, 0] ⟨2, ![m, 128]⟩)
    (hc : Shape.Concatenates [⟨2, ![s, 128]⟩, ⟨2, ![m, 128]⟩] S512x128 0)
    (p q : FVec Ideal S1x128 .f32) (b b1 b2 : FVec Ideal S512x128 .f32) : FVec Ideal S512x128 .f32 :=
  addf (addf b (mulf (broadcastTo S512x128 p broadcasts_S1x128_S512x128) (shiftF s m hs hc b1)))
    (mulf (broadcastTo S512x128 q broadcasts_S1x128_S512x128) (shiftF s m hs hc b2))

theorem bc_apply {n : ℕ} (p : FVec Ideal S1x128 .f32) (h : S1x128.Broadcasts ⟨2, ![n, 128]⟩) (r : Fin n) (j : Fin 128) :
    broadcastTo ⟨2, ![n, 128]⟩ p h (ix2 r j) = p (ix2 0 j) := by
  pointwise

theorem lvl_spec (s s' m : ℕ) (hs : S512x128.Slices ![0, 0] ⟨2, ![m, 128]⟩)
    (hc : Shape.Concatenates [⟨2, ![s, 128]⟩, ⟨2, ![m, 128]⟩] S512x128 0)
    {a b c d : FVec Ideal S1x128 .f32} {b1 b2 : FVec Ideal S512x128 .f32} {j : Fin 128}
    {M : Matrix (Fin 2) (Fin 2) ℝ} {f : ℕ → Pt} (hs' : s' = s + s)
    (hP : ColT j a b c d fun _ => M ^ s) (hb : ColB j M b1 b2 (W M f s)) :
    ColB j M (lvlX s m hs hc a b b1 b1 b2) (lvlX s m hs hc c d b2 b1 b2) (W M f s') := by
  intro r
  obtain ⟨pa, pb, pc, pd⟩ := hP 0
  subst hs'
  rw [W_double]
  have key := Rep.comb s (hb r) (shiftF_rep s m hs hc hb r)
  rw [← pa, ← pb, ← pc, ← pd, ← bc_apply a broadcasts_S1x128_S512x128 r j, ← bc_apply b broadcasts_S1x128_S512x128 r j,
    ← bc_apply c broadcasts_S1x128_S512x128 r j, ← bc_apply d broadcasts_S1x128_S512x128 r j] at key
  exact key

/-- An entry of a product of two-by-two matrices of row vectors. -/
def mmF {n : ℕ} (a p b q : FVec Ideal ⟨2, ![n, 128]⟩ .f32) : FVec Ideal ⟨2, ![n, 128]⟩ .f32 := addf (mulf a p) (mulf b q)

theorem sq_spec (s s' : ℕ) {a b c d : FVec Ideal S1x128 .f32} {j : Fin 128}
    {M : Matrix (Fin 2) (Fin 2) ℝ} (hs' : s' = s + s) (hP : ColT (n := 1) j a b c d fun _ => M ^ s) :
    ColT (n := 1) j (mmF a a b c) (mmF a b b d) (mmF c a d c) (mmF c b d d) (fun _ => M ^ s') := by
  intro r
  obtain rfl : r = 0 := Subsingleton.elim _ _
  obtain ⟨pa, pb, pc, pd⟩ := hP 0
  subst hs'
  refine ⟨?_, ?_, ?_, ?_⟩
  · show a (ix2 0 j) * a (ix2 0 j) + b (ix2 0 j) * c (ix2 0 j) = _
    rw [pa, pb, pc, pow_add]; norm_cast
    simp only [Matrix.mul_apply, Fin.sum_univ_two]
  · show a (ix2 0 j) * b (ix2 0 j) + b (ix2 0 j) * d (ix2 0 j) = _
    rw [pa, pb, pd, pow_add]; norm_cast
    simp only [Matrix.mul_apply, Fin.sum_univ_two]
  · show c (ix2 0 j) * a (ix2 0 j) + d (ix2 0 j) * c (ix2 0 j) = _
    rw [pa, pd, pc, pow_add]; norm_cast
    simp only [Matrix.mul_apply, Fin.sum_univ_two]
  · show c (ix2 0 j) * b (ix2 0 j) + d (ix2 0 j) * d (ix2 0 j) = _
    rw [pb, pc, pd, pow_add]; norm_cast
    simp only [Matrix.mul_apply, Fin.sum_univ_two]

/-- Two vectors of rows one above the other. -/
def catF (n n' : ℕ) (hc : Shape.Concatenates [⟨2, ![n, 128]⟩, ⟨2, ![n, 128]⟩] ⟨2, ![n', 128]⟩ 0)
    (x y : FVec Ideal ⟨2, ![n, 128]⟩ .f32) : FVec Ideal ⟨2, ![n', 128]⟩ .f32 :=
  concatenate ⟨2, ![n', 128]⟩ 0 [⟨⟨2, ![n, 128]⟩, x⟩, ⟨⟨2, ![n, 128]⟩, y⟩] hc

theorem catF_apply (n n' : ℕ) (hn : n' = n + n) (hc : Shape.Concatenates [⟨2, ![n, 128]⟩, ⟨2, ![n, 128]⟩] ⟨2, ![n', 128]⟩ 0)
    (x y : FVec Ideal ⟨2, ![n, 128]⟩ .f32) (g : ℕ → ℝ) (j : Fin 128)
    (hx : ∀ r : Fin n, x (ix2 r j) = ((g r : ℝ) : EReal)) (hy : ∀ r : Fin n, y (ix2 r j) = ((g (r + n) : ℝ) : EReal))
    (r : Fin n') : catF n n' hc x y (ix2 r j) = ((g r : ℝ) : EReal) := by
  unfold catF
  rw [concatenate_pair_apply]
  have hr := r.isLt
  by_cases h : r.val < n
  · refine (dif_pos h).trans ?_
    exact (congrArg x (eq_ix2 _)).trans (hx ⟨r.val, h⟩)
  · refine (dif_neg h).trans ?_
    have e := hy ⟨r.val - n, by omega⟩
    rw [show (⟨r.val - n, by omega⟩ : Fin n).val + n = r.val by show r.val - n + n = r.val; omega] at e
    exact (congrArg y (eq_ix2 _)).trans e

theorem dbl_spec (n n' : ℕ) {hc : Shape.Concatenates [⟨2, ![n, 128]⟩, ⟨2, ![n, 128]⟩] ⟨2, ![n', 128]⟩ 0}
    {hbc : S1x128.Broadcasts ⟨2, ![n, 128]⟩}
    {a b c d : FVec Ideal ⟨2, ![n, 128]⟩ .f32} {p q u v : FVec Ideal S1x128 .f32} {j : Fin 128}
    {M : Matrix (Fin 2) (Fin 2) ℝ} (hn : n' = n + n)
    (hT : ColT j a b c d fun r => M ^ (r + 1)) (hP : ColT (n := 1) j p q u v fun _ => M ^ n) :
    ColT j (catF n n' hc a (mmF a (broadcastTo _ p hbc) b (broadcastTo _ u hbc)))
      (catF n n' hc b (mmF a (broadcastTo _ q hbc) b (broadcastTo _ v hbc)))
      (catF n n' hc c (mmF c (broadcastTo _ p hbc) d (broadcastTo _ u hbc)))
      (catF n n' hc d (mmF c (broadcastTo _ q hbc) d (broadcastTo _ v hbc))) (fun r => M ^ (r + 1)) := by
  obtain ⟨pp, pq, pu, pv⟩ := hP 0
  have e : ∀ r : ℕ, M ^ (r + n + 1) = M ^ (r + 1) * M ^ n := fun r => by rw [← pow_add]; congr 1; omega
  intro r
  refine ⟨catF_apply n n' hn hc _ _ (fun r => (M ^ (r + 1)) 0 0) j (fun r => (hT r).1) (fun r => ?_) r,
    catF_apply n n' hn hc _ _ (fun r => (M ^ (r + 1)) 0 1) j (fun r => (hT r).2.1) (fun r => ?_) r,
    catF_apply n n' hn hc _ _ (fun r => (M ^ (r + 1)) 1 0) j (fun r => (hT r).2.2.1) (fun r => ?_) r,
    catF_apply n n' hn hc _ _ (fun r => (M ^ (r + 1)) 1 1) j (fun r => (hT r).2.2.2) (fun r => ?_) r⟩
  all_goals
    obtain ⟨ta, tb, tc, td⟩ := hT r
    simp only [e]
  · show a (ix2 r j) * broadcastTo _ p hbc (ix2 r j) + b (ix2 r j) * broadcastTo _ u hbc (ix2 r j) = _
    rw [bc_apply, bc_apply, ta, tb, pp, pu]; norm_cast
    simp only [Matrix.mul_apply, Fin.sum_univ_two]
  · show a (ix2 r j) * broadcastTo _ q hbc (ix2 r j) + b (ix2 r j) * broadcastTo _ v hbc (ix2 r j) = _
    rw [bc_apply, bc_apply, ta, tb, pq, pv]; norm_cast
    simp only [Matrix.mul_apply, Fin.sum_univ_two]
  · show c (ix2 r j) * broadcastTo _ p hbc (ix2 r j) + d (ix2 r j) * broadcastTo _ u hbc (ix2 r j) = _
    rw [bc_apply, bc_apply, tc, td, pp, pu]; norm_cast
    simp only [Matrix.mul_apply, Fin.sum_univ_two]
  · show c (ix2 r j) * broadcastTo _ q hbc (ix2 r j) + d (ix2 r j) * broadcastTo _ v hbc (ix2 r j) = _
    rw [bc_apply, bc_apply, tc, td, pq, pv]; norm_cast
    simp only [Matrix.mul_apply, Fin.sum_univ_two]

theorem dbl1_spec {hc : Shape.Concatenates [⟨2, ![1, 128]⟩, ⟨2, ![1, 128]⟩] ⟨2, ![2, 128]⟩ 0}
    {a b c d : FVec Ideal S1x128 .f32} {j : Fin 128} {M : Matrix (Fin 2) (Fin 2) ℝ} (hP : ColT (n := 1) j a b c d fun _ => M ^ 1) :
    ColT (n := 2) j (catF 1 2 hc a (mmF a a b c)) (catF 1 2 hc b (mmF a b b d))
      (catF 1 2 hc c (mmF c a d c)) (catF 1 2 hc d (mmF c b d d)) (fun r => M ^ (r + 1)) := by
  have h2 := sq_spec 1 2 rfl hP
  have z : ∀ r : Fin 1, r.val = 0 := fun r => by omega
  intro r
  refine ⟨catF_apply 1 2 rfl hc _ _ (fun r => (M ^ (r + 1)) 0 0) j (fun r => ?_) (fun r => ?_) r,
    catF_apply 1 2 rfl hc _ _ (fun r => (M ^ (r + 1)) 0 1) j (fun r => ?_) (fun r => ?_) r,
    catF_apply 1 2 rfl hc _ _ (fun r => (M ^ (r + 1)) 1 0) j (fun r => ?_) (fun r => ?_) r,
    catF_apply 1 2 rfl hc _ _ (fun r => (M ^ (r + 1)) 1 1) j (fun r => ?_) (fun r => ?_) r⟩
  all_goals rw [z r]
  · exact (hP r).1
  · exact (h2 r).1
  · exact (hP r).2.1
  · exact (h2 r).2.1
  · exact (hP r).2.2.1
  · exact (h2 r).2.2.1
  · exact (hP r).2.2.2
  · exact (h2 r).2.2.2

/-- The scanned vector with the carries' part added. -/
def finF (b t1 t2 : FVec Ideal S512x128 .f32) (c1 c2 : FVec Ideal S1x128 .f32) : FVec Ideal S512x128 .f32 :=
  addf (addf b (mulf t1 (broadcastTo S512x128 c1 broadcasts_S1x128_S512x128)))
    (mulf t2 (broadcastTo S512x128 c2 broadcasts_S1x128_S512x128))

theorem fin_spec {b1 b2 : FVec Ideal S512x128 .f32} {a b c d : FVec Ideal S512x128 .f32} {c1 c2 : FVec Ideal S1x128 .f32} {j : Fin 128}
    {M : Matrix (Fin 2) (Fin 2) ℝ} {f : ℕ → Pt} {x : Pt}
    (hT : ColT (n := 512) j a b c d fun r => M ^ (r + 1)) (hb : ColB j M b1 b2 (W M f 512))
    (h12 : Rep M x (c1 (ix2 0 j)) (c2 (ix2 0 j))) :
    ColB j M (finF b1 a b c1 c2) (finF b2 c d c1 c2) (fun r => stR M f x (r + 1)) := by
  intro r
  obtain ⟨ta, tb, tc, td⟩ := hT r
  simp only [stR_succ, ← W_stable M f 512 r.val r.isLt]
  have key := Rep.comb (r.val + 1) (hb r) h12
  rw [← ta, ← tb, ← tc, ← td, ← bc_apply c1 broadcasts_S1x128_S512x128 r j, ← bc_apply c2 broadcasts_S1x128_S512x128 r j] at key
  exact key

end Cert.KernelIdeal.Own
-- ==== Proof.M.ScanSpec.lean ====
module

public import proofs.«01_k».proof.Proof.M.Scan

@[expose] public section

set_option maxRecDepth 16384

noncomputable section

namespace Cert.KernelIdeal.Own

open Cert.KernelIdeal Cert.KernelIdeal.Gen Cert.Model
open Idealize.ShloMosaic

/-! # The scanned tiles hold the recurrence's states -/

/-- A scanned tile and its carries hold, in one channel, the states after each step from the state `x`. -/
def Scanned (j : Fin 128) (M : Matrix (Fin 2) (Fin 2) ℝ) (f : ℕ → Pt) (x : Pt)
    (o : FVec Ideal S512x128 .f32 × FVec Ideal S1x128 .f32 × FVec Ideal S1x128 .f32) : Prop :=
  (∀ r : Fin 512, ∃ y, Rep M (stR M f x (r + 1)) y (o.1 (ix2 r j)))
    ∧ Rep M (stR M f x 512) (o.2.1 (ix2 0 j)) (o.2.2 (ix2 0 j))

set_option maxHeartbeats 4000000 in
theorem scan0_spec (v19 : Vec Ideal S1x512x128 .f32) (v21 v23 v617 v618 : Vec Ideal S1x128 .f32) (j : Fin 128)
    (M : Matrix (Fin 2) (Fin 2) ℝ) (f : ℕ → Pt) (x : Pt)
    (h33 : k0_pay13 v21 v23 (ix2 0 j) = ((M 0 0 : ℝ) : EReal)) (h37 : k0_pay14 v21 v23 (ix2 0 j) = ((M 0 1 : ℝ) : EReal))
    (h38 : k0_pay15 v21 v23 (ix2 0 j) = ((M 1 0 : ℝ) : EReal)) (h43 : k0_pay16 v21 v23 (ix2 0 j) = ((M 1 1 : ℝ) : EReal))
    (hf : ∀ r : Fin 512, Rep M (f r) (k0_pay17 v21 v23 (ix2 0 j) * k0_pay10 v19 (ix2 r j)) (k0_pay18 v21 v23 (ix2 0 j) * k0_pay10 v19 (ix2 r j)))
    (h12 : Rep M x (v617 (ix2 0 j)) (v618 (ix2 0 j))) :
    Scanned j M f x (scan0 v19 v21 v23 v617 v618) := by
  delta scan0
  extract_lets v20 v33 v37 v38 v43 v44 v46 v74 v80 v83 v86 v89 v92 v93 v95 v132 v138 v141 v144 v147 v150 v151 v153 v190 v196 v199 v202 v205 v208 v209 v211 v248 v254 v257 v260 v263 v266 v267 v269 v306 v312 v325 v326 v327 v328 v361 v362 v363 v364 v367 v370 v373 v376 v381 v386 v388 v433 v434 v435 v436 v439 v442 v445 v448 v475 v478 v481 v484 v505 v506 v507 v508 v541 v542 v543 v544 v547 v550 v553 v556 v561 v566 v568 v615 v616 v624
  have hP1 : ColT (n := 1) j v33 v37 v38 v43 fun _ => M ^ 1 := by
    intro r
    obtain rfl : r = 0 := Subsingleton.elim _ _
    simp only [pow_one]
    exact ⟨h33, h37, h38, h43⟩
  have hb : ColB j M (k0_pay21 v20 v44) (k0_pay22 v20 v46) (W M f 1) := by
    intro r
    simp only [W_one]
    show Rep M _ (broadcastTo S512x128 v44 _ (ix2 r j) * v20 (ix2 r j)) (broadcastTo S512x128 v46 _ (ix2 r j) * v20 (ix2 r j))
    rw [bc_apply, bc_apply]
    exact hf r
  have h74 : ColB j M v74 v80 (W M f 2) := lvl_spec 1 2 511 slices_S512x128_o0_0_S511x128 concatenates_S1x128_S511x128_S512x128_d0 rfl hP1 hb
  have hP2 : ColT (n := 1) j v83 v86 v89 v92 fun _ => M ^ 2 := sq_spec 1 2 rfl hP1
  have hP4' := sq_spec 2 4 rfl hP2
  have h132 : ColB j M v132 v138 (W M f 8) := lvl_spec 4 8 508 slices_S512x128_o0_0_S508x128 concatenates_S4x128_S508x128_S512x128_d0 rfl hP4' (lvl_spec 2 4 510 slices_S512x128_o0_0_S510x128 concatenates_S2x128_S510x128_S512x128_d0 rfl hP2 h74)
  have hP8 : ColT (n := 1) j v141 v144 v147 v150 fun _ => M ^ 8 := sq_spec 4 8 rfl hP4'
  have hP16' := sq_spec 8 16 rfl hP8
  have h190 : ColB j M v190 v196 (W M f 32) := lvl_spec 16 32 496 slices_S512x128_o0_0_S496x128 concatenates_S16x128_S496x128_S512x128_d0 rfl hP16' (lvl_spec 8 16 504 slices_S512x128_o0_0_S504x128 concatenates_S8x128_S504x128_S512x128_d0 rfl hP8 h132)
  have hP32 : ColT (n := 1) j v199 v202 v205 v208 fun _ => M ^ 32 := sq_spec 16 32 rfl hP16'
  have hP64' := sq_spec 32 64 rfl hP32
  have h248 : ColB j M v248 v254 (W M f 128) := lvl_spec 64 128 448 slices_S512x128_o0_0_S448x128 concatenates_S64x128_S448x128_S512x128_d0 rfl hP64' (lvl_spec 32 64 480 slices_S512x128_o0_0_S480x128 concatenates_S32x128_S480x128_S512x128_d0 rfl hP32 h190)
  have hP128 : ColT (n := 1) j v257 v260 v263 v266 fun _ => M ^ 128 := sq_spec 64 128 rfl hP64'
  have hP256' := sq_spec 128 256 rfl hP128
  have h306 : ColB j M v306 v312 (W M f 512) := lvl_spec 256 512 256 slices_S512x128_o0_0_S256x128 concatenates_S256x128_S256x128_S512x128_d0 rfl hP256' (lvl_spec 128 256 384 slices_S512x128_o0_0_S384x128 concatenates_S128x128_S384x128_S512x128_d0 rfl hP128 h248)
  have hT2 : ColT (n := 2) j v325 v326 v327 v328 fun r => M ^ (r + 1) := dbl1_spec (hc := concatenates_S1x128_S1x128_S2x128_d0) hP1
  have hR2 := sq_spec 1 2 rfl hP1
  have hT4 : ColT (n := 4) j v361 v362 v363 v364 fun r => M ^ (r + 1) := dbl_spec 2 4 (hc := concatenates_S2x128_S2x128_S4x128_d0) (hbc := broadcasts_S1x128_S2x128) rfl hT2 hR2
  have hR4 : ColT (n := 1) j v367 v370 v373 v376 fun _ => M ^ 4 := sq_spec 2 4 rfl hR2
  have hR8 := sq_spec 4 8 rfl hR4
  have hT16 : ColT (n := 16) j v433 v434 v435 v436 fun r => M ^ (r + 1) := dbl_spec 8 16 (hc := concatenates_S8x128_S8x128_S16x128_d0) (hbc := broadcasts_S1x128_S8x128) rfl (dbl_spec 4 8 (hc := concatenates_S4x128_S4x128_S8x128_d0) (hbc := broadcasts_S1x128_S4x128) rfl hT4 hR4) hR8
  have hR16 : ColT (n := 1) j v439 v442 v445 v448 fun _ => M ^ 16 := sq_spec 8 16 rfl hR8
  have hR32 : ColT (n := 1) j v475 v478 v481 v484 fun _ => M ^ 32 := sq_spec 16 32 rfl hR16
  have hT64 : ColT (n := 64) j v505 v506 v507 v508 fun r => M ^ (r + 1) := dbl_spec 32 64 (hc := concatenates_S32x128_S32x128_S64x128_d0) (hbc := broadcasts_S1x128_S32x128) rfl (dbl_spec 16 32 (hc := concatenates_S16x128_S16x128_S32x128_d0) (hbc := broadcasts_S1x128_S16x128) rfl hT16 hR16) hR32
  have hR64 := sq_spec 32 64 rfl hR32
  have hT128 : ColT (n := 128) j v541 v542 v543 v544 fun r => M ^ (r + 1) := dbl_spec 64 128 (hc := concatenates_S64x128_S64x128_S128x128_d0) (hbc := broadcasts_S1x128_S64x128) rfl hT64 hR64
  have hR128 : ColT (n := 1) j v547 v550 v553 v556 fun _ => M ^ 128 := sq_spec 64 128 rfl hR64
  have hR256 := sq_spec 128 256 rfl hR128
  have hT512 := dbl_spec 256 512 (hc := concatenates_S256x128_S256x128_S512x128_d0) (hbc := broadcasts_S1x128_S256x128) rfl (dbl_spec 128 256 (hc := concatenates_S128x128_S128x128_S256x128_d0) (hbc := broadcasts_S1x128_S128x128) rfl hT128 hR128) hR256
  have hfin : ColB j M v624 (k0_pay2 v312 v615 v616 v617 v618) (fun r => stR M f x (r + 1)) := fin_spec hT512 h306 h12
  have e1 : k0_pay3 v624 (ix2 0 j) = v624 (ix2 511 j) := by
    clear_value v624
    pointwise [k0_pay3]
  have e2 : k0_pay4 v312 v615 v616 v617 v618 (ix2 0 j) = k0_pay2 v312 v615 v616 v617 v618 (ix2 511 j) := by
    clear_value v312 v615 v616
    delta k0_pay4
    generalize k0_pay2 v312 v615 v616 v617 v618 = y
    pointwise
  refine ⟨fun r => ⟨_, hfin r⟩, ?_⟩
  show Rep M _ (k0_pay3 v624 (ix2 0 j)) (k0_pay4 v312 v615 v616 v617 v618 (ix2 0 j))
  rw [e1, e2]
  exact hfin 511

set_option maxHeartbeats 4000000 in
theorem scan1_spec (v19 : Vec Ideal S1x512x128 .f32) (v21 v23 v617 v618 : Vec Ideal S1x128 .f32) (j : Fin 128)
    (M : Matrix (Fin 2) (Fin 2) ℝ) (f : ℕ → Pt) (x : Pt)
    (h33 : k1_pay15 v21 v23 (ix2 0 j) = ((M 0 0 : ℝ) : EReal)) (h37 : k1_pay16 v21 v23 (ix2 0 j) = ((M 0 1 : ℝ) : EReal))
    (h38 : k1_pay17 v21 v23 (ix2 0 j) = ((M 1 0 : ℝ) : EReal)) (h43 : k1_pay18 v21 v23 (ix2 0 j) = ((M 1 1 : ℝ) : EReal))
    (hf : ∀ r : Fin 512, Rep M (f r) (k1_pay19 v21 v23 (ix2 0 j) * k1_pay12 v19 (ix2 r j)) (k1_pay20 v21 v23 (ix2 0 j) * k1_pay12 v19 (ix2 r j)))
    (h12 : Rep M x (v617 (ix2 0 j)) (v618 (ix2 0 j))) :
    Scanned j M f x (scan1 v19 v21 v23 v617 v618) := by
  delta scan1
  extract_lets v20 v33 v37 v38 v43 v44 v46 v74 v80 v83 v86 v89 v92 v93 v95 v132 v138 v141 v144 v147 v150 v151 v153 v190 v196 v199 v202 v205 v208 v209 v211 v248 v254 v257 v260 v263 v266 v267 v269 v306 v312 v325 v326 v327 v328 v361 v362 v363 v364 v367 v370 v373 v376 v381 v386 v388 v433 v434 v435 v436 v439 v442 v445 v448 v475 v478 v481 v484 v505 v506 v507 v508 v541 v542 v543 v544 v547 v550 v553 v556 v561 v566 v568 v615 v616 v624
  have hP1 : ColT (n := 1) j v33 v37 v38 v43 fun _ => M ^ 1 := by
    intro r
    obtain rfl : r = 0 := Subsingleton.elim _ _
    simp only [pow_one]
    exact ⟨h33, h37, h38, h43⟩
  have hb : ColB j M (k1_pay23 v20 v44) (k1_pay24 v20 v46) (W M f 1) := by
    intro r
    simp only [W_one]
    show Rep M _ (broadcastTo S512x128 v44 _ (ix2 r j) * v20 (ix2 r j)) (broadcastTo S512x128 v46 _ (ix2 r j) * v20 (ix2 r j))
    rw [bc_apply, bc_apply]
    exact hf r
  have h74 : ColB j M v74 v80 (W M f 2) := lvl_spec 1 2 511 slices_S512x128_o0_0_S511x128 concatenates_S1x128_S511x128_S512x128_d0 rfl hP1 hb
  have hP2 : ColT (n := 1) j v83 v86 v89 v92 fun _ => M ^ 2 := sq_spec 1 2 rfl hP1
  have hP4' := sq_spec 2 4 rfl hP2
  have h132 : ColB j M v132 v138 (W M f 8) := lvl_spec 4 8 508 slices_S512x128_o0_0_S508x128 concatenates_S4x128_S508x128_S512x128_d0 rfl hP4' (lvl_spec 2 4 510 slices_S512x128_o0_0_S510x128 concatenates_S2x128_S510x128_S512x128_d0 rfl hP2 h74)
  have hP8 : ColT (n := 1) j v141 v144 v147 v150 fun _ => M ^ 8 := sq_spec 4 8 rfl hP4'
  have hP16' := sq_spec 8 16 rfl hP8
  have h190 : ColB j M v190 v196 (W M f 32) := lvl_spec 16 32 496 slices_S512x128_o0_0_S496x128 concatenates_S16x128_S496x128_S512x128_d0 rfl hP16' (lvl_spec 8 16 504 slices_S512x128_o0_0_S504x128 concatenates_S8x128_S504x128_S512x128_d0 rfl hP8 h132)
  have hP32 : ColT (n := 1) j v199 v202 v205 v208 fun _ => M ^ 32 := sq_spec 16 32 rfl hP16'
  have hP64' := sq_spec 32 64 rfl hP32
  have h248 : ColB j M v248 v254 (W M f 128) := lvl_spec 64 128 448 slices_S512x128_o0_0_S448x128 concatenates_S64x128_S448x128_S512x128_d0 rfl hP64' (lvl_spec 32 64 480 slices_S512x128_o0_0_S480x128 concatenates_S32x128_S480x128_S512x128_d0 rfl hP32 h190)
  have hP128 : ColT (n := 1) j v257 v260 v263 v266 fun _ => M ^ 128 := sq_spec 64 128 rfl hP64'
  have hP256' := sq_spec 128 256 rfl hP128
  have h306 : ColB j M v306 v312 (W M f 512) := lvl_spec 256 512 256 slices_S512x128_o0_0_S256x128 concatenates_S256x128_S256x128_S512x128_d0 rfl hP256' (lvl_spec 128 256 384 slices_S512x128_o0_0_S384x128 concatenates_S128x128_S384x128_S512x128_d0 rfl hP128 h248)
  have hT2 : ColT (n := 2) j v325 v326 v327 v328 fun r => M ^ (r + 1) := dbl1_spec (hc := concatenates_S1x128_S1x128_S2x128_d0) hP1
  have hR2 := sq_spec 1 2 rfl hP1
  have hT4 : ColT (n := 4) j v361 v362 v363 v364 fun r => M ^ (r + 1) := dbl_spec 2 4 (hc := concatenates_S2x128_S2x128_S4x128_d0) (hbc := broadcasts_S1x128_S2x128) rfl hT2 hR2
  have hR4 : ColT (n := 1) j v367 v370 v373 v376 fun _ => M ^ 4 := sq_spec 2 4 rfl hR2
  have hR8 := sq_spec 4 8 rfl hR4
  have hT16 : ColT (n := 16) j v433 v434 v435 v436 fun r => M ^ (r + 1) := dbl_spec 8 16 (hc := concatenates_S8x128_S8x128_S16x128_d0) (hbc := broadcasts_S1x128_S8x128) rfl (dbl_spec 4 8 (hc := concatenates_S4x128_S4x128_S8x128_d0) (hbc := broadcasts_S1x128_S4x128) rfl hT4 hR4) hR8
  have hR16 : ColT (n := 1) j v439 v442 v445 v448 fun _ => M ^ 16 := sq_spec 8 16 rfl hR8
  have hR32 : ColT (n := 1) j v475 v478 v481 v484 fun _ => M ^ 32 := sq_spec 16 32 rfl hR16
  have hT64 : ColT (n := 64) j v505 v506 v507 v508 fun r => M ^ (r + 1) := dbl_spec 32 64 (hc := concatenates_S32x128_S32x128_S64x128_d0) (hbc := broadcasts_S1x128_S32x128) rfl (dbl_spec 16 32 (hc := concatenates_S16x128_S16x128_S32x128_d0) (hbc := broadcasts_S1x128_S16x128) rfl hT16 hR16) hR32
  have hR64 := sq_spec 32 64 rfl hR32
  have hT128 : ColT (n := 128) j v541 v542 v543 v544 fun r => M ^ (r + 1) := dbl_spec 64 128 (hc := concatenates_S64x128_S64x128_S128x128_d0) (hbc := broadcasts_S1x128_S64x128) rfl hT64 hR64
  have hR128 : ColT (n := 1) j v547 v550 v553 v556 fun _ => M ^ 128 := sq_spec 64 128 rfl hR64
  have hR256 := sq_spec 128 256 rfl hR128
  have hT512 := dbl_spec 256 512 (hc := concatenates_S256x128_S256x128_S512x128_d0) (hbc := broadcasts_S1x128_S256x128) rfl (dbl_spec 128 256 (hc := concatenates_S128x128_S128x128_S256x128_d0) (hbc := broadcasts_S1x128_S128x128) rfl hT128 hR128) hR256
  have hfin : ColB j M v624 (k1_pay6 v312 v615 v616 v617 v618) (fun r => stR M f x (r + 1)) := fin_spec hT512 h306 h12
  have e1 : k1_pay7 v624 (ix2 0 j) = v624 (ix2 511 j) := by
    clear_value v624
    pointwise [k1_pay7]
  have e2 : k1_pay8 v312 v615 v616 v617 v618 (ix2 0 j) = k1_pay6 v312 v615 v616 v617 v618 (ix2 511 j) := by
    clear_value v312 v615 v616
    delta k1_pay8
    generalize k1_pay6 v312 v615 v616 v617 v618 = y
    pointwise
  refine ⟨fun r => ⟨_, hfin r⟩, ?_⟩
  show Rep M _ (k1_pay7 v624 (ix2 0 j)) (k1_pay8 v312 v615 v616 v617 v618 (ix2 0 j))
  rw [e1, e2]
  exact hfin 511

end Cert.KernelIdeal.Own
-- ==== Proof.M.Finite.lean ====
module

public import proofs.«01_k».proof.Proof.M.Model
public import proofs.«01_k».proof.Proof.M.Scan

@[expose] public section

noncomputable section

namespace Cert.Model

open Idealize.ShloMosaic
open Cert.KernelIdeal.Own (stR)

/-! # Where the values are real numbers -/

theorem one_add_top : (1 : EReal) + ⊤ = ⊤ := by rw [← EReal.coe_one]; exact EReal.coe_add_top 1

theorem sgm_real (x : EReal) : ∃ p : ℝ, 0 ≤ p ∧ sgm x = (p : EReal) := by
  induction x using EReal.rec with
  | bot =>
    refine ⟨0, le_refl _, ?_⟩
    unfold sgm
    rw [EReal.neg_bot, show Ideal.exp ⊤ = ⊤ from rfl, one_add_top]
    simp [Ideal.div]
  | top =>
    refine ⟨1, zero_le_one, ?_⟩
    unfold sgm
    rw [EReal.neg_top, show Ideal.exp ⊥ = 0 from rfl]
    simp [Ideal.div]
  | coe r =>
    have h : (0 : ℝ) < 1 + Real.exp (-r) := by positivity
    refine ⟨1 / (1 + Real.exp (-r)), by positivity, ?_⟩
    unfold sgm
    rw [← EReal.coe_neg, Ideal.exp_coe, ← EReal.coe_one, ← EReal.coe_add, Ideal.div_coe h.ne']
    norm_cast
    ring

theorem sgm_fin (x : EReal) : Fin' (sgm x) := (sgm_real x).elim fun p h => ⟨p, h.2⟩

theorem div_pos_fin {y : ℝ} (h : 0 < y) {x : EReal} (hx : Fin' x) : Fin' (Ideal.div x (y : EReal)) := by
  rw [Ideal.div_coe h.ne']; exact hx.mul ⟨_, rfl⟩

/-- The coefficients are real; the inputs' two vanish together, or the transition is invertible and neither vanishes. -/
theorem coefs_real (a s : EReal) : ∃ (M : Matrix (Fin 2) (Fin 2) ℝ) (e : ℝ), c11 a s = (M 0 0 : EReal) ∧ c12 a s = (M 0 1 : EReal)
    ∧ c21 a s = (M 1 0 : EReal) ∧ c22 a s = (M 1 1 : EReal) ∧ cbe a s = (e : EReal)
    ∧ ((M 1 0 = 0 ∧ e = 0) ∨ (M.det ≠ 0 ∧ M 1 0 ≠ 0 ∧ e ≠ 0)) := by
  obtain ⟨p, hp, e⟩ := sgm_real s
  have hA : (0 : EReal) ≤ max a 0 := le_max_right _ _
  unfold c11 c12 c21 c22 cbe schur
  rw [e]
  generalize max a 0 = A at hA
  induction A using EReal.rec with
  | bot => exact absurd hA (by simp)
  | top =>
    rcases hp.eq_or_lt with rfl | hp'
    · have h1 : Ideal.div 1 (1 + ((0 : ℝ) : EReal) * ((0 : ℝ) : EReal) * ⊤) = 1 := by simp [Ideal.div]
      rw [h1]
      refine ⟨!![1, 0; 0, 1], 0, ?_, ?_, ?_, ?_, ?_, Or.inl ⟨rfl, rfl⟩⟩ <;> simp
    · have h2 : ((p : ℝ) : EReal) * (p : EReal) * ⊤ = ⊤ := by
        rw [← EReal.coe_mul]; exact EReal.coe_mul_top_of_pos (by positivity)
      have h1 : Ideal.div 1 (1 + (p : EReal) * (p : EReal) * ⊤) = 0 := by rw [h2, one_add_top]; simp [Ideal.div]
      rw [h1]
      refine ⟨!![0, 0; 0, 1], 0, ?_, ?_, ?_, ?_, ?_, Or.inl ⟨rfl, rfl⟩⟩ <;> simp
  | coe A =>
    have hA' : 0 ≤ A := by exact_mod_cast hA
    have hpos : 0 < 1 + p * p * A := by positivity
    have h1 : Ideal.div 1 (1 + (p : EReal) * (p : EReal) * (A : EReal)) = ((1 / (1 + p * p * A) : ℝ) : EReal) := by
      have : (1 + (p : EReal) * (p : EReal) * (A : EReal)) = ((1 + p * p * A : ℝ) : EReal) := by norm_cast
      rw [this, Ideal.div_coe hpos.ne', one_mul]
    rw [h1]
    have hS : (1 / (1 + p * p * A) : ℝ) ≠ 0 := by positivity
    generalize (1 / (1 + p * p * A) : ℝ) = S at hS
    refine ⟨!![S, -p * A * S; p * S, 1 - p * p * A * S], p * p * S, rfl, ?_, ?_, ?_, ?_, ?_⟩
    · show _ = ((-p * A * S : ℝ) : EReal); norm_cast
    · show _ = ((p * S : ℝ) : EReal); norm_cast
    · show _ = ((1 - p * p * A * S : ℝ) : EReal); norm_cast
    · norm_cast
    · rcases hp.eq_or_lt with rfl | hp'
      · exact Or.inl ⟨by show (0 : ℝ) * S = 0; ring, by ring⟩
      · refine Or.inr ⟨?_, mul_ne_zero hp'.ne' hS, mul_ne_zero (mul_ne_zero hp'.ne' hp'.ne') hS⟩
        rw [Matrix.det_fin_two_of]
        have : S * (1 - p * p * A * S) - -p * A * S * (p * S) = S := by ring
        rw [this]; exact hS

theorem const1024 : Ideal.ofBits .f32 0x44800000#32 = ((1024 : ℝ) : EReal) := by
  simp [Ideal.ofBits, Ideal.ieee]
  rw [← EReal.coe_mul]
  norm_num
theorem constEps : ∃ e : ℝ, 0 < e ∧ Ideal.ofBits .f32 0x3727C5AC#32 = (e : EReal) := by
  refine ⟨_, ?_, by simp [Ideal.ofBits, Ideal.ieee]; rfl⟩
  norm_num

theorem sq_top {x : EReal} (h : Inf x) : x * x = ⊤ := by
  rcases h with rfl | rfl <;> rfl
theorem sq_nonneg' (x : EReal) : 0 ≤ x * x := by
  induction x using EReal.rec with
  | bot => simp
  | top => simp
  | coe r => exact_mod_cast mul_self_nonneg r

/-- A row with an infinite entry is normed to zero. -/
theorem nrm_inf (w : Fin 1024 → EReal) {x : Fin 1024 → EReal} {i : Fin 1024} (hi : Inf (x i)) (k : Fin 1024) : nrm w x k = 0 := by
  obtain ⟨e, he, e'⟩ := constEps
  unfold nrm
  rw [const1024, e']
  have hS : ∑ i, x i * x i = (⊤ : EReal) := top_le_iff.1
    (le_of_eq_of_le (sq_top hi).symm (Finset.single_le_sum (f := fun i => x i * x i) (fun i _ => sq_nonneg' _) (Finset.mem_univ i)))
  rw [hS, Ideal.div_coe (by norm_num)]
  have h1 : (⊤ : EReal) * ((1 / 1024 : ℝ) : EReal) = ⊤ := EReal.top_mul_coe_of_pos (by norm_num)
  rw [h1, EReal.top_add_coe]
  have h2 : Ideal.rsqrt ⊤ = 0 := rfl
  rw [h2, mul_zero, zero_mul]

/-- Rows alike are normed to one row. -/
theorem nrm_sim (w : Fin 1024 → EReal) {x y : Fin 1024 → EReal} (h : ∀ k, Sim (x k) (y k)) : nrm w x = nrm w y := by
  by_cases he : ∀ k, x k = y k
  · rw [funext he]
  · obtain ⟨i, hi⟩ := not_forall.1 he
    rcases h i with e | ⟨hx, hy⟩
    · exact absurd e hi
    · funext k
      rw [nrm_inf w hx, nrm_inf w hy]

theorem proj_sim (w : Fin 1024 → EReal) (Wi : Fin 1024 → Fin 4096 → EReal) {x y : Fin 1024 → EReal} (h : ∀ k, Sim (x k) (y k)) :
    proj w Wi x = proj w Wi y := by
  unfold proj; rw [nrm_sim w h]
theorem uE_sim (w : Fin 1024 → EReal) (Wi : Fin 1024 → Fin 4096 → EReal) {x y : Fin 1024 → EReal} (h : ∀ k, Sim (x k) (y k)) :
    uE w Wi x = uE w Wi y := by
  unfold uE; rw [proj_sim w Wi h]
theorem zE_sim (w : Fin 1024 → EReal) (Wi : Fin 1024 → Fin 4096 → EReal) {x y : Fin 1024 → EReal} (h : ∀ k, Sim (x k) (y k)) :
    zE w Wi x = zE w Wi y := by
  unfold zE; rw [proj_sim w Wi h]

theorem blk_sim (C : Fin 2048 → Fin 128 → EReal) (D : Fin 2048 → EReal) (Wo : Fin 2048 → Fin 1024 → EReal) {x x' : Fin 1024 → EReal}
    (u z : Fin 2048 → EReal) {s s' : Fin 128 → EReal} (hx : ∀ k, Sim (x k) (x' k)) (hs : ∀ i, Sim (s i) (s' i)) (o : Fin 1024) :
    Sim (blk C D Wo x u z s o) (blk C D Wo x' u z s' o) :=
  (hx o).add (Sim.sum _ fun k => (((Sim.sum _ fun i => (hs i).mul (Sim.refl _)).add (Sim.refl _)).mul (Sim.refl _)).mul (Sim.refl _))

/-- The real coefficients, and the inputs as points. -/
theorem exists_rep (a s : EReal) (f : ℕ → EReal) :
    ∃ (M : Matrix (Fin 2) (Fin 2) ℝ) (g : ℕ → Pt), c11 a s = (M 0 0 : EReal) ∧ c12 a s = (M 0 1 : EReal)
      ∧ c21 a s = (M 1 0 : EReal) ∧ c22 a s = (M 1 1 : EReal) ∧ ∀ n, Rep M (g n) (c21 a s * f n) (cbe a s * f n) := by
  obtain ⟨M, e, h11, h12, h21, h22, he, hd⟩ := coefs_real a s
  have hg : ∀ n, ∃ v : Pt, Rep M v (c21 a s * f n) (cbe a s * f n) := fun n => by
    rw [h21, he]
    rcases fin_or_inf (f n) with ⟨r, hr⟩ | hi
    · rw [hr]
      exact ⟨((![M 1 0 * r, e * r] : Fin 2 → ℝ) : Pt), Or.inl ⟨_, rfl, (EReal.coe_mul _ _).symm, (EReal.coe_mul _ _).symm⟩⟩
    · rcases hd with ⟨h1, h2⟩ | ⟨h0, h1, h2⟩
      · rw [h1, h2, EReal.coe_zero, zero_mul]
        exact ⟨0, Rep.zero M⟩
      · exact ⟨⊤, Or.inr ⟨rfl, h0, hi.mul_left (by exact_mod_cast h1), hi.mul_left (by exact_mod_cast h2)⟩⟩
  choose g hg using hg
  exact ⟨M, g, h11, h12, h21, h22, hg⟩

/-- The recurrence's states are the points' recurrence. -/
theorem stE_rep {a s : EReal} {f : ℕ → EReal} {M : Matrix (Fin 2) (Fin 2) ℝ} {g : ℕ → Pt}
    (h11 : c11 a s = (M 0 0 : EReal)) (h12 : c12 a s = (M 0 1 : EReal)) (h21 : c21 a s = (M 1 0 : EReal))
    (h22 : c22 a s = (M 1 1 : EReal)) (hg : ∀ n, Rep M (g n) (c21 a s * f n) (cbe a s * f n)) (n : ℕ) :
    Rep M (stR M g 0 n) (stE a s f n).1 (stE a s f n).2 := by
  induction n with
  | zero => exact Rep.zero M
  | succ n ih =>
    have key := Rep.comb 1 (hg n) ih
    rw [pow_one, ← h11, ← h12, ← h21, ← h22, add_assoc, add_assoc, add_comm (c21 a s * f n), add_comm (cbe a s * f n), add_comm (g n)] at key
    exact key

end Cert.Model
-- ==== Proof.M.R0.lean ====
module

public import proofs.«01_k».proof.Proof.K.Region0
public import proofs.«01_k».proof.Proof.M.Rows
public import proofs.«01_k».proof.Proof.M.ScanSpec
public import proofs.«01_k».proof.Proof.M.Finite
public import Idealize.ShloMosaic.Lib.Pipeline.ValueKit.Geometry

@[expose] public section

set_option maxRecDepth 16384

noncomputable section

namespace Cert.KernelIdeal.Own

open Cert.KernelIdeal Cert.KernelIdeal.Gen Cert.Model
open Idealize.ShloMosaic Idealize.ShloMosaic.TcCoe
open Idealize.ShloMosaic.Pipeline (Dat Cfg Window)

variable (V : (c : Dev nD) → (b : Ref sig .tc) → Buf (Elt Ideal) ((c : Thread nD τ).loc b))

/-! # Call 0's blocks and arrays -/

theorem e0_0 : ∀ t : Fin grid0.N, win0_0.index t = ![min t.val 15, 0] := by decide +kernel
theorem e0_1 : ∀ t : Fin grid0.N, win0_1.index t = ![0, 0] := by decide +kernel
theorem e0_2 : ∀ t : Fin grid0.N, win0_2.index t = ![0, 0] := by decide +kernel
theorem e0_3 : ∀ t : Fin grid0.N, win0_3.index t = ![0, 0] := by decide +kernel
theorem e0_4 : ∀ t : Fin grid0.N, win0_4.index t = ![0, 0] := by decide +kernel
theorem e0_5 : ∀ t : Fin grid0.N, win0_5.index t = ![0, 0] := by decide +kernel
theorem e0_6 : ∀ t : Fin grid0.N, win0_6.index t = ![min t.val 15, 0] := by decide +kernel
theorem e0_7 : ∀ t : Fin grid0.N, win0_7.index t = ![min t.val 15, 0] := by decide +kernel
theorem e0_8 : ∀ t : Fin grid0.N, win0_8.index t = ![t.val - 1, 0] := by decide +kernel

/-- Row `r` of tile `k` as a row of the whole array. -/
abbrev trow (k : ℕ) (hk : k < 16) (r : Fin 512) : Fin 8192 := ⟨k * 512 + r.val, by omega⟩

theorem iblk0_0 (c : Dev nD) (k : ℕ) (hk : k < 16) (r : Fin 512) (j : Fin 1024) :
    iblk0 V c 0 (pt0 k) (ix2 r j) = V c main_v0 (ix2 (trow k hk r) j) := by
  have hp : min (min k 16) 15 = k := by omega
  blk_ext [iblk0, e0_0, pt0, hp]
theorem iblk0_1 (c : Dev nD) (t : Fin cfg0.N) (j : Fin 1024) : iblk0 V c 1 t (ix2 0 j) = V c main_v5 (ix2 0 j) := by
  blk_ext [iblk0, e0_1]
theorem iblk0_2 (c : Dev nD) (t : Fin cfg0.N) (k : Fin 1024) (j : Fin 4096) : iblk0 V c 2 t (ix2 k j) = V c main_arg2 (ix2 k j) := by
  blk_ext [iblk0, e0_2]
theorem iblk0_3 (c : Dev nD) (t : Fin cfg0.N) (k : Fin 2048) (j : Fin 128) : iblk0 V c 3 t (ix2 k j) = V c main_v1 (ix2 k j) := by
  blk_ext [iblk0, e0_3]
theorem iblk0_4 (c : Dev nD) (t : Fin cfg0.N) (j : Fin 128) : iblk0 V c 4 t (ix2 0 j) = V c main_v6 (ix2 0 j) := by
  blk_ext [iblk0, e0_4]
theorem iblk0_5 (c : Dev nD) (t : Fin cfg0.N) (j : Fin 128) : iblk0 V c 5 t (ix2 0 j) = V c main_v7 (ix2 0 j) := by
  blk_ext [iblk0, e0_5]

/-- The rows of sequence `b`. -/
def rowsOf (x : Fin 8192 → Fin 1024 → EReal) (b n : ℕ) : Fin 1024 → EReal := x ⟨(b * 4096 + n) % 8192, Nat.mod_lt _ (by decide)⟩

/-- What call 0 finds: the rows and the layer's weights. -/
structure In0 (c : Dev nD) (L : Layer) (x : Fin 8192 → Fin 1024 → EReal) : Prop where
  x : ∀ R k, V c main_v0 (ix2 R k) = x R k
  w : ∀ k, V c main_v5 (ix2 0 k) = L.w k
  Wi : ∀ k j, V c main_arg2 (ix2 k j) = L.Wi k j
  B : ∀ k j, V c main_v1 (ix2 k j) = L.B j k
  a : ∀ j, V c main_v6 (ix2 0 j) = L.a j
  s : ∀ j, V c main_v7 (ix2 0 j) = L.s j

variable {V} {c : Dev nD} {L : Layer} {x : Fin 8192 → Fin 1024 → EReal}

theorem In0.xrow (h : In0 V c L x) (k : ℕ) (hk : k < 16) (r : Fin 512) :
    (fun i => iblk0 V c 0 (pt0 k) (ix2 r i)) = x (trow k hk r) := funext fun i => (iblk0_0 V c k hk r i).trans (h.x _ _)
theorem In0.wrow (h : In0 V c L x) (t : Fin cfg0.N) : (fun i => iblk0 V c 1 t (ix2 0 i)) = L.w :=
  funext fun i => (iblk0_1 V c t i).trans (h.w _)
theorem In0.Wmat (h : In0 V c L x) (t : Fin cfg0.N) : (fun k j => iblk0 V c 2 t (ix2 k j)) = L.Wi :=
  funext fun k => funext fun j => (iblk0_2 V c t k j).trans (h.Wi _ _)
theorem In0.Bmat (h : In0 V c L x) (t : Fin cfg0.N) : (fun j k => iblk0 V c 3 t (ix2 k j)) = L.B :=
  funext fun k => funext fun j => (iblk0_3 V c t j k).trans (h.B _ _)

theorem trow_rowsOf (x : Fin 8192 → Fin 1024 → EReal) (k : ℕ) (hk : k < 16) (r : Fin 512) :
    x (trow k hk r) = rowsOf x (k / 8) (k % 8 * 512 + r) := by
  unfold rowsOf
  congr 1
  apply Fin.ext
  show k * 512 + r.val = (k / 8 * 4096 + (k % 8 * 512 + r.val)) % 8192
  have := r.isLt
  omega

theorem In0.bu (h : In0 V c L x) (k : ℕ) (hk : k < 16) (r : Fin 512) (j : Fin 128) :
    k0_pay10 (bu0 V c k) (ix2 r j) = L.bu (rowsOf x (k / 8)) j (k % 8 * 512 + r) := by
  unfold bu0
  refine (bu0_row _ _ _ _ r j).trans ?_
  unfold Layer.bu
  rw [h.Bmat, h.wrow, h.Wmat, h.xrow k hk r, trow_rowsOf x k hk r]

/-- The carries a tile starts from are the states at its first row. -/
theorem In0.scan (h : In0 V c L x) (k : ℕ) (hk : k < 16) (t : Fin cfg0.N) (c1 c2 : Vec Ideal S1x128 .f32) (j : Fin 128)
    {M : Matrix (Fin 2) (Fin 2) ℝ} {g : ℕ → Pt}
    (h11 : c11 (L.a j) (L.s j) = (M 0 0 : EReal)) (h12 : c12 (L.a j) (L.s j) = (M 0 1 : EReal))
    (h21 : c21 (L.a j) (L.s j) = (M 1 0 : EReal)) (h22 : c22 (L.a j) (L.s j) = (M 1 1 : EReal))
    (hg : ∀ n, Rep M (g n) (c21 (L.a j) (L.s j) * L.bu (rowsOf x (k / 8)) j n) (cbe (L.a j) (L.s j) * L.bu (rowsOf x (k / 8)) j n))
    (e : Rep M (stR M g 0 (k % 8 * 512)) (c1 (ix2 0 j)) (c2 (ix2 0 j))) :
    Scanned j M (fun n => g (k % 8 * 512 + n)) (stR M g 0 (k % 8 * 512)) (scan0 (bu0 V c k) (iblk0 V c 4 t) (iblk0 V c 5 t) c1 c2) := by
  obtain ⟨q1, q2, q3, q4, q5, q6⟩ := coef0 (iblk0 V c 4 t) (iblk0 V c 5 t) j
  rw [iblk0_4, iblk0_5, h.a, h.s] at q1 q2 q3 q4 q5 q6
  refine scan0_spec _ _ _ _ _ j M _ _ (q1.trans h11) (q2.trans h12) (q3.trans h21) (q4.trans h22) (fun r => ?_) e
  rw [q5, q6, h.bu k hk]
  exact hg _

theorem k0_zero (j : Fin 128) (M : Matrix (Fin 2) (Fin 2) ℝ) :
    Rep M 0 ((k0_pay19 : FVec Ideal S1x128 .f32) (ix2 0 j)) ((k0_pay20 : FVec Ideal S1x128 .f32) (ix2 0 j)) := by
  have e1 : (k0_pay19 : FVec Ideal S1x128 .f32) (ix2 0 j) = (0 : EReal) := by pointwise [k0_pay19]
  have e2 : (k0_pay20 : FVec Ideal S1x128 .f32) (ix2 0 j) = (0 : EReal) := by pointwise [k0_pay20]
  rw [e1, e2]
  exact Rep.zero M

/-- Every tile's scan in the terms of its sequence. -/
theorem In0.out (h : In0 V c L x) (j : Fin 128) (b : ℕ) {M : Matrix (Fin 2) (Fin 2) ℝ} {g : ℕ → Pt}
    (h11 : c11 (L.a j) (L.s j) = (M 0 0 : EReal)) (h12 : c12 (L.a j) (L.s j) = (M 0 1 : EReal))
    (h21 : c21 (L.a j) (L.s j) = (M 1 0 : EReal)) (h22 : c22 (L.a j) (L.s j) = (M 1 1 : EReal))
    (hg : ∀ n, Rep M (g n) (c21 (L.a j) (L.s j) * L.bu (rowsOf x b) j n) (cbe (L.a j) (L.s j) * L.bu (rowsOf x b) j n)) :
    ∀ k, k < 16 → k / 8 = b → Scanned j M (fun n => g (k % 8 * 512 + n)) (stR M g 0 (k % 8 * 512)) (out0 V c k)
  | 0, hk, hb => by
    subst hb
    exact h.scan 0 hk _ _ _ j h11 h12 h21 h22 hg (k0_zero j M)
  | k + 1, hk, hb => by
    subst hb
    rw [out0]
    refine h.scan (k + 1) hk _ _ _ j h11 h12 h21 h22 hg ?_
    by_cases h8 : (k + 1) % 8 = 0
    · rw [if_pos h8, if_pos h8, h8]; exact k0_zero j M
    · rw [if_neg h8, if_neg h8]
      have key := (In0.out h j _ h11 h12 h21 h22 hg k (by omega) (by omega)).2
      rw [stR_add, show k % 8 * 512 + 512 = (k + 1) % 8 * 512 by omega] at key
      exact key

/-- The scanned tile holds the layer's states. -/
theorem In0.xs (h : In0 V c L x) (k : ℕ) (hk : k < 16) (r : Fin 512) (j : Fin 128) :
    Sim ((out0 V c k).1 (ix2 r j)) (L.st (rowsOf x (k / 8)) (k % 8 * 512 + r + 1) j).2 := by
  obtain ⟨M, g, h11, h12, h21, h22, hg⟩ := exists_rep (L.a j) (L.s j) (L.bu (rowsOf x (k / 8)) j)
  obtain ⟨y, hy⟩ := (h.out j _ h11 h12 h21 h22 hg k hk rfl).1 r
  rw [stR_add] at hy
  exact hy.sim (stE_rep h11 h12 h21 h22 hg (k % 8 * 512 + (r + 1)))

/-! ## The arrays call 0 leaves -/

theorem In0.u_at (h : In0 V c L x) {T : ℕ} (hT : T < 16) (y : S512x2048.Idx) (i : S8192x2048.Idx)
    (e0 : (i 0).val = T * 512 + (y 0).val) (e1 : (i 1).val = (y 1).val) :
    k0_pay8 (iblk0 V c 0 (pt0 T)) (iblk0 V c 1 (pt0 T)) (iblk0 V c 2 (pt0 T)) y = uE L.w L.Wi (x (i 0)) (i 1) := by
  rw [eq_ix2 y]
  refine (k0_pay8_row _ _ _ (y 0) (y 1)).trans ?_
  rw [h.wrow, h.Wmat, h.xrow T hT (y 0), show i 0 = trow T hT (y 0) from Fin.ext e0, show i 1 = y 1 from Fin.ext e1]

theorem In0.z_at (h : In0 V c L x) {T : ℕ} (hT : T < 16) (y : S512x2048.Idx) (i : S8192x2048.Idx)
    (e0 : (i 0).val = T * 512 + (y 0).val) (e1 : (i 1).val = (y 1).val) :
    k0_pay9 (iblk0 V c 0 (pt0 T)) (iblk0 V c 1 (pt0 T)) (iblk0 V c 2 (pt0 T)) y = zE L.w L.Wi (x (i 0)) (i 1) := by
  rw [eq_ix2 y]
  refine (k0_pay9_row _ _ _ (y 0) (y 1)).trans ?_
  rw [h.wrow, h.Wmat, h.xrow T hT (y 0), show i 0 = trow T hT (y 0) from Fin.ext e0, show i 1 = y 1 from Fin.ext e1]

/-- The states a call's array of states holds. -/
def xsOf (L : Layer) (x : Fin 8192 → Fin 1024 → EReal) (R : Fin 8192) (j : Fin 128) : EReal :=
  (L.st (rowsOf x (R.val / 4096)) (R.val % 4096 + 1) j).2

/-- The states in one array. -/
def xsArr0 (V : (c : Dev nD) → (b : Ref sig .tc) → Buf (Elt Ideal) ((c : Thread nD τ).loc b)) (c : Dev nD) (i : S8192x128.Idx) : EReal :=
  (out0 V c ((i 0).val / 512)).1 (ix2 (⟨(i 0).val % 512, Nat.mod_lt _ (by decide)⟩ : Fin 512) (i 1 : Fin 128))

theorem In0.xsArr (h : In0 V c L x) (R : Fin 8192) (j : Fin 128) : Sim (xsArr0 V c (ix2 R j)) (xsOf L x R j) := by
  have key := h.xs (R.val / 512) (by omega) (⟨R.val % 512, Nat.mod_lt _ (by decide)⟩ : Fin 512) j
  have d1 : R.val / 512 / 8 = R.val / 4096 := by omega
  have d2 : R.val / 512 % 8 * 512 + R.val % 512 = R.val % 4096 := by omega
  have e : (L.st (rowsOf x (R.val / 512 / 8)) (R.val / 512 % 8 * 512 + R.val % 512 + 1) j).2 = xsOf L x R j := by
    unfold xsOf
    rw [d1, d2]
  exact e ▸ key

theorem xs0_at {T : ℕ} (y : S512x128.Idx) (i : S8192x128.Idx)
    (e0 : (i 0).val = T * 512 + (y 0).val) (e1 : (i 1).val = (y 1).val) : (out0 V c T).1 y = xsArr0 V c i := by
  have hy : (y 0).val < 512 := (y 0).isLt
  have d1 : (i 0).val / 512 = T := by omega
  have d2 : (i 0).val % 512 = (y 0).val := by omega
  unfold xsArr0
  rw [d1]
  refine congrArg (out0 V c T).1 (funext fun a => Fin.ext ?_)
  match a with
  | ⟨0, _⟩ => exact d2.symm
  | ⟨1, _⟩ => exact e1.symm

theorem R0_u (h : In0 V c L x) : (dat0 V c).arrAt 6 cfg0.N = fun i => uE L.w L.Wi (x (i 0)) (i 1) := by
  refine (dat0 V c).arrAt_eq_of_covers 6 _ (by decide +kernel) fun t hf y => ?_
  blk_simp
  rw [after0_6, show cap0 t = pt0 (min t.val 15) from rfl]
  refine h.u_at (by omega) y _ ?_ ?_
  · blk_simp [e0_6]
  · blk_simp [e0_6]

theorem R0_z (h : In0 V c L x) : (dat0 V c).arrAt 7 cfg0.N = fun i => zE L.w L.Wi (x (i 0)) (i 1) := by
  refine (dat0 V c).arrAt_eq_of_covers 7 _ (by decide +kernel) fun t hf y => ?_
  blk_simp
  rw [after0_7, show cap0 t = pt0 (min t.val 15) from rfl]
  refine h.z_at (by omega) y _ ?_ ?_
  · blk_simp [e0_7]
  · blk_simp [e0_7]

theorem R0_xs : (dat0 V c).arrAt 8 cfg0.N = xsArr0 V c := by
  refine (dat0 V c).arrAt_eq_of_covers 8 _ (by decide +kernel) fun t hf y => ?_
  blk_simp
  rw [after0_8]
  refine xs0_at y _ ?_ ?_
  · blk_simp [e0_8]
  · blk_simp [e0_8]

end Cert.KernelIdeal.Own
-- ==== Proof.M.R1.lean ====
module

public import proofs.«01_k».proof.Proof.K.Region1
public import proofs.«01_k».proof.Proof.M.R0

@[expose] public section

set_option maxRecDepth 16384

noncomputable section

namespace Cert.KernelIdeal.Own

open Cert.KernelIdeal Cert.KernelIdeal.Gen Cert.Model
open Idealize.ShloMosaic Idealize.ShloMosaic.TcCoe
open Idealize.ShloMosaic.Pipeline (Dat Cfg Window)

variable (V : (c : Dev nD) → (b : Ref sig .tc) → Buf (Elt Ideal) ((c : Thread nD τ).loc b))

/-! # Call 1's blocks and arrays -/

theorem e1_0 : ∀ t : Fin grid1.N, win1_0.index t = ![min t.val 15, 0] := by decide +kernel
theorem e1_1 : ∀ t : Fin grid1.N, win1_1.index t = ![min t.val 15, 0] := by decide +kernel
theorem e1_2 : ∀ t : Fin grid1.N, win1_2.index t = ![min t.val 15, 0] := by decide +kernel
theorem e1_3 : ∀ t : Fin grid1.N, win1_3.index t = ![min t.val 15, 0] := by decide +kernel
theorem e1_12 : ∀ t : Fin grid1.N, win1_12.index t = ![min t.val 15, 0] := by decide +kernel
theorem e1_13 : ∀ t : Fin grid1.N, win1_13.index t = ![min t.val 15, 0] := by decide +kernel
theorem e1_14 : ∀ t : Fin grid1.N, win1_14.index t = ![min t.val 15, 0] := by decide +kernel
theorem e1_15 : ∀ t : Fin grid1.N, win1_15.index t = ![t.val - 1, 0] := by decide +kernel
theorem e1_4 : ∀ t : Fin grid1.N, win1_4.index t = ![0, 0] := by decide +kernel
theorem e1_5 : ∀ t : Fin grid1.N, win1_5.index t = ![0, 0] := by decide +kernel
theorem e1_6 : ∀ t : Fin grid1.N, win1_6.index t = ![0, 0] := by decide +kernel
theorem e1_7 : ∀ t : Fin grid1.N, win1_7.index t = ![0, 0] := by decide +kernel
theorem e1_8 : ∀ t : Fin grid1.N, win1_8.index t = ![0, 0] := by decide +kernel
theorem e1_9 : ∀ t : Fin grid1.N, win1_9.index t = ![0, 0] := by decide +kernel
theorem e1_10 : ∀ t : Fin grid1.N, win1_10.index t = ![0, 0] := by decide +kernel
theorem e1_11 : ∀ t : Fin grid1.N, win1_11.index t = ![0, 0] := by decide +kernel

theorem iblk1_0 (c : Dev nD) (k : ℕ) (hk : k < 16) (r : Fin 512) (j : Fin 1024) :
    iblk1 V c 0 (pt1 k) (ix2 r j) = V c main_v0 (ix2 (trow k hk r) j) := by
  have hp : min (min k 16) 15 = k := by omega
  blk_ext [iblk1, e1_0, pt1, hp]
theorem iblk1_1 (c : Dev nD) (k : ℕ) (hk : k < 16) (r : Fin 512) (j : Fin 2048) :
    iblk1 V c 1 (pt1 k) (ix2 r j) = V c main_v8_0 (ix2 (trow k hk r) j) := by
  have hp : min (min k 16) 15 = k := by omega
  blk_ext [iblk1, e1_1, pt1, hp]
theorem iblk1_2 (c : Dev nD) (k : ℕ) (hk : k < 16) (r : Fin 512) (j : Fin 2048) :
    iblk1 V c 2 (pt1 k) (ix2 r j) = V c main_v8_1 (ix2 (trow k hk r) j) := by
  have hp : min (min k 16) 15 = k := by omega
  blk_ext [iblk1, e1_2, pt1, hp]
theorem iblk1_3 (c : Dev nD) (k : ℕ) (hk : k < 16) (r : Fin 512) (j : Fin 128) :
    iblk1 V c 3 (pt1 k) (ix2 r j) = V c main_v8_2 (ix2 (trow k hk r) j) := by
  have hp : min (min k 16) 15 = k := by omega
  blk_ext [iblk1, e1_3, pt1, hp]
theorem iblk1_4 (c : Dev nD) (t : Fin cfg1.N) (k : Fin 128) (j : Fin 2048) : iblk1 V c 4 t (ix2 k j) = V c main_v3 (ix2 k j) := by
  blk_ext [iblk1, e1_4]
theorem iblk1_5 (c : Dev nD) (t : Fin cfg1.N) (j : Fin 2048) : iblk1 V c 5 t (ix2 0 j) = V c main_v9 (ix2 0 j) := by
  blk_ext [iblk1, e1_5]
theorem iblk1_6 (c : Dev nD) (t : Fin cfg1.N) (k : Fin 2048) (j : Fin 1024) : iblk1 V c 6 t (ix2 k j) = V c main_arg8 (ix2 k j) := by
  blk_ext [iblk1, e1_6]
theorem iblk1_7 (c : Dev nD) (t : Fin cfg1.N) (j : Fin 1024) : iblk1 V c 7 t (ix2 0 j) = V c main_v10 (ix2 0 j) := by
  blk_ext [iblk1, e1_7]
theorem iblk1_8 (c : Dev nD) (t : Fin cfg1.N) (k : Fin 1024) (j : Fin 4096) : iblk1 V c 8 t (ix2 k j) = V c main_arg10 (ix2 k j) := by
  blk_ext [iblk1, e1_8]
theorem iblk1_9 (c : Dev nD) (t : Fin cfg1.N) (k : Fin 2048) (j : Fin 128) : iblk1 V c 9 t (ix2 k j) = V c main_v2 (ix2 k j) := by
  blk_ext [iblk1, e1_9]
theorem iblk1_10 (c : Dev nD) (t : Fin cfg1.N) (j : Fin 128) : iblk1 V c 10 t (ix2 0 j) = V c main_v11 (ix2 0 j) := by
  blk_ext [iblk1, e1_10]
theorem iblk1_11 (c : Dev nD) (t : Fin cfg1.N) (j : Fin 128) : iblk1 V c 11 t (ix2 0 j) = V c main_v12 (ix2 0 j) := by
  blk_ext [iblk1, e1_11]

/-- A layer's output row. -/
def outRow (L : Layer) (x : Fin 8192 → Fin 1024 → EReal) (R : Fin 8192) : Fin 1024 → EReal :=
  blk L.C L.D L.Wo (x R) (uE L.w L.Wi (x R)) (zE L.w L.Wi (x R)) (xsOf L x R)

/-- What call 1 finds: what call 0 left and the two layers' weights. -/
structure In1 (c : Dev nD) (K L : Layer) (x : Fin 8192 → Fin 1024 → EReal) : Prop where
  hx : ∀ R k, V c main_v0 (ix2 R k) = x R k
  u : ∀ R k, V c main_v8_0 (ix2 R k) = uE K.w K.Wi (x R) k
  z : ∀ R k, V c main_v8_1 (ix2 R k) = zE K.w K.Wi (x R) k
  s0 : ∀ R k, Sim (V c main_v8_2 (ix2 R k)) (xsOf K x R k)
  C : ∀ i k, V c main_v3 (ix2 i k) = K.C k i
  D : ∀ k, V c main_v9 (ix2 0 k) = K.D k
  Wo : ∀ k o, V c main_arg8 (ix2 k o) = K.Wo k o
  w : ∀ k, V c main_v10 (ix2 0 k) = L.w k
  Wi : ∀ k j, V c main_arg10 (ix2 k j) = L.Wi k j
  B : ∀ k j, V c main_v2 (ix2 k j) = L.B j k
  a : ∀ j, V c main_v11 (ix2 0 j) = L.a j
  s : ∀ j, V c main_v12 (ix2 0 j) = L.s j

variable {V} {c : Dev nD} {K L : Layer} {x : Fin 8192 → Fin 1024 → EReal}

theorem In1.wrow (h : In1 V c K L x) (t : Fin cfg1.N) : (fun i => iblk1 V c 7 t (ix2 0 i)) = L.w :=
  funext fun i => (iblk1_7 V c t i).trans (h.w _)
theorem In1.Wmat (h : In1 V c K L x) (t : Fin cfg1.N) : (fun k j => iblk1 V c 8 t (ix2 k j)) = L.Wi :=
  funext fun k => funext fun j => (iblk1_8 V c t k j).trans (h.Wi _ _)
theorem In1.Bmat (h : In1 V c K L x) (t : Fin cfg1.N) : (fun j k => iblk1 V c 9 t (ix2 k j)) = L.B :=
  funext fun k => funext fun j => (iblk1_9 V c t j k).trans (h.B _ _)

/-- Call 0's layer finished on tile `k`. -/
def mid1 (V : (c : Dev nD) → (b : Ref sig .tc) → Buf (Elt Ideal) ((c : Thread nD τ).loc b)) (c : Dev nD) (k : ℕ) : FVec Ideal S512x1024 .f32 :=
  k1_pay9 (iblk1 V c 0 (pt1 k)) (iblk1 V c 1 (pt1 k)) (iblk1 V c 2 (pt1 k)) (iblk1 V c 3 (pt1 k)) (iblk1 V c 4 (pt1 k)) (iblk1 V c 5 (pt1 k)) (iblk1 V c 6 (pt1 k))

theorem In1.xrow (h : In1 V c K L x) (k : ℕ) (hk : k < 16) (r : Fin 512) (o : Fin 1024) :
    Sim (mid1 V c k (ix2 r o)) (outRow K x (trow k hk r) o) := by
  rw [show mid1 V c k (ix2 r o) = _ from k1_pay9_row _ _ _ _ _ _ _ r o]
  unfold outRow
  simp only [iblk1_0 V c k hk, iblk1_1 V c k hk, iblk1_2 V c k hk, iblk1_3 V c k hk, iblk1_4, iblk1_5, iblk1_6,
    h.hx, h.u, h.z, h.C, h.D, h.Wo]
  exact blk_sim _ _ _ _ _ (fun _ => Sim.refl _) (fun i => h.s0 _ i) o

theorem In1.bu (h : In1 V c K L x) (k : ℕ) (hk : k < 16) (r : Fin 512) (j : Fin 128) :
    k1_pay12 (bu1 V c k) (ix2 r j) = L.bu (rowsOf (outRow K x) (k / 8)) j (k % 8 * 512 + r) := by
  unfold bu1
  refine (bu1_row (mid1 V c k) _ _ _ r j).trans ?_
  unfold Layer.bu
  rw [h.Bmat, h.wrow, h.Wmat, uE_sim L.w L.Wi (h.xrow k hk r), trow_rowsOf (outRow K x) k hk r]

/-- The carries a tile starts from are the states at its first row. -/
theorem In1.scan (h : In1 V c K L x) (k : ℕ) (hk : k < 16) (t : Fin cfg1.N) (c1 c2 : Vec Ideal S1x128 .f32) (j : Fin 128)
    {M : Matrix (Fin 2) (Fin 2) ℝ} {g : ℕ → Pt}
    (h11 : c11 (L.a j) (L.s j) = (M 0 0 : EReal)) (h12 : c12 (L.a j) (L.s j) = (M 0 1 : EReal))
    (h21 : c21 (L.a j) (L.s j) = (M 1 0 : EReal)) (h22 : c22 (L.a j) (L.s j) = (M 1 1 : EReal))
    (hg : ∀ n, Rep M (g n) (c21 (L.a j) (L.s j) * L.bu (rowsOf (outRow K x) (k / 8)) j n) (cbe (L.a j) (L.s j) * L.bu (rowsOf (outRow K x) (k / 8)) j n))
    (e : Rep M (stR M g 0 (k % 8 * 512)) (c1 (ix2 0 j)) (c2 (ix2 0 j))) :
    Scanned j M (fun n => g (k % 8 * 512 + n)) (stR M g 0 (k % 8 * 512)) (scan1 (bu1 V c k) (iblk1 V c 10 t) (iblk1 V c 11 t) c1 c2) := by
  obtain ⟨q1, q2, q3, q4, q5, q6⟩ := coef1 (iblk1 V c 10 t) (iblk1 V c 11 t) j
  rw [iblk1_10, iblk1_11, h.a, h.s] at q1 q2 q3 q4 q5 q6
  refine scan1_spec _ _ _ _ _ j M _ _ (q1.trans h11) (q2.trans h12) (q3.trans h21) (q4.trans h22) (fun r => ?_) e
  rw [q5, q6, h.bu k hk]
  exact hg _

theorem k1_zero (j : Fin 128) (M : Matrix (Fin 2) (Fin 2) ℝ) :
    Rep M 0 ((k1_pay21 : FVec Ideal S1x128 .f32) (ix2 0 j)) ((k1_pay22 : FVec Ideal S1x128 .f32) (ix2 0 j)) := by
  have e1 : (k1_pay21 : FVec Ideal S1x128 .f32) (ix2 0 j) = (0 : EReal) := by pointwise [k1_pay21]
  have e2 : (k1_pay22 : FVec Ideal S1x128 .f32) (ix2 0 j) = (0 : EReal) := by pointwise [k1_pay22]
  rw [e1, e2]
  exact Rep.zero M

/-- Every tile's scan in the terms of its sequence. -/
theorem In1.out (h : In1 V c K L x) (j : Fin 128) (b : ℕ) {M : Matrix (Fin 2) (Fin 2) ℝ} {g : ℕ → Pt}
    (h11 : c11 (L.a j) (L.s j) = (M 0 0 : EReal)) (h12 : c12 (L.a j) (L.s j) = (M 0 1 : EReal))
    (h21 : c21 (L.a j) (L.s j) = (M 1 0 : EReal)) (h22 : c22 (L.a j) (L.s j) = (M 1 1 : EReal))
    (hg : ∀ n, Rep M (g n) (c21 (L.a j) (L.s j) * L.bu (rowsOf (outRow K x) b) j n) (cbe (L.a j) (L.s j) * L.bu (rowsOf (outRow K x) b) j n)) :
    ∀ k, k < 16 → k / 8 = b → Scanned j M (fun n => g (k % 8 * 512 + n)) (stR M g 0 (k % 8 * 512)) (out1 V c k)
  | 0, hk, hb => by
    subst hb
    exact h.scan 0 hk _ _ _ j h11 h12 h21 h22 hg (k1_zero j M)
  | k + 1, hk, hb => by
    subst hb
    rw [out1]
    refine h.scan (k + 1) hk _ _ _ j h11 h12 h21 h22 hg ?_
    by_cases h8 : (k + 1) % 8 = 0
    · rw [if_pos h8, if_pos h8, h8]; exact k1_zero j M
    · rw [if_neg h8, if_neg h8]
      have key := (In1.out h j _ h11 h12 h21 h22 hg k (by omega) (by omega)).2
      rw [stR_add, show k % 8 * 512 + 512 = (k + 1) % 8 * 512 by omega] at key
      exact key

/-- The scanned tile holds the layer's states. -/
theorem In1.xs (h : In1 V c K L x) (k : ℕ) (hk : k < 16) (r : Fin 512) (j : Fin 128) :
    Sim ((out1 V c k).1 (ix2 r j)) (L.st (rowsOf (outRow K x) (k / 8)) (k % 8 * 512 + r + 1) j).2 := by
  obtain ⟨M, g, h11, h12, h21, h22, hg⟩ := exists_rep (L.a j) (L.s j) (L.bu (rowsOf (outRow K x) (k / 8)) j)
  obtain ⟨y, hy⟩ := (h.out j _ h11 h12 h21 h22 hg k hk rfl).1 r
  rw [stR_add] at hy
  exact hy.sim (stE_rep h11 h12 h21 h22 hg (k % 8 * 512 + (r + 1)))

/-! ## The arrays call 1 leaves -/

theorem In1.u_at (h : In1 V c K L x) {T : ℕ} (hT : T < 16) (y : S512x2048.Idx) (i : S8192x2048.Idx)
    (e0 : (i 0).val = T * 512 + (y 0).val) (e1 : (i 1).val = (y 1).val) :
    k1_pay3 (mid1 V c T) (k1_pay10 (iblk1 V c 7 (pt1 T))) (iblk1 V c 8 (pt1 T)) y = uE L.w L.Wi (outRow K x (i 0)) (i 1) := by
  rw [eq_ix2 y]
  refine (k1_pay3_row _ _ _ (y 0) (y 1)).trans ?_
  rw [h.wrow, h.Wmat, uE_sim L.w L.Wi (h.xrow T hT (y 0)), show i 0 = trow T hT (y 0) from Fin.ext e0, show i 1 = y 1 from Fin.ext e1]

theorem In1.z_at (h : In1 V c K L x) {T : ℕ} (hT : T < 16) (y : S512x2048.Idx) (i : S8192x2048.Idx)
    (e0 : (i 0).val = T * 512 + (y 0).val) (e1 : (i 1).val = (y 1).val) :
    k1_pay4 (mid1 V c T) (k1_pay10 (iblk1 V c 7 (pt1 T))) (iblk1 V c 8 (pt1 T)) y = zE L.w L.Wi (outRow K x (i 0)) (i 1) := by
  rw [eq_ix2 y]
  refine (k1_pay4_row _ _ _ (y 0) (y 1)).trans ?_
  rw [h.wrow, h.Wmat, zE_sim L.w L.Wi (h.xrow T hT (y 0)), show i 0 = trow T hT (y 0) from Fin.ext e0, show i 1 = y 1 from Fin.ext e1]

/-- The states in one array. -/
def xsArr1 (V : (c : Dev nD) → (b : Ref sig .tc) → Buf (Elt Ideal) ((c : Thread nD τ).loc b)) (c : Dev nD) (i : S8192x128.Idx) : EReal :=
  (out1 V c ((i 0).val / 512)).1 (ix2 (⟨(i 0).val % 512, Nat.mod_lt _ (by decide)⟩ : Fin 512) (i 1 : Fin 128))

theorem In1.xsArr (h : In1 V c K L x) (R : Fin 8192) (j : Fin 128) : Sim (xsArr1 V c (ix2 R j)) (xsOf L (outRow K x) R j) := by
  have key := h.xs (R.val / 512) (by omega) (⟨R.val % 512, Nat.mod_lt _ (by decide)⟩ : Fin 512) j
  have d1 : R.val / 512 / 8 = R.val / 4096 := by omega
  have d2 : R.val / 512 % 8 * 512 + R.val % 512 = R.val % 4096 := by omega
  have e : (L.st (rowsOf (outRow K x) (R.val / 512 / 8)) (R.val / 512 % 8 * 512 + R.val % 512 + 1) j).2 = xsOf L (outRow K x) R j := by
    unfold xsOf
    rw [d1, d2]
  exact e ▸ key

theorem xs1_at {T : ℕ} (y : S512x128.Idx) (i : S8192x128.Idx)
    (e0 : (i 0).val = T * 512 + (y 0).val) (e1 : (i 1).val = (y 1).val) : (out1 V c T).1 y = xsArr1 V c i := by
  have hy : (y 0).val < 512 := (y 0).isLt
  have d1 : (i 0).val / 512 = T := by omega
  have d2 : (i 0).val % 512 = (y 0).val := by omega
  unfold xsArr1
  rw [d1]
  refine congrArg (out1 V c T).1 (funext fun a => Fin.ext ?_)
  match a with
  | ⟨0, _⟩ => exact d2.symm
  | ⟨1, _⟩ => exact e1.symm

/-- The first layer's result in one array. -/
def xArr1 (V : (c : Dev nD) → (b : Ref sig .tc) → Buf (Elt Ideal) ((c : Thread nD τ).loc b)) (c : Dev nD) (i : S8192x1024.Idx) : EReal :=
  mid1 V c ((i 0).val / 512) (ix2 (⟨(i 0).val % 512, Nat.mod_lt _ (by decide)⟩ : Fin 512) (i 1 : Fin 1024))

theorem In1.xArr (h : In1 V c K L x) (R : Fin 8192) (o : Fin 1024) : Sim (xArr1 V c (ix2 R o)) (outRow K x R o) := by
  have key := h.xrow (R.val / 512) (by omega) (⟨R.val % 512, Nat.mod_lt _ (by decide)⟩ : Fin 512) o
  have e : trow (R.val / 512) (by omega) (⟨R.val % 512, Nat.mod_lt _ (by decide)⟩ : Fin 512) = R := by
    apply Fin.ext
    show R.val / 512 * 512 + R.val % 512 = R.val
    omega
  rw [e] at key
  exact key

theorem x1_at {T : ℕ} (y : S512x1024.Idx) (i : S8192x1024.Idx)
    (e0 : (i 0).val = T * 512 + (y 0).val) (e1 : (i 1).val = (y 1).val) : mid1 V c T y = xArr1 V c i := by
  have hy : (y 0).val < 512 := (y 0).isLt
  have d1 : (i 0).val / 512 = T := by omega
  have d2 : (i 0).val % 512 = (y 0).val := by omega
  unfold xArr1
  rw [d1]
  refine congrArg (mid1 V c T) (funext fun a => Fin.ext ?_)
  match a with
  | ⟨0, _⟩ => exact d2.symm
  | ⟨1, _⟩ => exact e1.symm

theorem R1_x : (dat1 V c).arrAt 12 cfg1.N = xArr1 V c := by
  refine (dat1 V c).arrAt_eq_of_covers 12 _ (by decide +kernel) fun t hf y => ?_
  blk_simp
  rw [after1_12, show cap1 t = pt1 (min t.val 15) from rfl]
  refine x1_at y _ ?_ ?_
  · blk_simp [e1_12]
  · blk_simp [e1_12]

theorem R1_u (h : In1 V c K L x) : (dat1 V c).arrAt 13 cfg1.N = fun i => uE L.w L.Wi (outRow K x (i 0)) (i 1) := by
  refine (dat1 V c).arrAt_eq_of_covers 13 _ (by decide +kernel) fun t hf y => ?_
  blk_simp
  rw [after1_13, show cap1 t = pt1 (min t.val 15) from rfl]
  refine h.u_at (by omega) y _ ?_ ?_
  · blk_simp [e1_13]
  · blk_simp [e1_13]

theorem R1_z (h : In1 V c K L x) : (dat1 V c).arrAt 14 cfg1.N = fun i => zE L.w L.Wi (outRow K x (i 0)) (i 1) := by
  refine (dat1 V c).arrAt_eq_of_covers 14 _ (by decide +kernel) fun t hf y => ?_
  blk_simp
  rw [after1_14, show cap1 t = pt1 (min t.val 15) from rfl]
  refine h.z_at (by omega) y _ ?_ ?_
  · blk_simp [e1_14]
  · blk_simp [e1_14]

theorem R1_xs : (dat1 V c).arrAt 15 cfg1.N = xsArr1 V c := by
  refine (dat1 V c).arrAt_eq_of_covers 15 _ (by decide +kernel) fun t hf y => ?_
  blk_simp
  rw [after1_15]
  refine xs1_at y _ ?_ ?_
  · blk_simp [e1_15]
  · blk_simp [e1_15]

end Cert.KernelIdeal.Own
-- ==== Proof.M.R2.lean ====
module

public import proofs.«01_k».proof.Proof.K.Region2
public import proofs.«01_k».proof.Proof.M.R1

@[expose] public section

set_option maxRecDepth 16384

noncomputable section

namespace Cert.KernelIdeal.Own

open Cert.KernelIdeal Cert.KernelIdeal.Gen Cert.Model
open Idealize.ShloMosaic Idealize.ShloMosaic.TcCoe
open Idealize.ShloMosaic.Pipeline (Dat Cfg Window)

variable (V : (c : Dev nD) → (b : Ref sig .tc) → Buf (Elt Ideal) ((c : Thread nD τ).loc b))

/-! # Call 2's blocks and array -/

theorem e2_0 : ∀ t : Fin grid2.N, win2_0.index t = ![t.val, 0] := by decide +kernel
theorem e2_1 : ∀ t : Fin grid2.N, win2_1.index t = ![t.val, 0] := by decide +kernel
theorem e2_2 : ∀ t : Fin grid2.N, win2_2.index t = ![t.val, 0] := by decide +kernel
theorem e2_3 : ∀ t : Fin grid2.N, win2_3.index t = ![t.val, 0] := by decide +kernel
theorem e2_8 : ∀ t : Fin grid2.N, win2_8.index t = ![t.val, 0] := by decide +kernel
theorem e2_4 : ∀ t : Fin grid2.N, win2_4.index t = ![0, 0] := by decide +kernel
theorem e2_5 : ∀ t : Fin grid2.N, win2_5.index t = ![0, 0] := by decide +kernel
theorem e2_6 : ∀ t : Fin grid2.N, win2_6.index t = ![0, 0] := by decide +kernel
theorem e2_7 : ∀ t : Fin grid2.N, win2_7.index t = ![0, 0] := by decide +kernel

theorem iblk2_0 (c : Dev nD) (t : Fin cfg2.N) (r : Fin 512) (j : Fin 1024) :
    iblk2 V c 0 t (ix2 r j) = V c main_v13_0 (ix2 (trow t.val t.isLt r) j) := by
  blk_ext [iblk2, e2_0]
theorem iblk2_1 (c : Dev nD) (t : Fin cfg2.N) (r : Fin 512) (j : Fin 2048) :
    iblk2 V c 1 t (ix2 r j) = V c main_v13_1 (ix2 (trow t.val t.isLt r) j) := by
  blk_ext [iblk2, e2_1]
theorem iblk2_2 (c : Dev nD) (t : Fin cfg2.N) (r : Fin 512) (j : Fin 2048) :
    iblk2 V c 2 t (ix2 r j) = V c main_v13_2 (ix2 (trow t.val t.isLt r) j) := by
  blk_ext [iblk2, e2_2]
theorem iblk2_3 (c : Dev nD) (t : Fin cfg2.N) (r : Fin 512) (j : Fin 128) :
    iblk2 V c 3 t (ix2 r j) = V c main_v13_3 (ix2 (trow t.val t.isLt r) j) := by
  blk_ext [iblk2, e2_3]
theorem iblk2_4 (c : Dev nD) (t : Fin cfg2.N) (k : Fin 128) (j : Fin 2048) : iblk2 V c 4 t (ix2 k j) = V c main_v4 (ix2 k j) := by
  blk_ext [iblk2, e2_4]
theorem iblk2_5 (c : Dev nD) (t : Fin cfg2.N) (j : Fin 2048) : iblk2 V c 5 t (ix2 0 j) = V c main_v14 (ix2 0 j) := by
  blk_ext [iblk2, e2_5]
theorem iblk2_6 (c : Dev nD) (t : Fin cfg2.N) (k : Fin 2048) (j : Fin 1024) : iblk2 V c 6 t (ix2 k j) = V c main_arg16 (ix2 k j) := by
  blk_ext [iblk2, e2_6]
theorem iblk2_7 (c : Dev nD) (t : Fin cfg2.N) (j : Fin 1024) : iblk2 V c 7 t (ix2 0 j) = V c main_v15 (ix2 0 j) := by
  blk_ext [iblk2, e2_7]

/-- What call 2 finds: what call 1 left and the last weights. -/
structure In2 (c : Dev nD) (L : Layer) (wf : Fin 1024 → EReal) (x : Fin 8192 → Fin 1024 → EReal) : Prop where
  hx : ∀ R k, Sim (V c main_v13_0 (ix2 R k)) (x R k)
  u : ∀ R k, V c main_v13_1 (ix2 R k) = uE L.w L.Wi (x R) k
  z : ∀ R k, V c main_v13_2 (ix2 R k) = zE L.w L.Wi (x R) k
  s0 : ∀ R k, Sim (V c main_v13_3 (ix2 R k)) (xsOf L x R k)
  C : ∀ i k, V c main_v4 (ix2 i k) = L.C k i
  D : ∀ k, V c main_v14 (ix2 0 k) = L.D k
  Wo : ∀ k o, V c main_arg16 (ix2 k o) = L.Wo k o
  w : ∀ k, V c main_v15 (ix2 0 k) = wf k

variable {V} {c : Dev nD} {L : Layer} {wf : Fin 1024 → EReal} {x : Fin 8192 → Fin 1024 → EReal}

theorem In2.yrow (h : In2 V c L wf x) (t : Fin cfg2.N) (r : Fin 512) (o : Fin 1024) :
    k2_pay1 (iblk2 V c 0 t) (iblk2 V c 1 t) (iblk2 V c 2 t) (iblk2 V c 3 t) (iblk2 V c 4 t) (iblk2 V c 5 t) (iblk2 V c 6 t) (iblk2 V c 7 t) (ix2 r o)
      = nrm wf (outRow L x (trow t.val t.isLt r)) o := by
  refine (k2_pay1_row _ _ _ _ _ _ _ _ r o).trans ?_
  simp only [iblk2_0, iblk2_1, iblk2_2, iblk2_3, iblk2_4, iblk2_5, iblk2_6, iblk2_7, h.u, h.z, h.C, h.D, h.Wo, h.w]
  refine congrFun (nrm_sim wf fun k => ?_) o
  exact blk_sim _ _ _ _ _ (fun k => h.hx _ k) (fun i => h.s0 _ i) k

theorem In2.y_at (h : In2 V c L wf x) (t : Fin cfg2.N) (y : S512x1024.Idx) (i : S8192x1024.Idx)
    (e0 : (i 0).val = t.val * 512 + (y 0).val) (e1 : (i 1).val = (y 1).val) :
    k2_pay1 (iblk2 V c 0 t) (iblk2 V c 1 t) (iblk2 V c 2 t) (iblk2 V c 3 t) (iblk2 V c 4 t) (iblk2 V c 5 t) (iblk2 V c 6 t) (iblk2 V c 7 t) y
      = nrm wf (outRow L x (i 0)) (i 1) := by
  rw [eq_ix2 y, show i 0 = trow t.val t.isLt (y 0) from Fin.ext e0, show i 1 = y 1 from Fin.ext e1]
  exact h.yrow t (y 0) (y 1)

theorem R2_y (h : In2 V c L wf x) : (dat2 V c).arrAt 8 cfg2.N = fun i => nrm wf (outRow L x (i 0)) (i 1) := by
  refine (dat2 V c).arrAt_eq_of_covers 8 _ (by decide +kernel) fun t hf y => ?_
  blk_simp
  rw [after2_8]
  refine h.y_at t y _ ?_ ?_
  · blk_simp [e2_8]
  · blk_simp [e2_8]

end Cert.KernelIdeal.Own
-- ==== Proof.M.Args.lean ====
module

public import proofs.«01_k».proof.Proof.M.Model
public import Idealize.ShloMosaic.Lib.Pointwise

@[expose] public section

noncomputable section

namespace Cert.Model

open Idealize.ShloMosaic

/-! # A layer's row depends on the rows up to it -/

theorem stE_congr {a s : EReal} {f g : ℕ → EReal} : ∀ n : ℕ, (∀ k < n, f k = g k) → stE a s f n = stE a s g n
  | 0, _ => rfl
  | n + 1, h => by
    unfold stE
    rw [stE_congr n fun k hk => h k (by omega), h n (by omega)]

theorem Layer.out_congr (L : Layer) {x y : ℕ → Fin 1024 → EReal} {n : ℕ} (h : ∀ k ≤ n, x k = y k) : L.out x n = L.out y n := by
  unfold Layer.out Layer.st
  rw [h n le_rfl]
  congr 1
  funext j
  rw [stE_congr (n + 1) fun k hk => ?_]
  unfold Layer.bu
  rw [h k (by omega)]

/-! # The model at the program's arguments -/

/-- A layer from its eight weight arrays. -/
def layerOf (w : (⟨1, ![1024]⟩ : Shape).Idx → EReal) (Wi : (⟨2, ![1024, 4096]⟩ : Shape).Idx → EReal) (a s : (⟨1, ![128]⟩ : Shape).Idx → EReal)
    (B : (⟨2, ![128, 2048]⟩ : Shape).Idx → EReal) (C : (⟨2, ![2048, 128]⟩ : Shape).Idx → EReal)
    (D : (⟨1, ![2048]⟩ : Shape).Idx → EReal) (Wo : (⟨2, ![2048, 1024]⟩ : Shape).Idx → EReal) : Layer where
  w := fun k => w (ix1 k)
  Wi := fun k j => Wi (ix2 k j)
  a := fun j => a (ix1 j)
  s := fun j => s (ix1 j)
  B := fun j k => B (ix2 j k)
  C := fun k i => C (ix2 k i)
  D := fun k => D (ix1 k)
  Wo := fun k o => Wo (ix2 k o)

/-- Sequence `b`'s rows. -/
def seqOf (x : (⟨3, ![2, 4096, 1024]⟩ : Shape).Idx → EReal) (b : Fin 2) (n : ℕ) (k : Fin 1024) : EReal :=
  x (ix3 b (⟨n % 4096, Nat.mod_lt _ (by decide)⟩ : Fin 4096) k)

/-- The value of the program: both layers along each sequence, then the last normalization. -/
def result (x : (⟨3, ![2, 4096, 1024]⟩ : Shape).Idx → EReal) (K L : Layer) (wf : (⟨1, ![1024]⟩ : Shape).Idx → EReal)
    (b : Fin 2) (t : Fin 4096) (o : Fin 1024) : EReal :=
  nrm (fun k => wf (ix1 k)) (L.out (K.out (seqOf x b)) t.val) o

end Cert.Model
-- ==== Proof.M.Chain.lean ====
module

public import proofs.«01_k».proof.Proof.K.Run
public import proofs.«01_k».proof.Proof.M.R2
public import proofs.«01_k».proof.Proof.M.Args
public import Idealize.ShloMosaic.Lib.StableHlo.ReadAt
public import Idealize.ShloMosaic.Lib.StableHlo.RunRead

@[expose] public section

set_option maxRecDepth 16384

noncomputable section

namespace Cert.KernelIdeal.Own

open Cert.KernelIdeal Cert.KernelIdeal.Gen Cert.Model
open Idealize.ShloMosaic Idealize.ShloMosaic.TcCoe

/-! # The host stretches read at an index -/

section Host

variable (V : Valuation τ sig (Elt Ideal))

theorem host_v0 (R : Fin 8192) (j : Fin 1024) : StableHlo.after hostOps0 V (Proc.devRef .tc main_v0) (ix2 R j)
    = V (Proc.devRef .tc main_arg0) (ix3 (⟨R.val / 4096, by omega⟩ : Fin 2) (⟨R.val % 4096, by omega⟩ : Fin 4096) j) := by after_reads_at
theorem host_v17 (b : Fin 2) (t : Fin 4096) (j : Fin 1024) : StableHlo.after hostOps3 V (Proc.devRef .tc main_v17) (ix3 b t j)
    = V (Proc.devRef .tc main_v16) (ix2 (⟨b.val * 4096 + t.val, by omega⟩ : Fin 8192) j) := by after_reads_at
theorem host_v1 (k : Fin 2048) (j : Fin 128) : StableHlo.after hostOps0 V (Proc.devRef .tc main_v1) (ix2 k j) = V (Proc.devRef .tc main_arg5) (ix2 j k) := by after_reads_at
theorem host_v2 (k : Fin 2048) (j : Fin 128) : StableHlo.after hostOps0 V (Proc.devRef .tc main_v2) (ix2 k j) = V (Proc.devRef .tc main_arg13) (ix2 j k) := by after_reads_at
theorem host_v3 (k : Fin 128) (j : Fin 2048) : StableHlo.after hostOps0 V (Proc.devRef .tc main_v3) (ix2 k j) = V (Proc.devRef .tc main_arg6) (ix2 j k) := by after_reads_at
theorem host_v4 (k : Fin 128) (j : Fin 2048) : StableHlo.after hostOps0 V (Proc.devRef .tc main_v4) (ix2 k j) = V (Proc.devRef .tc main_arg14) (ix2 j k) := by after_reads_at
theorem host_v5 (j : Fin 1024) : StableHlo.after hostOps0 V (Proc.devRef .tc main_v5) (ix2 0 j) = V (Proc.devRef .tc main_arg1) (ix1 j) := by after_reads_at
theorem host_v6 (j : Fin 128) : StableHlo.after hostOps0 V (Proc.devRef .tc main_v6) (ix2 0 j) = V (Proc.devRef .tc main_arg3) (ix1 j) := by after_reads_at
theorem host_v7 (j : Fin 128) : StableHlo.after hostOps0 V (Proc.devRef .tc main_v7) (ix2 0 j) = V (Proc.devRef .tc main_arg4) (ix1 j) := by after_reads_at
theorem host_v9 (j : Fin 2048) : StableHlo.after hostOps1 V (Proc.devRef .tc main_v9) (ix2 0 j) = V (Proc.devRef .tc main_arg7) (ix1 j) := by after_reads_at
theorem host_v10 (j : Fin 1024) : StableHlo.after hostOps1 V (Proc.devRef .tc main_v10) (ix2 0 j) = V (Proc.devRef .tc main_arg9) (ix1 j) := by after_reads_at
theorem host_v11 (j : Fin 128) : StableHlo.after hostOps1 V (Proc.devRef .tc main_v11) (ix2 0 j) = V (Proc.devRef .tc main_arg11) (ix1 j) := by after_reads_at
theorem host_v12 (j : Fin 128) : StableHlo.after hostOps1 V (Proc.devRef .tc main_v12) (ix2 0 j) = V (Proc.devRef .tc main_arg12) (ix1 j) := by after_reads_at
theorem host_v14 (j : Fin 2048) : StableHlo.after hostOps2 V (Proc.devRef .tc main_v14) (ix2 0 j) = V (Proc.devRef .tc main_arg15) (ix1 j) := by after_reads_at
theorem host_v15 (j : Fin 1024) : StableHlo.after hostOps2 V (Proc.devRef .tc main_v15) (ix2 0 j) = V (Proc.devRef .tc main_arg17) (ix1 j) := by after_reads_at

end Host

/-! # What each call finds -/

variable (m : (ℓ : Loc nD τ sig) → Buf (Elt Ideal) ℓ) (ρ : Dev nD → PrngReg) (c : Dev nD)

/-- The first layer's weights. -/
def lay0 : Layer := layerOf (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8))
/-- The second layer's weights. -/
def lay1 : Layer := layerOf (m ((c : Thread nD τ).loc main_arg9)) (m ((c : Thread nD τ).loc main_arg10)) (m ((c : Thread nD τ).loc main_arg11))
  (m ((c : Thread nD τ).loc main_arg12)) (m ((c : Thread nD τ).loc main_arg13)) (m ((c : Thread nD τ).loc main_arg14))
  (m ((c : Thread nD τ).loc main_arg15)) (m ((c : Thread nD τ).loc main_arg16))
/-- The input's rows, sequence after sequence. -/
def rows (R : Fin 8192) (k : Fin 1024) : EReal :=
  (m ((c : Thread nD τ).loc main_arg0) : (⟨3, ![2, 4096, 1024]⟩ : Shape).Idx → EReal) (ix3 (⟨R.val / 4096, by omega⟩ : Fin 2) (⟨R.val % 4096, by omega⟩ : Fin 4096) k)

theorem in0 : In0 (U1 m ρ) c (lay0 m c) (rows m c) where
  x R k := host_v0 (W0 m ρ c) R k
  w k := host_v5 (W0 m ρ c) k
  Wi k j := congrFun (W1_args m ρ c main_arg2 (by decide)) (ix2 k j)
  B k j := host_v1 (W0 m ρ c) k j
  a j := host_v6 (W0 m ρ c) j
  s j := host_v7 (W0 m ρ c) j

/-- An argument's entry after call 0. -/
theorem arg2 (a : Ref sig .tc) (h : a ∈ argRefs) : W2 m ρ c (Proc.devRef .tc a) = m ((c : Thread nD τ).loc a) := W2_args m ρ c a h

/-- A buffer call 0 only reads, or does not touch, and the next stretch does not write. -/
theorem keep3 (r : Ref sig .tc) (h : ∀ w : Fin cfg0.W, Pipeline.arrRef spec0 w = r → (cfg0.win w).isOut = false) (h' : r ∉ hostOps1_W) :
    W3 m ρ c (Proc.devRef .tc r) = W1 m ρ c (Proc.devRef .tc r) := (W3_of m ρ c r h').trans (W2_of m ρ c r h)
theorem keep5 (r : Ref sig .tc) (h : ∀ w : Fin cfg1.W, Pipeline.arrRef spec1 w = r → (cfg1.win w).isOut = false) (h' : r ∉ hostOps2_W) :
    W5 m ρ c (Proc.devRef .tc r) = W3 m ρ c (Proc.devRef .tc r) := (W5_of m ρ c r h').trans (W4_of m ρ c r h)

theorem in1 : In1 (U3 m ρ) c (lay0 m c) (lay1 m c) (rows m c) where
  hx R k := (congrFun (keep3 m ρ c main_v0 (by decide) (by decide)) (ix2 R k)).trans (host_v0 (W0 m ρ c) R k)
  u R k := congrFun (((W3_of m ρ c main_v8_0 (by decide)).trans (W2_arr m ρ c 6)).trans (R0_u (in0 m ρ c))) (ix2 R k)
  z R k := congrFun (((W3_of m ρ c main_v8_1 (by decide)).trans (W2_arr m ρ c 7)).trans (R0_z (in0 m ρ c))) (ix2 R k)
  s0 R k := by
    rw [show U3 m ρ c main_v8_2 (ix2 R k) = _ from congrFun (((W3_of m ρ c main_v8_2 (by decide)).trans (W2_arr m ρ c 8)).trans R0_xs) (ix2 R k)]
    exact (in0 m ρ c).xsArr R k
  C i k := (congrFun (keep3 m ρ c main_v3 (by decide) (by decide)) (ix2 i k)).trans (host_v3 (W0 m ρ c) i k)
  D k := (host_v9 (W2 m ρ c) k).trans (congrFun (W2_args m ρ c main_arg7 (by decide)) (ix1 k))
  Wo k o := congrFun (W3_args m ρ c main_arg8 (by decide)) (ix2 k o)
  w k := (host_v10 (W2 m ρ c) k).trans (congrFun (W2_args m ρ c main_arg9 (by decide)) (ix1 k))
  Wi k j := congrFun (W3_args m ρ c main_arg10 (by decide)) (ix2 k j)
  B k j := (congrFun (keep3 m ρ c main_v2 (by decide) (by decide)) (ix2 k j)).trans (host_v2 (W0 m ρ c) k j)
  a j := (host_v11 (W2 m ρ c) j).trans (congrFun (W2_args m ρ c main_arg11 (by decide)) (ix1 j))
  s j := (host_v12 (W2 m ρ c) j).trans (congrFun (W2_args m ρ c main_arg12 (by decide)) (ix1 j))

theorem in2 :
    In2 (U5 m ρ) c (lay1 m c) (fun k => (m ((c : Thread nD τ).loc main_arg17) : (⟨1, ![1024]⟩ : Shape).Idx → EReal) (ix1 k)) (outRow (lay0 m c) (rows m c)) where
  hx R k := by
    rw [show U5 m ρ c main_v13_0 (ix2 R k) = _ from congrFun (((W5_of m ρ c main_v13_0 (by decide)).trans (W4_arr m ρ c 12)).trans R1_x) (ix2 R k)]
    exact (in1 m ρ c).xArr R k
  u R k := congrFun (((W5_of m ρ c main_v13_1 (by decide)).trans (W4_arr m ρ c 13)).trans (R1_u (in1 m ρ c))) (ix2 R k)
  z R k := congrFun (((W5_of m ρ c main_v13_2 (by decide)).trans (W4_arr m ρ c 14)).trans (R1_z (in1 m ρ c))) (ix2 R k)
  s0 R k := by
    rw [show U5 m ρ c main_v13_3 (ix2 R k) = _ from congrFun (((W5_of m ρ c main_v13_3 (by decide)).trans (W4_arr m ρ c 15)).trans R1_xs) (ix2 R k)]
    exact (in1 m ρ c).xsArr R k
  C i k := (congrFun ((keep5 m ρ c main_v4 (by decide) (by decide)).trans (keep3 m ρ c main_v4 (by decide) (by decide))) (ix2 i k)).trans (host_v4 (W0 m ρ c) i k)
  D k := (host_v14 (W4 m ρ c) k).trans (congrFun (W4_args m ρ c main_arg15 (by decide)) (ix1 k))
  Wo k o := congrFun (W5_args m ρ c main_arg16 (by decide)) (ix2 k o)
  w k := (host_v15 (W4 m ρ c) k).trans (congrFun (W4_args m ρ c main_arg17 (by decide)) (ix1 k))

/-! # Rows and sequences -/

theorem outRow_eq (L : Layer) (x : Fin 8192 → Fin 1024 → EReal) (R : Fin 8192) :
    outRow L x R = L.out (rowsOf x (R.val / 4096)) (R.val % 4096) := by
  have h : rowsOf x (R.val / 4096) (R.val % 4096) = x R := by
    unfold rowsOf
    congr 1
    apply Fin.ext
    show (R.val / 4096 * 4096 + R.val % 4096) % 8192 = R.val
    omega
  unfold outRow Layer.out
  rw [h]
  rfl

theorem rowsOf_outRow (L : Layer) (x : Fin 8192 → Fin 1024 → EReal) (b n : ℕ) (hb : b < 2) (hn : n < 4096) :
    rowsOf (outRow L x) b n = L.out (rowsOf x b) n := by
  show outRow L x _ = _
  rw [outRow_eq]
  have h1 : (b * 4096 + n) % 8192 / 4096 = b := by omega
  have h2 : (b * 4096 + n) % 8192 % 4096 = n := by omega
  simp only [h1, h2]

theorem rowsOf_rows (b : Fin 2) (n : ℕ) (hn : n < 4096) : rowsOf (rows m c) b.val n = seqOf (m ((c : Thread nD τ).loc main_arg0)) b n := by
  funext k
  unfold rowsOf rows seqOf
  congr 2
  · apply Fin.ext; show (b.val * 4096 + n) % 8192 / 4096 = b.val; omega
  · apply Fin.ext; show (b.val * 4096 + n) % 8192 % 4096 = n % 4096; omega

/-- The program's value. -/
theorem kernel_value (b : Fin 2) (t : Fin 4096) (o : Fin 1024) :
    W7 m ρ c (Proc.devRef .tc main_v17) (ix3 b t o)
      = result (m ((c : Thread nD τ).loc main_arg0)) (lay0 m c) (lay1 m c) (m ((c : Thread nD τ).loc main_arg17)) b t o := by
  refine (host_v17 (W6 m ρ c) b t o).trans ?_
  refine (congrFun ((W6_arr m ρ c 8).trans (R2_y (in2 m ρ c))) _).trans ?_
  show nrm _ (outRow (lay1 m c) (outRow (lay0 m c) (rows m c)) (⟨b.val * 4096 + t.val, by omega⟩ : Fin 8192)) o = _
  unfold result
  congr 1
  rw [outRow_eq]
  have h1 : (b.val * 4096 + t.val) / 4096 = b.val := by omega
  have h2 : (b.val * 4096 + t.val) % 4096 = t.val := by omega
  simp only [h1, h2]
  refine Layer.out_congr _ fun k hk => ?_
  rw [rowsOf_outRow _ _ _ _ b.isLt (by omega)]
  exact Layer.out_congr _ fun i hi => rowsOf_rows m c b i (by omega)

end Cert.KernelIdeal.Own
-- ==== Proof.M.RefRows.lean ====
module

public import proofs.«01_k».proof.Proof.Gen.ReferenceIdeal.Run
public import proofs.«01_k».proof.Proof.M.Args
public import Idealize.ShloMosaic.Lib.Pointwise
public import Idealize.ShloMosaic.Lib.DynamicIndex

@[expose] public section

set_option maxRecDepth 16384

noncomputable section

namespace Cert.ReferenceIdeal.Value

open Cert.ReferenceIdeal Cert.ReferenceIdeal.Gen Cert.Model
open Idealize.ShloMosaic Idealize.ShloMosaic.TcCoe Idealize.ShloMosaic.StableHlo

local notation "VAL" => Valuation τ sig (Elt Idealize.ShloMosaic.Ideal)

/-! # One step's rows -/

section Rows

variable (V : VAL) (b : Fin 2)

theorem v19_row (j : Fin 4096) : res_main_while0b_v19 V (ix2 b j) = proj (fun k => V (Proc.devRef .tc main_v3_1) (ix1 k)) (fun k j => V (Proc.devRef .tc main_v3_2) (ix2 k j)) (fun i => res_main_while0b_v5 V (ix2 b i)) j := by
  pointwise [res_main_while0b_v19]
  rfl
theorem v22_row (j : Fin 2048) : res_main_while0b_v22 V (ix2 b j) = uE (fun k => V (Proc.devRef .tc main_v3_1) (ix1 k)) (fun k j => V (Proc.devRef .tc main_v3_2) (ix2 k j)) (fun i => res_main_while0b_v5 V (ix2 b i)) j := by
  pointwise [res_main_while0b_v22, res_main_while0b_v20]
  simp only [v19_row]
  rfl
theorem v21_row (j : Fin 2048) : res_main_while0b_v21 V (ix2 b j) = zE (fun k => V (Proc.devRef .tc main_v3_1) (ix1 k)) (fun k j => V (Proc.devRef .tc main_v3_2) (ix2 k j)) (fun i => res_main_while0b_v5 V (ix2 b i)) j := by
  pointwise [res_main_while0b_v21]
  simp only [v19_row]
  rfl
theorem v37_row (j : Fin 128) : res_main_while0b_v37 V (ix2 b j) = buE (fun j k => V (Proc.devRef .tc main_v3_5) (ix2 j k)) (uE (fun k => V (Proc.devRef .tc main_v3_1) (ix1 k)) (fun k j => V (Proc.devRef .tc main_v3_2) (ix2 k j)) (fun i => res_main_while0b_v5 V (ix2 b i))) j := by
  pointwise [res_main_while0b_v37]
  simp only [v22_row]
  rfl
theorem s19_row (j : Fin 128) : step_main_v3_19 V (ix2 b j)
    = c11 (V (Proc.devRef .tc main_v3_3) (ix1 j)) (V (Proc.devRef .tc main_v3_4) (ix1 j)) * V (Proc.devRef .tc main_v3_19) (ix2 b j) + c12 (V (Proc.devRef .tc main_v3_3) (ix1 j)) (V (Proc.devRef .tc main_v3_4) (ix1 j)) * V (Proc.devRef .tc main_v3_20) (ix2 b j) + c21 (V (Proc.devRef .tc main_v3_3) (ix1 j)) (V (Proc.devRef .tc main_v3_4) (ix1 j)) * res_main_while0b_v37 V (ix2 b j) := by
  pointwise [step_main_v3_19, id, res_main_while0b_v23, res_main_while0b_v29, res_main_while0b_v35]
  rfl
theorem v71_row (j : Fin 128) : res_main_while0b_v71 V (ix2 b j)
    = c21 (V (Proc.devRef .tc main_v3_3) (ix1 j)) (V (Proc.devRef .tc main_v3_4) (ix1 j)) * V (Proc.devRef .tc main_v3_19) (ix2 b j) + c22 (V (Proc.devRef .tc main_v3_3) (ix1 j)) (V (Proc.devRef .tc main_v3_4) (ix1 j)) * V (Proc.devRef .tc main_v3_20) (ix2 b j) + cbe (V (Proc.devRef .tc main_v3_3) (ix1 j)) (V (Proc.devRef .tc main_v3_4) (ix1 j)) * res_main_while0b_v37 V (ix2 b j) := by
  pointwise [res_main_while0b_v71, res_main_while0b_v23, res_main_while0b_v29, res_main_while0b_v35]
  rfl
theorem v81_row (o : Fin 1024) : res_main_while0b_v81 V (ix2 b o)
    = blk (fun k i => V (Proc.devRef .tc main_v3_6) (ix2 k i)) (fun k => V (Proc.devRef .tc main_v3_7) (ix1 k)) (fun k o => V (Proc.devRef .tc main_v3_8) (ix2 k o)) (fun i => res_main_while0b_v5 V (ix2 b i))
      (uE (fun k => V (Proc.devRef .tc main_v3_1) (ix1 k)) (fun k j => V (Proc.devRef .tc main_v3_2) (ix2 k j)) (fun i => res_main_while0b_v5 V (ix2 b i))) (zE (fun k => V (Proc.devRef .tc main_v3_1) (ix1 k)) (fun k j => V (Proc.devRef .tc main_v3_2) (ix2 k j)) (fun i => res_main_while0b_v5 V (ix2 b i))) (fun i => res_main_while0b_v71 V (ix2 b i)) o := by
  pointwise [res_main_while0b_v81]
  simp only [v22_row, v21_row]
  rfl

theorem v95_row (j : Fin 4096) : res_main_while0b_v95 V (ix2 b j) = proj (fun k => V (Proc.devRef .tc main_v3_9) (ix1 k)) (fun k j => V (Proc.devRef .tc main_v3_10) (ix2 k j)) (fun i => res_main_while0b_v81 V (ix2 b i)) j := by
  pointwise [res_main_while0b_v95]
  rfl
theorem v98_row (j : Fin 2048) : res_main_while0b_v98 V (ix2 b j) = uE (fun k => V (Proc.devRef .tc main_v3_9) (ix1 k)) (fun k j => V (Proc.devRef .tc main_v3_10) (ix2 k j)) (fun i => res_main_while0b_v81 V (ix2 b i)) j := by
  pointwise [res_main_while0b_v98, res_main_while0b_v96]
  simp only [v95_row]
  rfl
theorem v97_row (j : Fin 2048) : res_main_while0b_v97 V (ix2 b j) = zE (fun k => V (Proc.devRef .tc main_v3_9) (ix1 k)) (fun k j => V (Proc.devRef .tc main_v3_10) (ix2 k j)) (fun i => res_main_while0b_v81 V (ix2 b i)) j := by
  pointwise [res_main_while0b_v97]
  simp only [v95_row]
  rfl
theorem v113_row (j : Fin 128) : res_main_while0b_v113 V (ix2 b j) = buE (fun j k => V (Proc.devRef .tc main_v3_13) (ix2 j k)) (uE (fun k => V (Proc.devRef .tc main_v3_9) (ix1 k)) (fun k j => V (Proc.devRef .tc main_v3_10) (ix2 k j)) (fun i => res_main_while0b_v81 V (ix2 b i))) j := by
  pointwise [res_main_while0b_v113]
  simp only [v98_row]
  rfl
theorem s21_row (j : Fin 128) : step_main_v3_21 V (ix2 b j)
    = c11 (V (Proc.devRef .tc main_v3_11) (ix1 j)) (V (Proc.devRef .tc main_v3_12) (ix1 j)) * V (Proc.devRef .tc main_v3_21) (ix2 b j) + c12 (V (Proc.devRef .tc main_v3_11) (ix1 j)) (V (Proc.devRef .tc main_v3_12) (ix1 j)) * V (Proc.devRef .tc main_v3_22) (ix2 b j) + c21 (V (Proc.devRef .tc main_v3_11) (ix1 j)) (V (Proc.devRef .tc main_v3_12) (ix1 j)) * res_main_while0b_v113 V (ix2 b j) := by
  pointwise [step_main_v3_21, id, res_main_while0b_v99, res_main_while0b_v105, res_main_while0b_v111]
  rfl
theorem v147_row (j : Fin 128) : res_main_while0b_v147 V (ix2 b j)
    = c21 (V (Proc.devRef .tc main_v3_11) (ix1 j)) (V (Proc.devRef .tc main_v3_12) (ix1 j)) * V (Proc.devRef .tc main_v3_21) (ix2 b j) + c22 (V (Proc.devRef .tc main_v3_11) (ix1 j)) (V (Proc.devRef .tc main_v3_12) (ix1 j)) * V (Proc.devRef .tc main_v3_22) (ix2 b j) + cbe (V (Proc.devRef .tc main_v3_11) (ix1 j)) (V (Proc.devRef .tc main_v3_12) (ix1 j)) * res_main_while0b_v113 V (ix2 b j) := by
  pointwise [res_main_while0b_v147, res_main_while0b_v99, res_main_while0b_v105, res_main_while0b_v111]
  rfl
theorem v157_row (o : Fin 1024) : res_main_while0b_v157 V (ix2 b o)
    = blk (fun k i => V (Proc.devRef .tc main_v3_14) (ix2 k i)) (fun k => V (Proc.devRef .tc main_v3_15) (ix1 k)) (fun k o => V (Proc.devRef .tc main_v3_16) (ix2 k o)) (fun i => res_main_while0b_v81 V (ix2 b i))
      (uE (fun k => V (Proc.devRef .tc main_v3_9) (ix1 k)) (fun k j => V (Proc.devRef .tc main_v3_10) (ix2 k j)) (fun i => res_main_while0b_v81 V (ix2 b i))) (zE (fun k => V (Proc.devRef .tc main_v3_9) (ix1 k)) (fun k j => V (Proc.devRef .tc main_v3_10) (ix2 k j)) (fun i => res_main_while0b_v81 V (ix2 b i))) (fun i => res_main_while0b_v147 V (ix2 b i)) o := by
  pointwise [res_main_while0b_v157]
  simp only [v98_row, v97_row]
  rfl

end Rows

end Cert.ReferenceIdeal.Value
-- ==== Proof.M.RefIter.lean ====
module

public import proofs.«01_k».proof.Proof.M.RefRows
public import Idealize.ShloMosaic.Lib.StableHlo.ReadAt
public import Idealize.ShloMosaic.Lib.StableHlo.RunRead

@[expose] public section

set_option maxRecDepth 16384

noncomputable section

namespace Cert.ReferenceIdeal.Value

open Cert.ReferenceIdeal Cert.ReferenceIdeal.Gen Cert.Model
open Idealize.ShloMosaic Idealize.ShloMosaic.TcCoe Idealize.ShloMosaic.StableHlo

local notation "VAL" => Valuation τ sig (Elt Idealize.ShloMosaic.Ideal)

/-! # The rows a step reads and writes -/

theorem slices_at (k : ℕ) (hk : k < 4096) : S4096x2x1024.Slices ![k, 0, 0] S1x2x1024 :=
  ⟨rfl, fun a => by
    fin_cases a
    · show k + 1 ≤ 4096; omega
    · show 0 + 2 ≤ 2; omega
    · show 0 + 1024 ≤ 1024; omega⟩

theorem start_at {V : VAL} {k : ℕ} (hk : k < 4096) (hc : V (Proc.devRef .tc main_v3_18) = fun _ => BitVec.ofNat 32 k) :
    ∀ a : Fin 3, (((![V (Proc.devRef .tc main_v3_18), constantI S_ 32 0#32, constantI S_ 32 0#32] : Fin 3 → (⟨S_, .i32⟩ : BufTy).Contents (Elt Idealize.ShloMosaic.Ideal))) a (Shape.Idx.first h_S_)).toInt = ((![k, 0, 0] : Fin 3 → ℕ) a : ℤ) := by
  intro a
  fin_cases a
  · show (V (Proc.devRef .tc main_v3_18) (Shape.Idx.first h_S_)).toInt = (k : ℤ)
    rw [hc]
    exact toInt_ofNat_of_lt (by omega)
  · rfl
  · rfl

/-- The step's input row. -/
theorem v5_row {V : VAL} {k : ℕ} (hk : k < 4096) (hc : V (Proc.devRef .tc main_v3_18) = fun _ => BitVec.ofNat 32 k)
    (b : Fin 2) (i : Fin 1024) : res_main_while0b_v5 V (ix2 b i) = V (Proc.devRef .tc main_v3_0) (ix3 (⟨k, hk⟩ : Fin 4096) b i) := by
  unfold res_main_while0b_v5
  rw [Host.dynamicSlice_eq_extractStridedSlice _ _ _ ![k, 0, 0] _ (slices_at k hk) (start_at hk hc)]
  pointwise

/-- An array after its row `k` is replaced. -/
theorem update_at {α : Type} (x : S4096x2x1024.Idx → α) (upd : S1x2x1024.Idx → α) (start : Fin 3 → ℤ) (h) {k : ℕ} (hk : k < 4096)
    (hs : ∀ a, start a = ((![k, 0, 0] : Fin 3 → ℕ) a : ℤ)) (n : Fin 4096) (b : Fin 2) (o : Fin 1024) :
    Host.dynamicUpdateSlice x upd start h (ix3 n b o) = if n.val = k then upd (ix3 (0 : Fin 1) b o) else x (ix3 n b o) := by
  have hc : ∀ a, Host.clampedStart S4096x2x1024 S1x2x1024 h.1 start a = (![k, 0, 0] : Fin 3 → ℕ) a := fun a =>
    Host.clampedStart_of_le _ _ _ _ (hs a) ((slices_at k hk).2 a)
  rw [Host.dynamicUpdateSlice_apply]
  split
  · next hin =>
    have h0 := hin 0
    rw [hc 0] at h0
    have hn : n.val = k := by
      have h1 : k ≤ n.val := h0.1
      have h2 : n.val < k + 1 := h0.2
      omega
    rw [if_pos hn]
    congr 1
    funext a
    fin_cases a
    · apply Fin.ext; show n.val - Host.clampedStart S4096x2x1024 S1x2x1024 h.1 start 0 = 0; rw [hc 0]; show n.val - k = 0; omega
    · apply Fin.ext; show b.val - Host.clampedStart S4096x2x1024 S1x2x1024 h.1 start 1 = b.val; rw [hc 1]; rfl
    · apply Fin.ext; show o.val - Host.clampedStart S4096x2x1024 S1x2x1024 h.1 start 2 = o.val; rw [hc 2]; rfl
  · next hin =>
    rw [if_neg]
    intro hn
    refine hin fun a => ?_
    rw [hc a]
    fin_cases a
    · show k ≤ n.val ∧ n.val < k + 1; omega
    · show 0 ≤ b.val ∧ b.val < 0 + 2; omega
    · show 0 ≤ o.val ∧ o.val < 0 + 1024; omega

/-- The outputs after a step. -/
theorem ys_row {V : VAL} {k : ℕ} (hk : k < 4096) (hc : V (Proc.devRef .tc main_v3_18) = fun _ => BitVec.ofNat 32 k)
    (n : Fin 4096) (b : Fin 2) (o : Fin 1024) : step_main_v3_23 V (ix3 n b o)
      = if n.val = k then nrm (fun k => V (Proc.devRef .tc main_v3_17) (ix1 k)) (fun i => res_main_while0b_v157 V (ix2 b i)) o
        else V (Proc.devRef .tc main_v3_23) (ix3 n b o) := by
  unfold step_main_v3_23
  refine (update_at _ _ _ _ hk (start_at hk hc) n b o).trans ?_
  split
  · pointwise
    rfl
  · rfl

/-! # The loop: what is carried after `k` steps -/

/-- The carried buffers after `k` steps along the sequences `X`. -/
structure At (V : VAL) (k : ℕ) (X : Fin 2 → ℕ → Fin 1024 → EReal) (K L : Layer) (wf : Fin 1024 → EReal) : Prop where
  x : ∀ (n : Fin 4096) (b : Fin 2) (i : Fin 1024), V (Proc.devRef .tc main_v3_0) (ix3 n b i) = X b n.val i
  pw : (fun k => V (Proc.devRef .tc main_v3_1) (ix1 k)) = K.w
  pWi : (fun k j => V (Proc.devRef .tc main_v3_2) (ix2 k j)) = K.Wi
  pa : ∀ j, V (Proc.devRef .tc main_v3_3) (ix1 j) = K.a j
  ps : ∀ j, V (Proc.devRef .tc main_v3_4) (ix1 j) = K.s j
  pB : (fun j k => V (Proc.devRef .tc main_v3_5) (ix2 j k)) = K.B
  pC : (fun k i => V (Proc.devRef .tc main_v3_6) (ix2 k i)) = K.C
  pD : (fun k => V (Proc.devRef .tc main_v3_7) (ix1 k)) = K.D
  pWo : (fun k o => V (Proc.devRef .tc main_v3_8) (ix2 k o)) = K.Wo
  qw : (fun k => V (Proc.devRef .tc main_v3_9) (ix1 k)) = L.w
  qWi : (fun k j => V (Proc.devRef .tc main_v3_10) (ix2 k j)) = L.Wi
  qa : ∀ j, V (Proc.devRef .tc main_v3_11) (ix1 j) = L.a j
  qs : ∀ j, V (Proc.devRef .tc main_v3_12) (ix1 j) = L.s j
  qB : (fun j k => V (Proc.devRef .tc main_v3_13) (ix2 j k)) = L.B
  qC : (fun k i => V (Proc.devRef .tc main_v3_14) (ix2 k i)) = L.C
  qD : (fun k => V (Proc.devRef .tc main_v3_15) (ix1 k)) = L.D
  qWo : (fun k o => V (Proc.devRef .tc main_v3_16) (ix2 k o)) = L.Wo
  hf : (fun k => V (Proc.devRef .tc main_v3_17) (ix1 k)) = wf
  ctr : V (Proc.devRef .tc main_v3_18) = fun _ => BitVec.ofNat 32 k
  p1 : ∀ (b : Fin 2) (j : Fin 128), V (Proc.devRef .tc main_v3_19) (ix2 b j) = (K.st (X b) k j).1
  p2 : ∀ (b : Fin 2) (j : Fin 128), V (Proc.devRef .tc main_v3_20) (ix2 b j) = (K.st (X b) k j).2
  q1 : ∀ (b : Fin 2) (j : Fin 128), V (Proc.devRef .tc main_v3_21) (ix2 b j) = (L.st (K.out (X b)) k j).1
  q2 : ∀ (b : Fin 2) (j : Fin 128), V (Proc.devRef .tc main_v3_22) (ix2 b j) = (L.st (K.out (X b)) k j).2
  ys : ∀ (n : Fin 4096) (b : Fin 2) (o : Fin 1024), n.val < k → V (Proc.devRef .tc main_v3_23) (ix3 n b o) = nrm wf (L.out (K.out (X b)) n.val) o

section Step

variable {V : VAL} {k : ℕ} {X : Fin 2 → ℕ → Fin 1024 → EReal} {K L : Layer} {wf : Fin 1024 → EReal}

theorem At.v5 (h : At V k X K L wf) (hk : k < 4096) (b : Fin 2) : (fun i => res_main_while0b_v5 V (ix2 b i)) = X b k :=
  funext fun i => (v5_row hk h.ctr b i).trans (h.x _ b i)
theorem At.v37 (h : At V k X K L wf) (hk : k < 4096) (b : Fin 2) (j : Fin 128) :
    res_main_while0b_v37 V (ix2 b j) = K.bu (X b) j k := by
  rw [v37_row, h.v5 hk b, h.pw, h.pWi, h.pB]
  rfl
theorem At.s19 (h : At V k X K L wf) (hk : k < 4096) (b : Fin 2) (j : Fin 128) :
    step_main_v3_19 V (ix2 b j) = (K.st (X b) (k + 1) j).1 := by
  rw [s19_row, h.v37 hk b j, h.pa, h.ps, h.p1, h.p2]
  rfl
theorem At.v71 (h : At V k X K L wf) (hk : k < 4096) (b : Fin 2) :
    (fun j => res_main_while0b_v71 V (ix2 b j)) = fun j => (K.st (X b) (k + 1) j).2 := by
  funext j
  rw [v71_row, h.v37 hk b j, h.pa, h.ps, h.p1, h.p2]
  rfl
theorem At.v81 (h : At V k X K L wf) (hk : k < 4096) (b : Fin 2) :
    (fun o => res_main_while0b_v81 V (ix2 b o)) = K.out (X b) k := by
  funext o
  rw [v81_row, h.v5 hk b, h.v71 hk b, h.pw, h.pWi, h.pC, h.pD, h.pWo]
  rfl
theorem At.v113 (h : At V k X K L wf) (hk : k < 4096) (b : Fin 2) (j : Fin 128) :
    res_main_while0b_v113 V (ix2 b j) = L.bu (K.out (X b)) j k := by
  rw [v113_row, h.v81 hk b, h.qw, h.qWi, h.qB]
  rfl
theorem At.s21 (h : At V k X K L wf) (hk : k < 4096) (b : Fin 2) (j : Fin 128) :
    step_main_v3_21 V (ix2 b j) = (L.st (K.out (X b)) (k + 1) j).1 := by
  rw [s21_row, h.v113 hk b j, h.qa, h.qs, h.q1, h.q2]
  rfl
theorem At.v147 (h : At V k X K L wf) (hk : k < 4096) (b : Fin 2) :
    (fun j => res_main_while0b_v147 V (ix2 b j)) = fun j => (L.st (K.out (X b)) (k + 1) j).2 := by
  funext j
  rw [v147_row, h.v113 hk b j, h.qa, h.qs, h.q1, h.q2]
  rfl
theorem At.v157 (h : At V k X K L wf) (hk : k < 4096) (b : Fin 2) :
    (fun o => res_main_while0b_v157 V (ix2 b o)) = L.out (K.out (X b)) k := by
  funext o
  rw [v157_row, h.v81 hk b, h.v147 hk b, h.qw, h.qWi, h.qC, h.qD, h.qWo]
  rfl

theorem At.step (h : At V k X K L wf) (hk : k < 4096) : At (STEP V) (k + 1) X K L wf where
  x n b i := (congrFun (STEP_main_v3_0 V) (ix3 n b i)).trans (h.x n b i)
  pw := (funext fun k => congrFun (STEP_main_v3_1 V) (ix1 k)).trans h.pw
  pWi := (funext fun k => funext fun j => congrFun (STEP_main_v3_2 V) (ix2 k j)).trans h.pWi
  pa j := (congrFun (STEP_main_v3_3 V) (ix1 j)).trans (h.pa j)
  ps j := (congrFun (STEP_main_v3_4 V) (ix1 j)).trans (h.ps j)
  pB := (funext fun k => funext fun j => congrFun (STEP_main_v3_5 V) (ix2 k j)).trans h.pB
  pC := (funext fun k => funext fun j => congrFun (STEP_main_v3_6 V) (ix2 k j)).trans h.pC
  pD := (funext fun k => congrFun (STEP_main_v3_7 V) (ix1 k)).trans h.pD
  pWo := (funext fun k => funext fun j => congrFun (STEP_main_v3_8 V) (ix2 k j)).trans h.pWo
  qw := (funext fun k => congrFun (STEP_main_v3_9 V) (ix1 k)).trans h.qw
  qWi := (funext fun k => funext fun j => congrFun (STEP_main_v3_10 V) (ix2 k j)).trans h.qWi
  qa j := (congrFun (STEP_main_v3_11 V) (ix1 j)).trans (h.qa j)
  qs j := (congrFun (STEP_main_v3_12 V) (ix1 j)).trans (h.qs j)
  qB := (funext fun k => funext fun j => congrFun (STEP_main_v3_13 V) (ix2 k j)).trans h.qB
  qC := (funext fun k => funext fun j => congrFun (STEP_main_v3_14 V) (ix2 k j)).trans h.qC
  qD := (funext fun k => congrFun (STEP_main_v3_15 V) (ix1 k)).trans h.qD
  qWo := (funext fun k => funext fun j => congrFun (STEP_main_v3_16 V) (ix2 k j)).trans h.qWo
  hf := (funext fun k => congrFun (STEP_main_v3_17 V) (ix1 k)).trans h.hf
  ctr := by
    rw [STEP_main_v3_18]
    unfold step_main_v3_18
    rw [h.ctr]
    funext i
    show BitVec.ofNat 32 k + 1#32 = BitVec.ofNat 32 (k + 1)
    exact (BitVec.ofNat_add k 1).symm
  p1 b j := (congrFun (STEP_main_v3_19 V) (ix2 b j)).trans (h.s19 hk b j)
  p2 b j := (congrFun (STEP_main_v3_20 V) (ix2 b j)).trans (congrFun (h.v71 hk b) j)
  q1 b j := (congrFun (STEP_main_v3_21 V) (ix2 b j)).trans (h.s21 hk b j)
  q2 b j := (congrFun (STEP_main_v3_22 V) (ix2 b j)).trans (congrFun (h.v147 hk b) j)
  ys n b o hn := by
    refine (congrFun (STEP_main_v3_23 V) (ix3 n b o)).trans ((ys_row hk h.ctr n b o).trans ?_)
    split
    · next e => rw [h.hf, h.v157 hk b, e]
    · exact h.ys n b o (by omega)

theorem At.iter (h : At V 0 X K L wf) : ∀ k ≤ 4096, At (STEP^[k] V) k X K L wf
  | 0, _ => h
  | k + 1, hk => by
    rw [Function.iterate_succ_apply']
    exact (At.iter h k (by omega)).step (by omega)

end Step

/-! # The loop's entry -/

variable (m : (ℓ : Loc nD τ sig) → Buf (Elt Idealize.ShloMosaic.Ideal) ℓ) (c : Dev nD)

/-- The first layer's weights. -/
def lay0 : Layer := layerOf (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8))
/-- The second layer's weights. -/
def lay1 : Layer := layerOf (m ((c.tc : Thread nD τ).loc main_arg9)) (m ((c.tc : Thread nD τ).loc main_arg10)) (m ((c.tc : Thread nD τ).loc main_arg11))
  (m ((c.tc : Thread nD τ).loc main_arg12)) (m ((c.tc : Thread nD τ).loc main_arg13)) (m ((c.tc : Thread nD τ).loc main_arg14))
  (m ((c.tc : Thread nD τ).loc main_arg15)) (m ((c.tc : Thread nD τ).loc main_arg16))

theorem entry_1 : entryContents preI m c (Proc.devRef .tc main_v3_1) = m ((c.tc : Thread nD τ).loc main_arg1) := by
  simp only [entryContents, afterL_cons, afterL_nil]
  after_reads_simp
  rfl
theorem entry_2 : entryContents preI m c (Proc.devRef .tc main_v3_2) = m ((c.tc : Thread nD τ).loc main_arg2) := by
  simp only [entryContents, afterL_cons, afterL_nil]
  after_reads_simp
  rfl
theorem entry_3 : entryContents preI m c (Proc.devRef .tc main_v3_3) = m ((c.tc : Thread nD τ).loc main_arg3) := by
  simp only [entryContents, afterL_cons, afterL_nil]
  after_reads_simp
  rfl
theorem entry_4 : entryContents preI m c (Proc.devRef .tc main_v3_4) = m ((c.tc : Thread nD τ).loc main_arg4) := by
  simp only [entryContents, afterL_cons, afterL_nil]
  after_reads_simp
  rfl
theorem entry_5 : entryContents preI m c (Proc.devRef .tc main_v3_5) = m ((c.tc : Thread nD τ).loc main_arg5) := by
  simp only [entryContents, afterL_cons, afterL_nil]
  after_reads_simp
  rfl
theorem entry_6 : entryContents preI m c (Proc.devRef .tc main_v3_6) = m ((c.tc : Thread nD τ).loc main_arg6) := by
  simp only [entryContents, afterL_cons, afterL_nil]
  after_reads_simp
  rfl
theorem entry_7 : entryContents preI m c (Proc.devRef .tc main_v3_7) = m ((c.tc : Thread nD τ).loc main_arg7) := by
  simp only [entryContents, afterL_cons, afterL_nil]
  after_reads_simp
  rfl
theorem entry_8 : entryContents preI m c (Proc.devRef .tc main_v3_8) = m ((c.tc : Thread nD τ).loc main_arg8) := by
  simp only [entryContents, afterL_cons, afterL_nil]
  after_reads_simp
  rfl
theorem entry_9 : entryContents preI m c (Proc.devRef .tc main_v3_9) = m ((c.tc : Thread nD τ).loc main_arg9) := by
  simp only [entryContents, afterL_cons, afterL_nil]
  after_reads_simp
  rfl
theorem entry_10 : entryContents preI m c (Proc.devRef .tc main_v3_10) = m ((c.tc : Thread nD τ).loc main_arg10) := by
  simp only [entryContents, afterL_cons, afterL_nil]
  after_reads_simp
  rfl
theorem entry_11 : entryContents preI m c (Proc.devRef .tc main_v3_11) = m ((c.tc : Thread nD τ).loc main_arg11) := by
  simp only [entryContents, afterL_cons, afterL_nil]
  after_reads_simp
  rfl
theorem entry_12 : entryContents preI m c (Proc.devRef .tc main_v3_12) = m ((c.tc : Thread nD τ).loc main_arg12) := by
  simp only [entryContents, afterL_cons, afterL_nil]
  after_reads_simp
  rfl
theorem entry_13 : entryContents preI m c (Proc.devRef .tc main_v3_13) = m ((c.tc : Thread nD τ).loc main_arg13) := by
  simp only [entryContents, afterL_cons, afterL_nil]
  after_reads_simp
  rfl
theorem entry_14 : entryContents preI m c (Proc.devRef .tc main_v3_14) = m ((c.tc : Thread nD τ).loc main_arg14) := by
  simp only [entryContents, afterL_cons, afterL_nil]
  after_reads_simp
  rfl
theorem entry_15 : entryContents preI m c (Proc.devRef .tc main_v3_15) = m ((c.tc : Thread nD τ).loc main_arg15) := by
  simp only [entryContents, afterL_cons, afterL_nil]
  after_reads_simp
  rfl
theorem entry_16 : entryContents preI m c (Proc.devRef .tc main_v3_16) = m ((c.tc : Thread nD τ).loc main_arg16) := by
  simp only [entryContents, afterL_cons, afterL_nil]
  after_reads_simp
  rfl
theorem entry_17 : entryContents preI m c (Proc.devRef .tc main_v3_17) = m ((c.tc : Thread nD τ).loc main_arg17) := by
  simp only [entryContents, afterL_cons, afterL_nil]
  after_reads_simp
  rfl
theorem entry_0 (n : Fin 4096) (b : Fin 2) (i : Fin 1024) :
    entryContents preI m c (Proc.devRef .tc main_v3_0) (ix3 n b i) = m ((c.tc : Thread nD τ).loc main_arg0) (ix3 b n i) := by
  simp only [entryContents, afterL_cons, afterL_nil]
  after_reads_simp
  pointwise [id]
  try rfl
theorem entry_19 (b : Fin 2) (j : Fin 128) : entryContents preI m c (Proc.devRef .tc main_v3_19) (ix2 b j) = (0 : EReal) := by
  simp only [entryContents, afterL_cons, afterL_nil]
  after_reads_simp
  pointwise [id]
  try rfl
theorem entry_20 (b : Fin 2) (j : Fin 128) : entryContents preI m c (Proc.devRef .tc main_v3_20) (ix2 b j) = (0 : EReal) := by
  simp only [entryContents, afterL_cons, afterL_nil]
  after_reads_simp
  pointwise [id]
  try rfl
theorem entry_21 (b : Fin 2) (j : Fin 128) : entryContents preI m c (Proc.devRef .tc main_v3_21) (ix2 b j) = (0 : EReal) := by
  simp only [entryContents, afterL_cons, afterL_nil]
  after_reads_simp
  pointwise [id]
  try rfl
theorem entry_22 (b : Fin 2) (j : Fin 128) : entryContents preI m c (Proc.devRef .tc main_v3_22) (ix2 b j) = (0 : EReal) := by
  simp only [entryContents, afterL_cons, afterL_nil]
  after_reads_simp
  pointwise [id]
  try rfl

theorem at_entry : At (entryContents preI m c) 0 (fun b => seqOf (m ((c.tc : Thread nD τ).loc main_arg0)) b) (lay0 m c) (lay1 m c)
    (fun k => (m ((c.tc : Thread nD τ).loc main_arg17) : (⟨1, ![1024]⟩ : Shape).Idx → EReal) (ix1 k)) where
  x n b i := by
    refine (entry_0 m c n b i).trans ?_
    unfold seqOf
    rw [show (⟨n.val % 4096, Nat.mod_lt _ (by decide)⟩ : Fin 4096) = n from Fin.ext (Nat.mod_eq_of_lt n.isLt)]
  pw := funext fun k => congrFun (entry_1 m c) (ix1 k)
  pWi := funext fun k => funext fun j => congrFun (entry_2 m c) (ix2 k j)
  pa j := congrFun (entry_3 m c) (ix1 j)
  ps j := congrFun (entry_4 m c) (ix1 j)
  pB := funext fun k => funext fun j => congrFun (entry_5 m c) (ix2 k j)
  pC := funext fun k => funext fun j => congrFun (entry_6 m c) (ix2 k j)
  pD := funext fun k => congrFun (entry_7 m c) (ix1 k)
  pWo := funext fun k => funext fun j => congrFun (entry_8 m c) (ix2 k j)
  qw := funext fun k => congrFun (entry_9 m c) (ix1 k)
  qWi := funext fun k => funext fun j => congrFun (entry_10 m c) (ix2 k j)
  qa j := congrFun (entry_11 m c) (ix1 j)
  qs j := congrFun (entry_12 m c) (ix1 j)
  qB := funext fun k => funext fun j => congrFun (entry_13 m c) (ix2 k j)
  qC := funext fun k => funext fun j => congrFun (entry_14 m c) (ix2 k j)
  qD := funext fun k => congrFun (entry_15 m c) (ix1 k)
  qWo := funext fun k => funext fun j => congrFun (entry_16 m c) (ix2 k j)
  hf := funext fun k => congrFun (entry_17 m c) (ix1 k)
  ctr := ctr_entry m c
  p1 b j := entry_19 m c b j
  p2 b j := entry_20 m c b j
  q1 b j := entry_21 m c b j
  q2 b j := entry_22 m c b j
  ys n b o hn := absurd hn (Nat.not_lt_zero _)

/-- The reference's value. -/
theorem reference_value (b : Fin 2) (t : Fin 4096) (o : Fin 1024) :
    out_main_v4 (STEP^[4096] (entryContents preI m c)) (ix3 b t o)
      = result (m ((c.tc : Thread nD τ).loc main_arg0)) (lay0 m c) (lay1 m c) (m ((c.tc : Thread nD τ).loc main_arg17)) b t o := by
  unfold out_main_v4
  generalize hV : STEP^[4096] (entryContents preI m c) = V
  have h := (at_entry m c).iter 4096 le_rfl
  rw [hV] at h
  pointwise
  exact h.ys t b o t.isLt

end Cert.ReferenceIdeal.Value
-- ==== Proof.M.Agree.lean ====
/- The kernel's result and the reference's are the same array. -/
module

public import proofs.«01_k».proof.Defs
public import proofs.«01_k».proof.Proof.M.Chain
public import proofs.«01_k».proof.Proof.M.RefIter

@[expose] public section

noncomputable section

namespace Cert.Proof

open Idealize.ShloMosaic Idealize.ShloMosaic.TcCoe Idealize.ShloMosaic.StableHlo Idealize.SL.Sem

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

theorem values_agree (g : Dev Cert.KernelIdeal.nD → PrngReg) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.out_main_v4 (Cert.ReferenceIdeal.Value.STEP^[4096] (entryContents Cert.ReferenceIdeal.Value.preI m' c))
      = Cert.KernelIdeal.Own.W7 m g c (Proc.devRef .tc Cert.KernelIdeal.main_v17) := by
  obtain ⟨a0, a1, a2, a3, a4, a5, a6, a7, a8, a9, a10, a11, a12, a13, a14, a15, a16, a17⟩ := h
  have e0 : Cert.ReferenceIdeal.Value.lay0 m' c = Cert.KernelIdeal.Own.lay0 m c := by
    simp only [Cert.ReferenceIdeal.Value.lay0, Cert.KernelIdeal.Own.lay0, a1, a2, a3, a4, a5, a6, a7, a8]
  have e1 : Cert.ReferenceIdeal.Value.lay1 m' c = Cert.KernelIdeal.Own.lay1 m c := by
    simp only [Cert.ReferenceIdeal.Value.lay1, Cert.KernelIdeal.Own.lay1, a9, a10, a11, a12, a13, a14, a15, a16]
  funext i
  rw [eq_ix3 (n0 := 2) (n1 := 4096) (n2 := 1024) i]
  refine (Cert.ReferenceIdeal.Value.reference_value m' c _ _ _).trans (Eq.trans ?_ (Cert.KernelIdeal.Own.kernel_value m g c _ _ _).symm)
  rw [e0, e1, a0, a17]

end Cert.Proof

end
-- ==== Proof.M.FrameKernel.lean ====
/- The frame of the kernel. The kernel and its idealization are the same program read at two instances, and the
   runs in `K` hold for any float values, so the frame at bits is the one proved there. -/
module

public import proofs.«01_k».proof.Defs
public import proofs.«01_k».proof.Proof.Gen.Kernel
public import proofs.«01_k».proof.Proof.Gen.KernelIdeal
public import proofs.«01_k».proof.Proof.K.Run

@[expose] public section

-- the two sides of each equality name their buffers in two namespaces, which only unfolding shows to be the same
set_option backward.isDefEq.respectTransparency.types false
set_option maxRecDepth 100000
set_option maxHeartbeats 8000000

noncomputable section

namespace Cert.Proof

open Idealize.ShloMosaic Idealize.ShloMosaic.TcCoe Idealize.SL.Sem

/-- The two programs' kernels have the same bodies: no operation is rewritten. -/
theorem defs₀_eq : Cert.Kernel.defs₀ (F := Bits) = Cert.KernelIdeal.defs₀ (F := Bits) :=
  congrArg Defs.onTc (funext fun l => funext fun a => match l, a with
    | 0, (_, _) => rfl
    | 1, (_, _) => rfl
    | 2, (_, _) => rfl
    | ⟨_ + 3, h⟩, _ => absurd h (Nat.not_lt.2 (Nat.le_add_left _ _)))

theorem main_eq : Cert.Kernel.main (F := Bits) = Cert.KernelIdeal.main (F := Bits) := rfl

theorem defs_eq : Cert.Kernel.defs (F := Bits) = Cert.KernelIdeal.defs (F := Bits) :=
  congrArg (Pipeline.defs (Cert.KernelIdeal.pcfgs (F := Bits))) defs₀_eq

/-- The runs of the idealization are proved for any float values; at bits they are the kernel's. -/
theorem kernel_frame : Cert.quiescent_Kernel (hKernel := Cert.Kernel.Gen.facts) := by
  intro m g _
  have h := Cert.KernelIdeal.Own.frame (F := Bits) m g
  rw [← main_eq, ← defs_eq] at h
  exact h

end Cert.Proof

end
-- ==== Proof.M.FrameReference.lean ====
/- The frame of the reference at bits. The reference and its idealization are the same program, and the run of
   the latter holds for any float values. -/
module

public import proofs.«01_k».proof.Defs
public import proofs.«01_k».proof.Proof.Gen.ReferenceIdeal
public import proofs.«01_k».proof.Proof.Gen.ReferenceIdeal.Run

@[expose] public section

-- the two sides of each equality name their buffers in two namespaces, which only unfolding shows to be the same
set_option backward.isDefEq.respectTransparency.types false
set_option maxRecDepth 100000
set_option maxHeartbeats 8000000

noncomputable section

namespace Cert.Proof

open Idealize.ShloMosaic Idealize.ShloMosaic.TcCoe Idealize.SL.Sem

/-- The side conditions of the reference are those of its idealization. -/
theorem facts₀R : Cert.Reference.Facts₀ where
  bcast_S_S2x128 := Cert.ReferenceIdeal.Gen.bcast_S_S2x128
  transposes_S2x4096x1024_S4096x2x1024_1_0_2 := Cert.ReferenceIdeal.Gen.transposes_S2x4096x1024_S4096x2x1024_1_0_2
  bcast_S_S4096x2x1024 := Cert.ReferenceIdeal.Gen.bcast_S_S4096x2x1024
  sliceFits_S4096x2x1024_S1x2x1024 := Cert.ReferenceIdeal.Gen.sliceFits_S4096x2x1024_S1x2x1024
  h_S_ := Cert.ReferenceIdeal.Gen.h_S_
  shapeCasts_S1x2x1024_S2x1024 := Cert.ReferenceIdeal.Gen.shapeCasts_S1x2x1024_S2x1024
  reducesTo_S2x1024_S2_d1 := Cert.ReferenceIdeal.Gen.reducesTo_S2x1024_S2_d1
  bcast_S2_S2x1_0 := Cert.ReferenceIdeal.Gen.bcast_S2_S2x1_0
  bcast_S_S2x1 := Cert.ReferenceIdeal.Gen.bcast_S_S2x1
  bcast_S2x1_S2x1024_0_1 := Cert.ReferenceIdeal.Gen.bcast_S2x1_S2x1024_0_1
  bcast_S1024_S1x1024_1 := Cert.ReferenceIdeal.Gen.bcast_S1024_S1x1024_1
  bcast_S1x1024_S2x1024_0_1 := Cert.ReferenceIdeal.Gen.bcast_S1x1024_S2x1024_0_1
  slices_S2x4096_S2x2048_0_0 := Cert.ReferenceIdeal.Gen.slices_S2x4096_S2x2048_0_0
  slices_S2x4096_S2x2048_0_2048 := Cert.ReferenceIdeal.Gen.slices_S2x4096_S2x2048_0_2048
  bcast_S_S2x2048 := Cert.ReferenceIdeal.Gen.bcast_S_S2x2048
  bcast_S_S128 := Cert.ReferenceIdeal.Gen.bcast_S_S128
  transposes_S128x2048_S2048x128_1_0 := Cert.ReferenceIdeal.Gen.transposes_S128x2048_S2048x128_1_0
  bcast_S128_S1x128_1 := Cert.ReferenceIdeal.Gen.bcast_S128_S1x128_1
  bcast_S1x128_S2x128_0_1 := Cert.ReferenceIdeal.Gen.bcast_S1x128_S2x128_0_1
  transposes_S2048x128_S128x2048_1_0 := Cert.ReferenceIdeal.Gen.transposes_S2048x128_S128x2048_1_0
  bcast_S2048_S1x2048_1 := Cert.ReferenceIdeal.Gen.bcast_S2048_S1x2048_1
  bcast_S1x2048_S2x2048_0_1 := Cert.ReferenceIdeal.Gen.bcast_S1x2048_S2x2048_0_1
  bcast_S2x1024_S1x2x1024_1_2 := Cert.ReferenceIdeal.Gen.bcast_S2x1024_S1x2x1024_1_2
  updateFits_S4096x2x1024_S1x2x1024 := Cert.ReferenceIdeal.Gen.updateFits_S4096x2x1024_S1x2x1024
  transposes_S4096x2x1024_S2x4096x1024_1_0_2 := Cert.ReferenceIdeal.Gen.transposes_S4096x2x1024_S2x4096x1024_1_0_2
  dot_S2x1024_S1024x4096_S2x4096_1_0_0_1_n_n_wf := Cert.ReferenceIdeal.Gen.dot_S2x1024_S1024x4096_S2x4096_1_0_0_1_n_n_wf
  dot_S2x2048_S2048x128_S2x128_1_0_0_1_n_n_wf := Cert.ReferenceIdeal.Gen.dot_S2x2048_S2048x128_S2x128_1_0_0_1_n_n_wf
  dot_S2x128_S128x2048_S2x2048_1_0_0_1_n_n_wf := Cert.ReferenceIdeal.Gen.dot_S2x128_S128x2048_S2x2048_1_0_0_1_n_n_wf
  dot_S2x2048_S2048x1024_S2x1024_1_0_0_1_n_n_wf := Cert.ReferenceIdeal.Gen.dot_S2x2048_S2048x1024_S2x1024_1_0_0_1_n_n_wf
  main_while0_ok := Cert.ReferenceIdeal.Gen.main_while0_ok

theorem factsR : Cert.Reference.Facts where
  toFacts₀ := facts₀R

/-- The idealization's run, which holds for any float values, read at bits. -/
theorem reference_bits_frame : Cert.quiescent_Reference (hReference := factsR) :=
  fun m g _ => (θ_run _ _ _).mono (fun r h => ⟨fun c => (h c).2, sem_eq_zero_of_no_sems rfl r.2⟩) (Cert.ReferenceIdeal.Value.run (F := Bits) m g)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.M.Agree
public import proofs.«01_k».proof.Proof.M.FrameKernel
public import proofs.«01_k».proof.Proof.M.FrameReference

@[expose] public section

noncomputable section

namespace Cert.Proof

open Idealize.ShloMosaic Idealize.ShloMosaic.TcCoe Idealize.SL.Sem

/-- The reference's run keeps its arguments; the program has no semaphore, so every counter is at zero. -/
theorem reference_frame : Cert.quiescent_ReferenceIdeal (hReferenceIdeal := Cert.ReferenceIdeal.Gen.facts) :=
  fun m g _ => (θ_run _ _ _).mono (fun r h => ⟨fun c => (h c).2, sem_eq_zero_of_no_sems rfl r.2⟩) (Cert.ReferenceIdeal.Value.run m g)

theorem algebraic : Cert.algebraic_KernelIdeal_ReferenceIdeal (hKernelIdeal := Cert.KernelIdeal.Gen.facts) (hReferenceIdeal := Cert.ReferenceIdeal.Gen.facts) := by
  intro m g m' g' hp h
  refine ⟨fun c => Cert.KernelIdeal.Own.W7 m g c (Proc.devRef .tc Cert.KernelIdeal.main_v17),
    (θ_run _ _ _).mono (fun r hr c => ⟨hr.1 c _ (Cert.KernelIdeal.Own.mem_uc _ (by decide)), Cert.KernelIdeal.Own.args_kept m g c (hr.1 c)⟩)
      (Cert.KernelIdeal.Own.run_all m g),
    (θ_run _ _ _).mono (fun r hr c => ⟨(hr c).1.trans (values_agree g c (h c)),
      (hr c).2⟩) (Cert.ReferenceIdeal.Value.run m' g')⟩

theorem claim : Cert.Claim :=
  ⟨Cert.Kernel.Gen.facts, Cert.KernelIdeal.Gen.facts, factsR, Cert.ReferenceIdeal.Gen.facts,
    kernel_frame,
    fun m g _ => Cert.KernelIdeal.Own.frame m g,
    reference_bits_frame, reference_frame, trivial, trivial, algebraic⟩

end Cert.Proof

end
